-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_pages_in_pool : Cert.Pre_pages_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_in_pool [hPre_pages_in_pool : Cert.Pre_pages_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_ProjPrompt (m : (ℓ : Loc Cert.ProjPrompt.nD Cert.ProjPrompt.τ Cert.ProjPrompt.sig) → Buf (Elt Bits) ℓ) : Prop :=
  True

def Pre_ProjPromptIdeal (m : (ℓ : Loc Cert.ProjPromptIdeal.nD Cert.ProjPromptIdeal.τ Cert.ProjPromptIdeal.sig) → Buf (Elt Ideal) ℓ) : Prop :=
  True

def Pre_ProjPromptReferenceIdeal (m : (ℓ : Loc Cert.ProjPromptReferenceIdeal.nD Cert.ProjPromptReferenceIdeal.τ Cert.ProjPromptReferenceIdeal.sig) → Buf (Elt Ideal) ℓ) : Prop :=
  True

def Pre_KeysSample (m : (ℓ : Loc Cert.KeysSample.nD Cert.KeysSample.τ Cert.KeysSample.sig) → Buf (Elt Bits) ℓ) : Prop :=
  True

def Pre_KeysSampleIdeal (m : (ℓ : Loc Cert.KeysSampleIdeal.nD Cert.KeysSampleIdeal.τ Cert.KeysSampleIdeal.sig) → Buf (Elt Ideal) ℓ) : Prop :=
  True

def Pre_KeysSampleReferenceIdeal (m : (ℓ : Loc Cert.KeysSampleReferenceIdeal.nD Cert.KeysSampleReferenceIdeal.τ Cert.KeysSampleReferenceIdeal.sig) → Buf (Elt Ideal) ℓ) : Prop :=
  True

def Pre_ValuesSample (m : (ℓ : Loc Cert.ValuesSample.nD Cert.ValuesSample.τ Cert.ValuesSample.sig) → Buf (Elt Bits) ℓ) : Prop :=
  True

def Pre_ValuesSampleIdeal (m : (ℓ : Loc Cert.ValuesSampleIdeal.nD Cert.ValuesSampleIdeal.τ Cert.ValuesSampleIdeal.sig) → Buf (Elt Ideal) ℓ) : Prop :=
  True

def Pre_ValuesSampleReferenceIdeal (m : (ℓ : Loc Cert.ValuesSampleReferenceIdeal.nD Cert.ValuesSampleReferenceIdeal.τ Cert.ValuesSampleReferenceIdeal.sig) → Buf (Elt Ideal) ℓ) : Prop :=
  True

def Pre_MergePrompt (m : (ℓ : Loc Cert.MergePrompt.nD Cert.MergePrompt.τ Cert.MergePrompt.sig) → Buf (Elt Bits) ℓ) : Prop :=
  True

def Pre_MergePromptIdeal (m : (ℓ : Loc Cert.MergePromptIdeal.nD Cert.MergePromptIdeal.τ Cert.MergePromptIdeal.sig) → Buf (Elt Ideal) ℓ) : Prop :=
  True

def Pre_MergePromptReferenceIdeal (m : (ℓ : Loc Cert.MergePromptReferenceIdeal.nD Cert.MergePromptReferenceIdeal.τ Cert.MergePromptReferenceIdeal.sig) → Buf (Elt Ideal) ℓ) : Prop :=
  True

def Pre_ConvPrompt (m : (ℓ : Loc Cert.ConvPrompt.nD Cert.ConvPrompt.τ Cert.ConvPrompt.sig) → Buf (Elt Bits) ℓ) : Prop :=
  True

def Pre_ConvPromptIdeal (m : (ℓ : Loc Cert.ConvPromptIdeal.nD Cert.ConvPromptIdeal.τ Cert.ConvPromptIdeal.sig) → Buf (Elt Ideal) ℓ) : Prop :=
  True

def Pre_ConvPromptReferenceIdeal (m : (ℓ : Loc Cert.ConvPromptReferenceIdeal.nD Cert.ConvPromptReferenceIdeal.τ Cert.ConvPromptReferenceIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleReferenceIdeal (m : (ℓ : Loc Cert.ConvSampleReferenceIdeal.nD Cert.ConvSampleReferenceIdeal.τ Cert.ConvSampleReferenceIdeal.sig) → Buf (Elt Ideal) ℓ) : Prop :=
  True

def Pre_OutPrompt (m : (ℓ : Loc Cert.OutPrompt.nD Cert.OutPrompt.τ Cert.OutPrompt.sig) → Buf (Elt Bits) ℓ) : Prop :=
  True

def Pre_OutPromptIdeal (m : (ℓ : Loc Cert.OutPromptIdeal.nD Cert.OutPromptIdeal.τ Cert.OutPromptIdeal.sig) → Buf (Elt Ideal) ℓ) : Prop :=
  True

def Pre_OutPromptReferenceIdeal (m : (ℓ : Loc Cert.OutPromptReferenceIdeal.nD Cert.OutPromptReferenceIdeal.τ Cert.OutPromptReferenceIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleReferenceIdeal (m : (ℓ : Loc Cert.OutSampleReferenceIdeal.nD Cert.OutSampleReferenceIdeal.τ Cert.OutSampleReferenceIdeal.sig) → Buf (Elt Ideal) ℓ) : Prop :=
  True

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_pages_in_pool [hReferenceIdeal : Cert.ReferenceIdeal.Facts] [hPre_pages_in_pool : Cert.Pre_pages_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_in_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ProjPrompt [hProjPrompt : Cert.ProjPrompt.Facts] : Prop :=
  ∀ (m : (ℓ : Loc Cert.ProjPrompt.nD Cert.ProjPrompt.τ Cert.ProjPrompt.sig) → Buf (Elt Bits) ℓ) (g : Dev Cert.ProjPrompt.nD → PrngReg), Pre_ProjPrompt m →
    θ_run (Cert.ProjPrompt.defs (F := Bits)) (onTc (τ := Cert.ProjPrompt.τ) (Cert.ProjPrompt.main (F := Bits))) ⟨m, fun _ => 0, g⟩ (fun r => (∀ c : Dev Cert.ProjPrompt.nD,
      r.2.mem ((c.tc : Thread Cert.ProjPrompt.nD Cert.ProjPrompt.τ).loc Cert.ProjPrompt.main_arg0) = m ((c.tc : Thread Cert.ProjPrompt.nD Cert.ProjPrompt.τ).loc Cert.ProjPrompt.main_arg0)
      ∧ r.2.mem ((c.tc : Thread Cert.ProjPrompt.nD Cert.ProjPrompt.τ).loc Cert.ProjPrompt.main_arg1) = m ((c.tc : Thread Cert.ProjPrompt.nD Cert.ProjPrompt.τ).loc Cert.ProjPrompt.main_arg1))
      ∧ r.2.sem = fun _ => 0)

def quiescent_ProjPromptIdeal [hProjPromptIdeal : Cert.ProjPromptIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg), Pre_ProjPromptIdeal m →
    θ_run (Cert.ProjPromptIdeal.defs (F := Ideal)) (onTc (τ := Cert.ProjPromptIdeal.τ) (Cert.ProjPromptIdeal.main (F := Ideal))) ⟨m, fun _ => 0, g⟩ (fun r => (∀ c : Dev Cert.ProjPromptIdeal.nD,
      r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
      ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1))
      ∧ r.2.sem = fun _ => 0)

def quiescent_ProjPromptReferenceIdeal [hProjPromptReferenceIdeal : Cert.ProjPromptReferenceIdeal.Facts] : Prop :=
  ∀ (m : (ℓ : Loc Cert.ProjPromptReferenceIdeal.nD Cert.ProjPromptReferenceIdeal.τ Cert.ProjPromptReferenceIdeal.sig) → Buf (Elt Ideal) ℓ) (g : Dev Cert.ProjPromptReferenceIdeal.nD → PrngReg), Pre_ProjPromptReferenceIdeal m →
    θ_run (Cert.ProjPromptReferenceIdeal.defs (F := Ideal)) (onTc (τ := Cert.ProjPromptReferenceIdeal.τ) (Cert.ProjPromptReferenceIdeal.main (F := Ideal))) ⟨m, fun _ => 0, g⟩ (fun r => (∀ c : Dev Cert.ProjPromptReferenceIdeal.nD,
      r.2.mem ((c.tc : Thread Cert.ProjPromptReferenceIdeal.nD Cert.ProjPromptReferenceIdeal.τ).loc Cert.ProjPromptReferenceIdeal.main_arg0) = m ((c.tc : Thread Cert.ProjPromptReferenceIdeal.nD Cert.ProjPromptReferenceIdeal.τ).loc Cert.ProjPromptReferenceIdeal.main_arg0)
      ∧ r.2.mem ((c.tc : Thread Cert.ProjPromptReferenceIdeal.nD Cert.ProjPromptReferenceIdeal.τ).loc Cert.ProjPromptReferenceIdeal.main_arg1) = m ((c.tc : Thread Cert.ProjPromptReferenceIdeal.nD Cert.ProjPromptReferenceIdeal.τ).loc Cert.ProjPromptReferenceIdeal.main_arg1))
      ∧ r.2.sem = fun _ => 0)

def quiescent_KeysSample [hKeysSample : Cert.KeysSample.Facts] : Prop :=
  ∀ (m : (ℓ : Loc Cert.KeysSample.nD Cert.KeysSample.τ Cert.KeysSample.sig) → Buf (Elt Bits) ℓ) (g : Dev Cert.KeysSample.nD → PrngReg), Pre_KeysSample m →
    θ_run (Cert.KeysSample.defs (F := Bits)) (onTc (τ := Cert.KeysSample.τ) (Cert.KeysSample.main (F := Bits))) ⟨m, fun _ => 0, g⟩ (fun r => (∀ c : Dev Cert.KeysSample.nD,
      r.2.mem ((c.tc : Thread Cert.KeysSample.nD Cert.KeysSample.τ).loc Cert.KeysSample.main_arg0) = m ((c.tc : Thread Cert.KeysSample.nD Cert.KeysSample.τ).loc Cert.KeysSample.main_arg0)
      ∧ r.2.mem ((c.tc : Thread Cert.KeysSample.nD Cert.KeysSample.τ).loc Cert.KeysSample.main_arg1) = m ((c.tc : Thread Cert.KeysSample.nD Cert.KeysSample.τ).loc Cert.KeysSample.main_arg1))
      ∧ r.2.sem = fun _ => 0)

def quiescent_KeysSampleIdeal [hKeysSampleIdeal : Cert.KeysSampleIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg), Pre_KeysSampleIdeal m →
    θ_run (Cert.KeysSampleIdeal.defs (F := Ideal)) (onTc (τ := Cert.KeysSampleIdeal.τ) (Cert.KeysSampleIdeal.main (F := Ideal))) ⟨m, fun _ => 0, g⟩ (fun r => (∀ c : Dev Cert.KeysSampleIdeal.nD,
      r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
      ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1))
      ∧ r.2.sem = fun _ => 0)

def quiescent_KeysSampleReferenceIdeal [hKeysSampleReferenceIdeal : Cert.KeysSampleReferenceIdeal.Facts] : Prop :=
  ∀ (m : (ℓ : Loc Cert.KeysSampleReferenceIdeal.nD Cert.KeysSampleReferenceIdeal.τ Cert.KeysSampleReferenceIdeal.sig) → Buf (Elt Ideal) ℓ) (g : Dev Cert.KeysSampleReferenceIdeal.nD → PrngReg), Pre_KeysSampleReferenceIdeal m →
    θ_run (Cert.KeysSampleReferenceIdeal.defs (F := Ideal)) (onTc (τ := Cert.KeysSampleReferenceIdeal.τ) (Cert.KeysSampleReferenceIdeal.main (F := Ideal))) ⟨m, fun _ => 0, g⟩ (fun r => (∀ c : Dev Cert.KeysSampleReferenceIdeal.nD,
      r.2.mem ((c.tc : Thread Cert.KeysSampleReferenceIdeal.nD Cert.KeysSampleReferenceIdeal.τ).loc Cert.KeysSampleReferenceIdeal.main_arg0) = m ((c.tc : Thread Cert.KeysSampleReferenceIdeal.nD Cert.KeysSampleReferenceIdeal.τ).loc Cert.KeysSampleReferenceIdeal.main_arg0)
      ∧ r.2.mem ((c.tc : Thread Cert.KeysSampleReferenceIdeal.nD Cert.KeysSampleReferenceIdeal.τ).loc Cert.KeysSampleReferenceIdeal.main_arg1) = m ((c.tc : Thread Cert.KeysSampleReferenceIdeal.nD Cert.KeysSampleReferenceIdeal.τ).loc Cert.KeysSampleReferenceIdeal.main_arg1))
      ∧ r.2.sem = fun _ => 0)

def quiescent_ValuesSample [hValuesSample : Cert.ValuesSample.Facts] : Prop :=
  ∀ (m : (ℓ : Loc Cert.ValuesSample.nD Cert.ValuesSample.τ Cert.ValuesSample.sig) → Buf (Elt Bits) ℓ) (g : Dev Cert.ValuesSample.nD → PrngReg), Pre_ValuesSample m →
    θ_run (Cert.ValuesSample.defs (F := Bits)) (onTc (τ := Cert.ValuesSample.τ) (Cert.ValuesSample.main (F := Bits))) ⟨m, fun _ => 0, g⟩ (fun r => (∀ c : Dev Cert.ValuesSample.nD,
      r.2.mem ((c.tc : Thread Cert.ValuesSample.nD Cert.ValuesSample.τ).loc Cert.ValuesSample.main_arg0) = m ((c.tc : Thread Cert.ValuesSample.nD Cert.ValuesSample.τ).loc Cert.ValuesSample.main_arg0)
      ∧ r.2.mem ((c.tc : Thread Cert.ValuesSample.nD Cert.ValuesSample.τ).loc Cert.ValuesSample.main_arg1) = m ((c.tc : Thread Cert.ValuesSample.nD Cert.ValuesSample.τ).loc Cert.ValuesSample.main_arg1))
      ∧ r.2.sem = fun _ => 0)

def quiescent_ValuesSampleIdeal [hValuesSampleIdeal : Cert.ValuesSampleIdeal.Facts] : Prop :=
  ∀ (m : (ℓ : Loc Cert.ValuesSampleIdeal.nD Cert.ValuesSampleIdeal.τ Cert.ValuesSampleIdeal.sig) → Buf (Elt Ideal) ℓ) (g : Dev Cert.ValuesSampleIdeal.nD → PrngReg), Pre_ValuesSampleIdeal m →
    θ_run (Cert.ValuesSampleIdeal.defs (F := Ideal)) (onTc (τ := Cert.ValuesSampleIdeal.τ) (Cert.ValuesSampleIdeal.main (F := Ideal))) ⟨m, fun _ => 0, g⟩ (fun r => (∀ c : Dev Cert.ValuesSampleIdeal.nD,
      r.2.mem ((c.tc : Thread Cert.ValuesSampleIdeal.nD Cert.ValuesSampleIdeal.τ).loc Cert.ValuesSampleIdeal.main_arg0) = m ((c.tc : Thread Cert.ValuesSampleIdeal.nD Cert.ValuesSampleIdeal.τ).loc Cert.ValuesSampleIdeal.main_arg0)
      ∧ r.2.mem ((c.tc : Thread Cert.ValuesSampleIdeal.nD Cert.ValuesSampleIdeal.τ).loc Cert.ValuesSampleIdeal.main_arg1) = m ((c.tc : Thread Cert.ValuesSampleIdeal.nD Cert.ValuesSampleIdeal.τ).loc Cert.ValuesSampleIdeal.main_arg1))
      ∧ r.2.sem = fun _ => 0)

def quiescent_ValuesSampleReferenceIdeal [hValuesSampleReferenceIdeal : Cert.ValuesSampleReferenceIdeal.Facts] : Prop :=
  ∀ (m : (ℓ : Loc Cert.ValuesSampleReferenceIdeal.nD Cert.ValuesSampleReferenceIdeal.τ Cert.ValuesSampleReferenceIdeal.sig) → Buf (Elt Ideal) ℓ) (g : Dev Cert.ValuesSampleReferenceIdeal.nD → PrngReg), Pre_ValuesSampleReferenceIdeal m →
    θ_run (Cert.ValuesSampleReferenceIdeal.defs (F := Ideal)) (onTc (τ := Cert.ValuesSampleReferenceIdeal.τ) (Cert.ValuesSampleReferenceIdeal.main (F := Ideal))) ⟨m, fun _ => 0, g⟩ (fun r => (∀ c : Dev Cert.ValuesSampleReferenceIdeal.nD,
      r.2.mem ((c.tc : Thread Cert.ValuesSampleReferenceIdeal.nD Cert.ValuesSampleReferenceIdeal.τ).loc Cert.ValuesSampleReferenceIdeal.main_arg0) = m ((c.tc : Thread Cert.ValuesSampleReferenceIdeal.nD Cert.ValuesSampleReferenceIdeal.τ).loc Cert.ValuesSampleReferenceIdeal.main_arg0)
      ∧ r.2.mem ((c.tc : Thread Cert.ValuesSampleReferenceIdeal.nD Cert.ValuesSampleReferenceIdeal.τ).loc Cert.ValuesSampleReferenceIdeal.main_arg1) = m ((c.tc : Thread Cert.ValuesSampleReferenceIdeal.nD Cert.ValuesSampleReferenceIdeal.τ).loc Cert.ValuesSampleReferenceIdeal.main_arg1))
      ∧ r.2.sem = fun _ => 0)

def quiescent_MergePrompt [hMergePrompt : Cert.MergePrompt.Facts] : Prop :=
  ∀ (m : (ℓ : Loc Cert.MergePrompt.nD Cert.MergePrompt.τ Cert.MergePrompt.sig) → Buf (Elt Bits) ℓ) (g : Dev Cert.MergePrompt.nD → PrngReg), Pre_MergePrompt m →
    θ_run (Cert.MergePrompt.defs (F := Bits)) (onTc (τ := Cert.MergePrompt.τ) (Cert.MergePrompt.main (F := Bits))) ⟨m, fun _ => 0, g⟩ (fun r => (∀ c : Dev Cert.MergePrompt.nD,
      r.2.mem ((c.tc : Thread Cert.MergePrompt.nD Cert.MergePrompt.τ).loc Cert.MergePrompt.main_arg0) = m ((c.tc : Thread Cert.MergePrompt.nD Cert.MergePrompt.τ).loc Cert.MergePrompt.main_arg0)
      ∧ r.2.mem ((c.tc : Thread Cert.MergePrompt.nD Cert.MergePrompt.τ).loc Cert.MergePrompt.main_arg1) = m ((c.tc : Thread Cert.MergePrompt.nD Cert.MergePrompt.τ).loc Cert.MergePrompt.main_arg1)
      ∧ r.2.mem ((c.tc : Thread Cert.MergePrompt.nD Cert.MergePrompt.τ).loc Cert.MergePrompt.main_arg2) = m ((c.tc : Thread Cert.MergePrompt.nD Cert.MergePrompt.τ).loc Cert.MergePrompt.main_arg2)
      ∧ r.2.mem ((c.tc : Thread Cert.MergePrompt.nD Cert.MergePrompt.τ).loc Cert.MergePrompt.main_arg3) = m ((c.tc : Thread Cert.MergePrompt.nD Cert.MergePrompt.τ).loc Cert.MergePrompt.main_arg3)
      ∧ r.2.mem ((c.tc : Thread Cert.MergePrompt.nD Cert.MergePrompt.τ).loc Cert.MergePrompt.main_arg4) = m ((c.tc : Thread Cert.MergePrompt.nD Cert.MergePrompt.τ).loc Cert.MergePrompt.main_arg4))
      ∧ r.2.sem = fun _ => 0)

def quiescent_MergePromptIdeal [hMergePromptIdeal : Cert.MergePromptIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg), Pre_MergePromptIdeal m →
    θ_run (Cert.MergePromptIdeal.defs (F := Ideal)) (onTc (τ := Cert.MergePromptIdeal.τ) (Cert.MergePromptIdeal.main (F := Ideal))) ⟨m, fun _ => 0, g⟩ (fun r => (∀ c : Dev Cert.MergePromptIdeal.nD,
      r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
      ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
      ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
      ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
      ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4))
      ∧ r.2.sem = fun _ => 0)

def quiescent_MergePromptReferenceIdeal [hMergePromptReferenceIdeal : Cert.MergePromptReferenceIdeal.Facts] : Prop :=
  ∀ (m : (ℓ : Loc Cert.MergePromptReferenceIdeal.nD Cert.MergePromptReferenceIdeal.τ Cert.MergePromptReferenceIdeal.sig) → Buf (Elt Ideal) ℓ) (g : Dev Cert.MergePromptReferenceIdeal.nD → PrngReg), Pre_MergePromptReferenceIdeal m →
    θ_run (Cert.MergePromptReferenceIdeal.defs (F := Ideal)) (onTc (τ := Cert.MergePromptReferenceIdeal.τ) (Cert.MergePromptReferenceIdeal.main (F := Ideal))) ⟨m, fun _ => 0, g⟩ (fun r => (∀ c : Dev Cert.MergePromptReferenceIdeal.nD,
      r.2.mem ((c.tc : Thread Cert.MergePromptReferenceIdeal.nD Cert.MergePromptReferenceIdeal.τ).loc Cert.MergePromptReferenceIdeal.main_arg0) = m ((c.tc : Thread Cert.MergePromptReferenceIdeal.nD Cert.MergePromptReferenceIdeal.τ).loc Cert.MergePromptReferenceIdeal.main_arg0)
      ∧ r.2.mem ((c.tc : Thread Cert.MergePromptReferenceIdeal.nD Cert.MergePromptReferenceIdeal.τ).loc Cert.MergePromptReferenceIdeal.main_arg1) = m ((c.tc : Thread Cert.MergePromptReferenceIdeal.nD Cert.MergePromptReferenceIdeal.τ).loc Cert.MergePromptReferenceIdeal.main_arg1)
      ∧ r.2.mem ((c.tc : Thread Cert.MergePromptReferenceIdeal.nD Cert.MergePromptReferenceIdeal.τ).loc Cert.MergePromptReferenceIdeal.main_arg2) = m ((c.tc : Thread Cert.MergePromptReferenceIdeal.nD Cert.MergePromptReferenceIdeal.τ).loc Cert.MergePromptReferenceIdeal.main_arg2)
      ∧ r.2.mem ((c.tc : Thread Cert.MergePromptReferenceIdeal.nD Cert.MergePromptReferenceIdeal.τ).loc Cert.MergePromptReferenceIdeal.main_arg3) = m ((c.tc : Thread Cert.MergePromptReferenceIdeal.nD Cert.MergePromptReferenceIdeal.τ).loc Cert.MergePromptReferenceIdeal.main_arg3)
      ∧ r.2.mem ((c.tc : Thread Cert.MergePromptReferenceIdeal.nD Cert.MergePromptReferenceIdeal.τ).loc Cert.MergePromptReferenceIdeal.main_arg4) = m ((c.tc : Thread Cert.MergePromptReferenceIdeal.nD Cert.MergePromptReferenceIdeal.τ).loc Cert.MergePromptReferenceIdeal.main_arg4))
      ∧ r.2.sem = fun _ => 0)

def quiescent_ConvPrompt [hConvPrompt : Cert.ConvPrompt.Facts] : Prop :=
  ∀ (m : (ℓ : Loc Cert.ConvPrompt.nD Cert.ConvPrompt.τ Cert.ConvPrompt.sig) → Buf (Elt Bits) ℓ) (g : Dev Cert.ConvPrompt.nD → PrngReg), Pre_ConvPrompt m →
    θ_run (Cert.ConvPrompt.defs (F := Bits)) (onTc (τ := Cert.ConvPrompt.τ) (Cert.ConvPrompt.main (F := Bits))) ⟨m, fun _ => 0, g⟩ (fun r => (∀ c : Dev Cert.ConvPrompt.nD,
      r.2.mem ((c.tc : Thread Cert.ConvPrompt.nD Cert.ConvPrompt.τ).loc Cert.ConvPrompt.main_arg0) = m ((c.tc : Thread Cert.ConvPrompt.nD Cert.ConvPrompt.τ).loc Cert.ConvPrompt.main_arg0)
      ∧ r.2.mem ((c.tc : Thread Cert.ConvPrompt.nD Cert.ConvPrompt.τ).loc Cert.ConvPrompt.main_arg1) = m ((c.tc : Thread Cert.ConvPrompt.nD Cert.ConvPrompt.τ).loc Cert.ConvPrompt.main_arg1))
      ∧ r.2.sem = fun _ => 0)

def quiescent_ConvPromptIdeal [hConvPromptIdeal : Cert.ConvPromptIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg), Pre_ConvPromptIdeal m →
    θ_run (Cert.ConvPromptIdeal.defs (F := Ideal)) (onTc (τ := Cert.ConvPromptIdeal.τ) (Cert.ConvPromptIdeal.main (F := Ideal))) ⟨m, fun _ => 0, g⟩ (fun r => (∀ c : Dev Cert.ConvPromptIdeal.nD,
      r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
      ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1))
      ∧ r.2.sem = fun _ => 0)

def quiescent_ConvPromptReferenceIdeal [hConvPromptReferenceIdeal : Cert.ConvPromptReferenceIdeal.Facts] : Prop :=
  ∀ (m : (ℓ : Loc Cert.ConvPromptReferenceIdeal.nD Cert.ConvPromptReferenceIdeal.τ Cert.ConvPromptReferenceIdeal.sig) → Buf (Elt Ideal) ℓ) (g : Dev Cert.ConvPromptReferenceIdeal.nD → PrngReg), Pre_ConvPromptReferenceIdeal m →
    θ_run (Cert.ConvPromptReferenceIdeal.defs (F := Ideal)) (onTc (τ := Cert.ConvPromptReferenceIdeal.τ) (Cert.ConvPromptReferenceIdeal.main (F := Ideal))) ⟨m, fun _ => 0, g⟩ (fun r => (∀ c : Dev Cert.ConvPromptReferenceIdeal.nD,
      r.2.mem ((c.tc : Thread Cert.ConvPromptReferenceIdeal.nD Cert.ConvPromptReferenceIdeal.τ).loc Cert.ConvPromptReferenceIdeal.main_arg0) = m ((c.tc : Thread Cert.ConvPromptReferenceIdeal.nD Cert.ConvPromptReferenceIdeal.τ).loc Cert.ConvPromptReferenceIdeal.main_arg0)
      ∧ r.2.mem ((c.tc : Thread Cert.ConvPromptReferenceIdeal.nD Cert.ConvPromptReferenceIdeal.τ).loc Cert.ConvPromptReferenceIdeal.main_arg1) = m ((c.tc : Thread Cert.ConvPromptReferenceIdeal.nD Cert.ConvPromptReferenceIdeal.τ).loc Cert.ConvPromptReferenceIdeal.main_arg1))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2))
      ∧ r.2.sem = fun _ => 0)

def quiescent_ConvSampleReferenceIdeal [hConvSampleReferenceIdeal : Cert.ConvSampleReferenceIdeal.Facts] : Prop :=
  ∀ (m : (ℓ : Loc Cert.ConvSampleReferenceIdeal.nD Cert.ConvSampleReferenceIdeal.τ Cert.ConvSampleReferenceIdeal.sig) → Buf (Elt Ideal) ℓ) (g : Dev Cert.ConvSampleReferenceIdeal.nD → PrngReg), Pre_ConvSampleReferenceIdeal m →
    θ_run (Cert.ConvSampleReferenceIdeal.defs (F := Ideal)) (onTc (τ := Cert.ConvSampleReferenceIdeal.τ) (Cert.ConvSampleReferenceIdeal.main (F := Ideal))) ⟨m, fun _ => 0, g⟩ (fun r => (∀ c : Dev Cert.ConvSampleReferenceIdeal.nD,
      r.2.mem ((c.tc : Thread Cert.ConvSampleReferenceIdeal.nD Cert.ConvSampleReferenceIdeal.τ).loc Cert.ConvSampleReferenceIdeal.main_arg0) = m ((c.tc : Thread Cert.ConvSampleReferenceIdeal.nD Cert.ConvSampleReferenceIdeal.τ).loc Cert.ConvSampleReferenceIdeal.main_arg0)
      ∧ r.2.mem ((c.tc : Thread Cert.ConvSampleReferenceIdeal.nD Cert.ConvSampleReferenceIdeal.τ).loc Cert.ConvSampleReferenceIdeal.main_arg1) = m ((c.tc : Thread Cert.ConvSampleReferenceIdeal.nD Cert.ConvSampleReferenceIdeal.τ).loc Cert.ConvSampleReferenceIdeal.main_arg1)
      ∧ r.2.mem ((c.tc : Thread Cert.ConvSampleReferenceIdeal.nD Cert.ConvSampleReferenceIdeal.τ).loc Cert.ConvSampleReferenceIdeal.main_arg2) = m ((c.tc : Thread Cert.ConvSampleReferenceIdeal.nD Cert.ConvSampleReferenceIdeal.τ).loc Cert.ConvSampleReferenceIdeal.main_arg2))
      ∧ r.2.sem = fun _ => 0)

def quiescent_OutPrompt [hOutPrompt : Cert.OutPrompt.Facts] : Prop :=
  ∀ (m : (ℓ : Loc Cert.OutPrompt.nD Cert.OutPrompt.τ Cert.OutPrompt.sig) → Buf (Elt Bits) ℓ) (g : Dev Cert.OutPrompt.nD → PrngReg), Pre_OutPrompt m →
    θ_run (Cert.OutPrompt.defs (F := Bits)) (onTc (τ := Cert.OutPrompt.τ) (Cert.OutPrompt.main (F := Bits))) ⟨m, fun _ => 0, g⟩ (fun r => (∀ c : Dev Cert.OutPrompt.nD,
      r.2.mem ((c.tc : Thread Cert.OutPrompt.nD Cert.OutPrompt.τ).loc Cert.OutPrompt.main_arg0) = m ((c.tc : Thread Cert.OutPrompt.nD Cert.OutPrompt.τ).loc Cert.OutPrompt.main_arg0)
      ∧ r.2.mem ((c.tc : Thread Cert.OutPrompt.nD Cert.OutPrompt.τ).loc Cert.OutPrompt.main_arg1) = m ((c.tc : Thread Cert.OutPrompt.nD Cert.OutPrompt.τ).loc Cert.OutPrompt.main_arg1)
      ∧ r.2.mem ((c.tc : Thread Cert.OutPrompt.nD Cert.OutPrompt.τ).loc Cert.OutPrompt.main_arg2) = m ((c.tc : Thread Cert.OutPrompt.nD Cert.OutPrompt.τ).loc Cert.OutPrompt.main_arg2)
      ∧ r.2.mem ((c.tc : Thread Cert.OutPrompt.nD Cert.OutPrompt.τ).loc Cert.OutPrompt.main_arg3) = m ((c.tc : Thread Cert.OutPrompt.nD Cert.OutPrompt.τ).loc Cert.OutPrompt.main_arg3))
      ∧ r.2.sem = fun _ => 0)

def quiescent_OutPromptIdeal [hOutPromptIdeal : Cert.OutPromptIdeal.Facts] : Prop :=
  ∀ (m : (ℓ : Loc Cert.OutPromptIdeal.nD Cert.OutPromptIdeal.τ Cert.OutPromptIdeal.sig) → Buf (Elt Ideal) ℓ) (g : Dev Cert.OutPromptIdeal.nD → PrngReg), Pre_OutPromptIdeal m →
    θ_run (Cert.OutPromptIdeal.defs (F := Ideal)) (onTc (τ := Cert.OutPromptIdeal.τ) (Cert.OutPromptIdeal.main (F := Ideal))) ⟨m, fun _ => 0, g⟩ (fun r => (∀ c : Dev Cert.OutPromptIdeal.nD,
      r.2.mem ((c.tc : Thread Cert.OutPromptIdeal.nD Cert.OutPromptIdeal.τ).loc Cert.OutPromptIdeal.main_arg0) = m ((c.tc : Thread Cert.OutPromptIdeal.nD Cert.OutPromptIdeal.τ).loc Cert.OutPromptIdeal.main_arg0)
      ∧ r.2.mem ((c.tc : Thread Cert.OutPromptIdeal.nD Cert.OutPromptIdeal.τ).loc Cert.OutPromptIdeal.main_arg1) = m ((c.tc : Thread Cert.OutPromptIdeal.nD Cert.OutPromptIdeal.τ).loc Cert.OutPromptIdeal.main_arg1)
      ∧ r.2.mem ((c.tc : Thread Cert.OutPromptIdeal.nD Cert.OutPromptIdeal.τ).loc Cert.OutPromptIdeal.main_arg2) = m ((c.tc : Thread Cert.OutPromptIdeal.nD Cert.OutPromptIdeal.τ).loc Cert.OutPromptIdeal.main_arg2)
      ∧ r.2.mem ((c.tc : Thread Cert.OutPromptIdeal.nD Cert.OutPromptIdeal.τ).loc Cert.OutPromptIdeal.main_arg3) = m ((c.tc : Thread Cert.OutPromptIdeal.nD Cert.OutPromptIdeal.τ).loc Cert.OutPromptIdeal.main_arg3))
      ∧ r.2.sem = fun _ => 0)

def quiescent_OutPromptReferenceIdeal [hOutPromptReferenceIdeal : Cert.OutPromptReferenceIdeal.Facts] : Prop :=
  ∀ (m : (ℓ : Loc Cert.OutPromptReferenceIdeal.nD Cert.OutPromptReferenceIdeal.τ Cert.OutPromptReferenceIdeal.sig) → Buf (Elt Ideal) ℓ) (g : Dev Cert.OutPromptReferenceIdeal.nD → PrngReg), Pre_OutPromptReferenceIdeal m →
    θ_run (Cert.OutPromptReferenceIdeal.defs (F := Ideal)) (onTc (τ := Cert.OutPromptReferenceIdeal.τ) (Cert.OutPromptReferenceIdeal.main (F := Ideal))) ⟨m, fun _ => 0, g⟩ (fun r => (∀ c : Dev Cert.OutPromptReferenceIdeal.nD,
      r.2.mem ((c.tc : Thread Cert.OutPromptReferenceIdeal.nD Cert.OutPromptReferenceIdeal.τ).loc Cert.OutPromptReferenceIdeal.main_arg0) = m ((c.tc : Thread Cert.OutPromptReferenceIdeal.nD Cert.OutPromptReferenceIdeal.τ).loc Cert.OutPromptReferenceIdeal.main_arg0)
      ∧ r.2.mem ((c.tc : Thread Cert.OutPromptReferenceIdeal.nD Cert.OutPromptReferenceIdeal.τ).loc Cert.OutPromptReferenceIdeal.main_arg1) = m ((c.tc : Thread Cert.OutPromptReferenceIdeal.nD Cert.OutPromptReferenceIdeal.τ).loc Cert.OutPromptReferenceIdeal.main_arg1)
      ∧ r.2.mem ((c.tc : Thread Cert.OutPromptReferenceIdeal.nD Cert.OutPromptReferenceIdeal.τ).loc Cert.OutPromptReferenceIdeal.main_arg2) = m ((c.tc : Thread Cert.OutPromptReferenceIdeal.nD Cert.OutPromptReferenceIdeal.τ).loc Cert.OutPromptReferenceIdeal.main_arg2)
      ∧ r.2.mem ((c.tc : Thread Cert.OutPromptReferenceIdeal.nD Cert.OutPromptReferenceIdeal.τ).loc Cert.OutPromptReferenceIdeal.main_arg3) = m ((c.tc : Thread Cert.OutPromptReferenceIdeal.nD Cert.OutPromptReferenceIdeal.τ).loc Cert.OutPromptReferenceIdeal.main_arg3))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3))
      ∧ r.2.sem = fun _ => 0)

def quiescent_OutSampleReferenceIdeal [hOutSampleReferenceIdeal : Cert.OutSampleReferenceIdeal.Facts] : Prop :=
  ∀ (m : (ℓ : Loc Cert.OutSampleReferenceIdeal.nD Cert.OutSampleReferenceIdeal.τ Cert.OutSampleReferenceIdeal.sig) → Buf (Elt Ideal) ℓ) (g : Dev Cert.OutSampleReferenceIdeal.nD → PrngReg), Pre_OutSampleReferenceIdeal m →
    θ_run (Cert.OutSampleReferenceIdeal.defs (F := Ideal)) (onTc (τ := Cert.OutSampleReferenceIdeal.τ) (Cert.OutSampleReferenceIdeal.main (F := Ideal))) ⟨m, fun _ => 0, g⟩ (fun r => (∀ c : Dev Cert.OutSampleReferenceIdeal.nD,
      r.2.mem ((c.tc : Thread Cert.OutSampleReferenceIdeal.nD Cert.OutSampleReferenceIdeal.τ).loc Cert.OutSampleReferenceIdeal.main_arg0) = m ((c.tc : Thread Cert.OutSampleReferenceIdeal.nD Cert.OutSampleReferenceIdeal.τ).loc Cert.OutSampleReferenceIdeal.main_arg0)
      ∧ r.2.mem ((c.tc : Thread Cert.OutSampleReferenceIdeal.nD Cert.OutSampleReferenceIdeal.τ).loc Cert.OutSampleReferenceIdeal.main_arg1) = m ((c.tc : Thread Cert.OutSampleReferenceIdeal.nD Cert.OutSampleReferenceIdeal.τ).loc Cert.OutSampleReferenceIdeal.main_arg1)
      ∧ r.2.mem ((c.tc : Thread Cert.OutSampleReferenceIdeal.nD Cert.OutSampleReferenceIdeal.τ).loc Cert.OutSampleReferenceIdeal.main_arg2) = m ((c.tc : Thread Cert.OutSampleReferenceIdeal.nD Cert.OutSampleReferenceIdeal.τ).loc Cert.OutSampleReferenceIdeal.main_arg2)
      ∧ r.2.mem ((c.tc : Thread Cert.OutSampleReferenceIdeal.nD Cert.OutSampleReferenceIdeal.τ).loc Cert.OutSampleReferenceIdeal.main_arg3) = m ((c.tc : Thread Cert.OutSampleReferenceIdeal.nD Cert.OutSampleReferenceIdeal.τ).loc Cert.OutSampleReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_ProjPrompt_ProjPromptIdeal : Prop :=
  True

def algebraic_ProjPromptIdeal_ProjPromptReferenceIdeal [hProjPromptIdeal : Cert.ProjPromptIdeal.Facts] [hProjPromptReferenceIdeal : Cert.ProjPromptReferenceIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg)
    (m' : (ℓ : Loc Cert.ProjPromptReferenceIdeal.nD Cert.ProjPromptReferenceIdeal.τ Cert.ProjPromptReferenceIdeal.sig) → Buf (Elt Ideal) ℓ) (g' : Dev Cert.ProjPromptReferenceIdeal.nD → PrngReg), Pre_ProjPromptIdeal m →
    (∀ c : Dev Cert.ProjPromptIdeal.nD,
      m' ((c.tc : Thread Cert.ProjPromptReferenceIdeal.nD Cert.ProjPromptReferenceIdeal.τ).loc Cert.ProjPromptReferenceIdeal.main_arg0) = m ((c.tc : Thread Cert.ProjPromptIdeal.nD Cert.ProjPromptIdeal.τ).loc Cert.ProjPromptIdeal.main_arg0)
      ∧ m' ((c.tc : Thread Cert.ProjPromptReferenceIdeal.nD Cert.ProjPromptReferenceIdeal.τ).loc Cert.ProjPromptReferenceIdeal.main_arg1) = m ((c.tc : Thread Cert.ProjPromptIdeal.nD Cert.ProjPromptIdeal.τ).loc Cert.ProjPromptIdeal.main_arg1)) →
    ∃ (v0 : (c : Dev Cert.ProjPromptIdeal.nD) → Buf (Elt Ideal) ((c.tc : Thread Cert.ProjPromptIdeal.nD Cert.ProjPromptIdeal.τ).loc Cert.ProjPromptIdeal.main_v0)),
      θ_run (Cert.ProjPromptIdeal.defs (F := Ideal)) (onTc (τ := Cert.ProjPromptIdeal.τ) (Cert.ProjPromptIdeal.main (F := Ideal))) ⟨m, fun _ => 0, g⟩ (fun r => ∀ c : Dev Cert.ProjPromptIdeal.nD,
          r.2.mem ((c.tc : Thread Cert.ProjPromptIdeal.nD Cert.ProjPromptIdeal.τ).loc Cert.ProjPromptIdeal.main_v0) = v0 c
          ∧ r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
          ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1))
      ∧ θ_run (Cert.ProjPromptReferenceIdeal.defs (F := Ideal)) (onTc (τ := Cert.ProjPromptReferenceIdeal.τ) (Cert.ProjPromptReferenceIdeal.main (F := Ideal))) ⟨m', fun _ => 0, g'⟩ (fun r => ∀ c : Dev Cert.ProjPromptReferenceIdeal.nD,
          r.2.mem ((c.tc : Thread Cert.ProjPromptReferenceIdeal.nD Cert.ProjPromptReferenceIdeal.τ).loc Cert.ProjPromptReferenceIdeal.main_v2) = v0 c
          ∧ r.2.mem ((c.tc : Thread Cert.ProjPromptReferenceIdeal.nD Cert.ProjPromptReferenceIdeal.τ).loc Cert.ProjPromptReferenceIdeal.main_arg0) = m' ((c.tc : Thread Cert.ProjPromptReferenceIdeal.nD Cert.ProjPromptReferenceIdeal.τ).loc Cert.ProjPromptReferenceIdeal.main_arg0)
          ∧ r.2.mem ((c.tc : Thread Cert.ProjPromptReferenceIdeal.nD Cert.ProjPromptReferenceIdeal.τ).loc Cert.ProjPromptReferenceIdeal.main_arg1) = m' ((c.tc : Thread Cert.ProjPromptReferenceIdeal.nD Cert.ProjPromptReferenceIdeal.τ).loc Cert.ProjPromptReferenceIdeal.main_arg1))

def preserves_KeysSample_KeysSampleIdeal : Prop :=
  True

def algebraic_KeysSampleIdeal_KeysSampleReferenceIdeal [hKeysSampleIdeal : Cert.KeysSampleIdeal.Facts] [hKeysSampleReferenceIdeal : Cert.KeysSampleReferenceIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg)
    (m' : (ℓ : Loc Cert.KeysSampleReferenceIdeal.nD Cert.KeysSampleReferenceIdeal.τ Cert.KeysSampleReferenceIdeal.sig) → Buf (Elt Ideal) ℓ) (g' : Dev Cert.KeysSampleReferenceIdeal.nD → PrngReg), Pre_KeysSampleIdeal m →
    (∀ c : Dev Cert.KeysSampleIdeal.nD,
      m' ((c.tc : Thread Cert.KeysSampleReferenceIdeal.nD Cert.KeysSampleReferenceIdeal.τ).loc Cert.KeysSampleReferenceIdeal.main_arg0) = m ((c.tc : Thread Cert.KeysSampleIdeal.nD Cert.KeysSampleIdeal.τ).loc Cert.KeysSampleIdeal.main_arg0)
      ∧ m' ((c.tc : Thread Cert.KeysSampleReferenceIdeal.nD Cert.KeysSampleReferenceIdeal.τ).loc Cert.KeysSampleReferenceIdeal.main_arg1) = m ((c.tc : Thread Cert.KeysSampleIdeal.nD Cert.KeysSampleIdeal.τ).loc Cert.KeysSampleIdeal.main_arg1)) →
    ∃ (v0 : (c : Dev Cert.KeysSampleIdeal.nD) → Buf (Elt Ideal) ((c.tc : Thread Cert.KeysSampleIdeal.nD Cert.KeysSampleIdeal.τ).loc Cert.KeysSampleIdeal.main_v0_0)),
      θ_run (Cert.KeysSampleIdeal.defs (F := Ideal)) (onTc (τ := Cert.KeysSampleIdeal.τ) (Cert.KeysSampleIdeal.main (F := Ideal))) ⟨m, fun _ => 0, g⟩ (fun r => ∀ c : Dev Cert.KeysSampleIdeal.nD,
          r.2.mem ((c.tc : Thread Cert.KeysSampleIdeal.nD Cert.KeysSampleIdeal.τ).loc Cert.KeysSampleIdeal.main_v0_0) = v0 c
          ∧ r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
          ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1))
      ∧ θ_run (Cert.KeysSampleReferenceIdeal.defs (F := Ideal)) (onTc (τ := Cert.KeysSampleReferenceIdeal.τ) (Cert.KeysSampleReferenceIdeal.main (F := Ideal))) ⟨m', fun _ => 0, g'⟩ (fun r => ∀ c : Dev Cert.KeysSampleReferenceIdeal.nD,
          r.2.mem ((c.tc : Thread Cert.KeysSampleReferenceIdeal.nD Cert.KeysSampleReferenceIdeal.τ).loc Cert.KeysSampleReferenceIdeal.main_v2) = v0 c
          ∧ r.2.mem ((c.tc : Thread Cert.KeysSampleReferenceIdeal.nD Cert.KeysSampleReferenceIdeal.τ).loc Cert.KeysSampleReferenceIdeal.main_arg0) = m' ((c.tc : Thread Cert.KeysSampleReferenceIdeal.nD Cert.KeysSampleReferenceIdeal.τ).loc Cert.KeysSampleReferenceIdeal.main_arg0)
          ∧ r.2.mem ((c.tc : Thread Cert.KeysSampleReferenceIdeal.nD Cert.KeysSampleReferenceIdeal.τ).loc Cert.KeysSampleReferenceIdeal.main_arg1) = m' ((c.tc : Thread Cert.KeysSampleReferenceIdeal.nD Cert.KeysSampleReferenceIdeal.τ).loc Cert.KeysSampleReferenceIdeal.main_arg1))

def preserves_ValuesSample_ValuesSampleIdeal : Prop :=
  True

def algebraic_ValuesSampleIdeal_ValuesSampleReferenceIdeal [hValuesSampleIdeal : Cert.ValuesSampleIdeal.Facts] [hValuesSampleReferenceIdeal : Cert.ValuesSampleReferenceIdeal.Facts] : Prop :=
  ∀ (m : (ℓ : Loc Cert.ValuesSampleIdeal.nD Cert.ValuesSampleIdeal.τ Cert.ValuesSampleIdeal.sig) → Buf (Elt Ideal) ℓ) (g : Dev Cert.ValuesSampleIdeal.nD → PrngReg)
    (m' : (ℓ : Loc Cert.ValuesSampleReferenceIdeal.nD Cert.ValuesSampleReferenceIdeal.τ Cert.ValuesSampleReferenceIdeal.sig) → Buf (Elt Ideal) ℓ) (g' : Dev Cert.ValuesSampleReferenceIdeal.nD → PrngReg), Pre_ValuesSampleIdeal m →
    (∀ c : Dev Cert.ValuesSampleIdeal.nD,
      m' ((c.tc : Thread Cert.ValuesSampleReferenceIdeal.nD Cert.ValuesSampleReferenceIdeal.τ).loc Cert.ValuesSampleReferenceIdeal.main_arg0) = m ((c.tc : Thread Cert.ValuesSampleIdeal.nD Cert.ValuesSampleIdeal.τ).loc Cert.ValuesSampleIdeal.main_arg0)
      ∧ m' ((c.tc : Thread Cert.ValuesSampleReferenceIdeal.nD Cert.ValuesSampleReferenceIdeal.τ).loc Cert.ValuesSampleReferenceIdeal.main_arg1) = m ((c.tc : Thread Cert.ValuesSampleIdeal.nD Cert.ValuesSampleIdeal.τ).loc Cert.ValuesSampleIdeal.main_arg1)) →
    ∃ (v0 : (c : Dev Cert.ValuesSampleIdeal.nD) → Buf (Elt Ideal) ((c.tc : Thread Cert.ValuesSampleIdeal.nD Cert.ValuesSampleIdeal.τ).loc Cert.ValuesSampleIdeal.main_v0_0)),
      θ_run (Cert.ValuesSampleIdeal.defs (F := Ideal)) (onTc (τ := Cert.ValuesSampleIdeal.τ) (Cert.ValuesSampleIdeal.main (F := Ideal))) ⟨m, fun _ => 0, g⟩ (fun r => ∀ c : Dev Cert.ValuesSampleIdeal.nD,
          r.2.mem ((c.tc : Thread Cert.ValuesSampleIdeal.nD Cert.ValuesSampleIdeal.τ).loc Cert.ValuesSampleIdeal.main_v0_0) = v0 c
          ∧ r.2.mem ((c.tc : Thread Cert.ValuesSampleIdeal.nD Cert.ValuesSampleIdeal.τ).loc Cert.ValuesSampleIdeal.main_arg0) = m ((c.tc : Thread Cert.ValuesSampleIdeal.nD Cert.ValuesSampleIdeal.τ).loc Cert.ValuesSampleIdeal.main_arg0)
          ∧ r.2.mem ((c.tc : Thread Cert.ValuesSampleIdeal.nD Cert.ValuesSampleIdeal.τ).loc Cert.ValuesSampleIdeal.main_arg1) = m ((c.tc : Thread Cert.ValuesSampleIdeal.nD Cert.ValuesSampleIdeal.τ).loc Cert.ValuesSampleIdeal.main_arg1))
      ∧ θ_run (Cert.ValuesSampleReferenceIdeal.defs (F := Ideal)) (onTc (τ := Cert.ValuesSampleReferenceIdeal.τ) (Cert.ValuesSampleReferenceIdeal.main (F := Ideal))) ⟨m', fun _ => 0, g'⟩ (fun r => ∀ c : Dev Cert.ValuesSampleReferenceIdeal.nD,
          r.2.mem ((c.tc : Thread Cert.ValuesSampleReferenceIdeal.nD Cert.ValuesSampleReferenceIdeal.τ).loc Cert.ValuesSampleReferenceIdeal.main_v2) = v0 c
          ∧ r.2.mem ((c.tc : Thread Cert.ValuesSampleReferenceIdeal.nD Cert.ValuesSampleReferenceIdeal.τ).loc Cert.ValuesSampleReferenceIdeal.main_arg0) = m' ((c.tc : Thread Cert.ValuesSampleReferenceIdeal.nD Cert.ValuesSampleReferenceIdeal.τ).loc Cert.ValuesSampleReferenceIdeal.main_arg0)
          ∧ r.2.mem ((c.tc : Thread Cert.ValuesSampleReferenceIdeal.nD Cert.ValuesSampleReferenceIdeal.τ).loc Cert.ValuesSampleReferenceIdeal.main_arg1) = m' ((c.tc : Thread Cert.ValuesSampleReferenceIdeal.nD Cert.ValuesSampleReferenceIdeal.τ).loc Cert.ValuesSampleReferenceIdeal.main_arg1))

def preserves_MergePrompt_MergePromptIdeal : Prop :=
  True

def algebraic_MergePromptIdeal_MergePromptReferenceIdeal [hMergePromptIdeal : Cert.MergePromptIdeal.Facts] [hMergePromptReferenceIdeal : Cert.MergePromptReferenceIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg)
    (m' : (ℓ : Loc Cert.MergePromptReferenceIdeal.nD Cert.MergePromptReferenceIdeal.τ Cert.MergePromptReferenceIdeal.sig) → Buf (Elt Ideal) ℓ) (g' : Dev Cert.MergePromptReferenceIdeal.nD → PrngReg), Pre_MergePromptIdeal m →
    (∀ c : Dev Cert.MergePromptIdeal.nD,
      m' ((c.tc : Thread Cert.MergePromptReferenceIdeal.nD Cert.MergePromptReferenceIdeal.τ).loc Cert.MergePromptReferenceIdeal.main_arg0) = m ((c.tc : Thread Cert.MergePromptIdeal.nD Cert.MergePromptIdeal.τ).loc Cert.MergePromptIdeal.main_arg0)
      ∧ m' ((c.tc : Thread Cert.MergePromptReferenceIdeal.nD Cert.MergePromptReferenceIdeal.τ).loc Cert.MergePromptReferenceIdeal.main_arg1) = m ((c.tc : Thread Cert.MergePromptIdeal.nD Cert.MergePromptIdeal.τ).loc Cert.MergePromptIdeal.main_arg1)
      ∧ m' ((c.tc : Thread Cert.MergePromptReferenceIdeal.nD Cert.MergePromptReferenceIdeal.τ).loc Cert.MergePromptReferenceIdeal.main_arg2) = m ((c.tc : Thread Cert.MergePromptIdeal.nD Cert.MergePromptIdeal.τ).loc Cert.MergePromptIdeal.main_arg2)
      ∧ m' ((c.tc : Thread Cert.MergePromptReferenceIdeal.nD Cert.MergePromptReferenceIdeal.τ).loc Cert.MergePromptReferenceIdeal.main_arg3) = m ((c.tc : Thread Cert.MergePromptIdeal.nD Cert.MergePromptIdeal.τ).loc Cert.MergePromptIdeal.main_arg3)
      ∧ m' ((c.tc : Thread Cert.MergePromptReferenceIdeal.nD Cert.MergePromptReferenceIdeal.τ).loc Cert.MergePromptReferenceIdeal.main_arg4) = m ((c.tc : Thread Cert.MergePromptIdeal.nD Cert.MergePromptIdeal.τ).loc Cert.MergePromptIdeal.main_arg4)) →
    ∃ (v0 : (c : Dev Cert.MergePromptIdeal.nD) → Buf (Elt Ideal) ((c.tc : Thread Cert.MergePromptIdeal.nD Cert.MergePromptIdeal.τ).loc Cert.MergePromptIdeal.main_v0)),
      θ_run (Cert.MergePromptIdeal.defs (F := Ideal)) (onTc (τ := Cert.MergePromptIdeal.τ) (Cert.MergePromptIdeal.main (F := Ideal))) ⟨m, fun _ => 0, g⟩ (fun r => ∀ c : Dev Cert.MergePromptIdeal.nD,
          r.2.mem ((c.tc : Thread Cert.MergePromptIdeal.nD Cert.MergePromptIdeal.τ).loc Cert.MergePromptIdeal.main_v0) = v0 c
          ∧ r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
          ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
          ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
          ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
          ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4))
      ∧ θ_run (Cert.MergePromptReferenceIdeal.defs (F := Ideal)) (onTc (τ := Cert.MergePromptReferenceIdeal.τ) (Cert.MergePromptReferenceIdeal.main (F := Ideal))) ⟨m', fun _ => 0, g'⟩ (fun r => ∀ c : Dev Cert.MergePromptReferenceIdeal.nD,
          r.2.mem ((c.tc : Thread Cert.MergePromptReferenceIdeal.nD Cert.MergePromptReferenceIdeal.τ).loc Cert.MergePromptReferenceIdeal.main_v25) = v0 c
          ∧ r.2.mem ((c.tc : Thread Cert.MergePromptReferenceIdeal.nD Cert.MergePromptReferenceIdeal.τ).loc Cert.MergePromptReferenceIdeal.main_arg0) = m' ((c.tc : Thread Cert.MergePromptReferenceIdeal.nD Cert.MergePromptReferenceIdeal.τ).loc Cert.MergePromptReferenceIdeal.main_arg0)
          ∧ r.2.mem ((c.tc : Thread Cert.MergePromptReferenceIdeal.nD Cert.MergePromptReferenceIdeal.τ).loc Cert.MergePromptReferenceIdeal.main_arg1) = m' ((c.tc : Thread Cert.MergePromptReferenceIdeal.nD Cert.MergePromptReferenceIdeal.τ).loc Cert.MergePromptReferenceIdeal.main_arg1)
          ∧ r.2.mem ((c.tc : Thread Cert.MergePromptReferenceIdeal.nD Cert.MergePromptReferenceIdeal.τ).loc Cert.MergePromptReferenceIdeal.main_arg2) = m' ((c.tc : Thread Cert.MergePromptReferenceIdeal.nD Cert.MergePromptReferenceIdeal.τ).loc Cert.MergePromptReferenceIdeal.main_arg2)
          ∧ r.2.mem ((c.tc : Thread Cert.MergePromptReferenceIdeal.nD Cert.MergePromptReferenceIdeal.τ).loc Cert.MergePromptReferenceIdeal.main_arg3) = m' ((c.tc : Thread Cert.MergePromptReferenceIdeal.nD Cert.MergePromptReferenceIdeal.τ).loc Cert.MergePromptReferenceIdeal.main_arg3)
          ∧ r.2.mem ((c.tc : Thread Cert.MergePromptReferenceIdeal.nD Cert.MergePromptReferenceIdeal.τ).loc Cert.MergePromptReferenceIdeal.main_arg4) = m' ((c.tc : Thread Cert.MergePromptReferenceIdeal.nD Cert.MergePromptReferenceIdeal.τ).loc Cert.MergePromptReferenceIdeal.main_arg4))

def preserves_ConvPrompt_ConvPromptIdeal : Prop :=
  True

def algebraic_ConvPromptIdeal_ConvPromptReferenceIdeal [hConvPromptIdeal : Cert.ConvPromptIdeal.Facts] [hConvPromptReferenceIdeal : Cert.ConvPromptReferenceIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg)
    (m' : (ℓ : Loc Cert.ConvPromptReferenceIdeal.nD Cert.ConvPromptReferenceIdeal.τ Cert.ConvPromptReferenceIdeal.sig) → Buf (Elt Ideal) ℓ) (g' : Dev Cert.ConvPromptReferenceIdeal.nD → PrngReg), Pre_ConvPromptIdeal m →
    (∀ c : Dev Cert.ConvPromptIdeal.nD,
      m' ((c.tc : Thread Cert.ConvPromptReferenceIdeal.nD Cert.ConvPromptReferenceIdeal.τ).loc Cert.ConvPromptReferenceIdeal.main_arg0) = m ((c.tc : Thread Cert.ConvPromptIdeal.nD Cert.ConvPromptIdeal.τ).loc Cert.ConvPromptIdeal.main_arg0)
      ∧ m' ((c.tc : Thread Cert.ConvPromptReferenceIdeal.nD Cert.ConvPromptReferenceIdeal.τ).loc Cert.ConvPromptReferenceIdeal.main_arg1) = m ((c.tc : Thread Cert.ConvPromptIdeal.nD Cert.ConvPromptIdeal.τ).loc Cert.ConvPromptIdeal.main_arg1)) →
    ∃ (v0 : (c : Dev Cert.ConvPromptIdeal.nD) → Buf (Elt Ideal) ((c.tc : Thread Cert.ConvPromptIdeal.nD Cert.ConvPromptIdeal.τ).loc Cert.ConvPromptIdeal.main_v0_0)) (v1 : (c : Dev Cert.ConvPromptIdeal.nD) → Buf (Elt Ideal) ((c.tc : Thread Cert.ConvPromptIdeal.nD Cert.ConvPromptIdeal.τ).loc Cert.ConvPromptIdeal.main_v1)),
      θ_run (Cert.ConvPromptIdeal.defs (F := Ideal)) (onTc (τ := Cert.ConvPromptIdeal.τ) (Cert.ConvPromptIdeal.main (F := Ideal))) ⟨m, fun _ => 0, g⟩ (fun r => ∀ c : Dev Cert.ConvPromptIdeal.nD,
          r.2.mem ((c.tc : Thread Cert.ConvPromptIdeal.nD Cert.ConvPromptIdeal.τ).loc Cert.ConvPromptIdeal.main_v0_0) = v0 c
          ∧ r.2.mem ((c.tc : Thread Cert.ConvPromptIdeal.nD Cert.ConvPromptIdeal.τ).loc Cert.ConvPromptIdeal.main_v1) = v1 c
          ∧ r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
          ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1))
      ∧ θ_run (Cert.ConvPromptReferenceIdeal.defs (F := Ideal)) (onTc (τ := Cert.ConvPromptReferenceIdeal.τ) (Cert.ConvPromptReferenceIdeal.main (F := Ideal))) ⟨m', fun _ => 0, g'⟩ (fun r => ∀ c : Dev Cert.ConvPromptReferenceIdeal.nD,
          r.2.mem ((c.tc : Thread Cert.ConvPromptReferenceIdeal.nD Cert.ConvPromptReferenceIdeal.τ).loc Cert.ConvPromptReferenceIdeal.main_v34) = v0 c
          ∧ r.2.mem ((c.tc : Thread Cert.ConvPromptReferenceIdeal.nD Cert.ConvPromptReferenceIdeal.τ).loc Cert.ConvPromptReferenceIdeal.main_v35) = v1 c
          ∧ r.2.mem ((c.tc : Thread Cert.ConvPromptReferenceIdeal.nD Cert.ConvPromptReferenceIdeal.τ).loc Cert.ConvPromptReferenceIdeal.main_arg0) = m' ((c.tc : Thread Cert.ConvPromptReferenceIdeal.nD Cert.ConvPromptReferenceIdeal.τ).loc Cert.ConvPromptReferenceIdeal.main_arg0)
          ∧ r.2.mem ((c.tc : Thread Cert.ConvPromptReferenceIdeal.nD Cert.ConvPromptReferenceIdeal.τ).loc Cert.ConvPromptReferenceIdeal.main_arg1) = m' ((c.tc : Thread Cert.ConvPromptReferenceIdeal.nD Cert.ConvPromptReferenceIdeal.τ).loc Cert.ConvPromptReferenceIdeal.main_arg1))

def preserves_ConvSample_ConvSampleIdeal : Prop :=
  True

def algebraic_ConvSampleIdeal_ConvSampleReferenceIdeal [hConvSampleIdeal : Cert.ConvSampleIdeal.Facts] [hConvSampleReferenceIdeal : Cert.ConvSampleReferenceIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleReferenceIdeal.nD Cert.ConvSampleReferenceIdeal.τ Cert.ConvSampleReferenceIdeal.sig) → Buf (Elt Ideal) ℓ) (g' : Dev Cert.ConvSampleReferenceIdeal.nD → PrngReg), Pre_ConvSampleIdeal m →
    (∀ c : Dev Cert.ConvSampleIdeal.nD,
      m' ((c.tc : Thread Cert.ConvSampleReferenceIdeal.nD Cert.ConvSampleReferenceIdeal.τ).loc Cert.ConvSampleReferenceIdeal.main_arg0) = m ((c.tc : Thread Cert.ConvSampleIdeal.nD Cert.ConvSampleIdeal.τ).loc Cert.ConvSampleIdeal.main_arg0)
      ∧ m' ((c.tc : Thread Cert.ConvSampleReferenceIdeal.nD Cert.ConvSampleReferenceIdeal.τ).loc Cert.ConvSampleReferenceIdeal.main_arg1) = m ((c.tc : Thread Cert.ConvSampleIdeal.nD Cert.ConvSampleIdeal.τ).loc Cert.ConvSampleIdeal.main_arg1)
      ∧ m' ((c.tc : Thread Cert.ConvSampleReferenceIdeal.nD Cert.ConvSampleReferenceIdeal.τ).loc Cert.ConvSampleReferenceIdeal.main_arg2) = m ((c.tc : Thread Cert.ConvSampleIdeal.nD Cert.ConvSampleIdeal.τ).loc Cert.ConvSampleIdeal.main_arg2)) →
    ∃ (v0 : (c : Dev Cert.ConvSampleIdeal.nD) → Buf (Elt Ideal) ((c.tc : Thread Cert.ConvSampleIdeal.nD Cert.ConvSampleIdeal.τ).loc Cert.ConvSampleIdeal.main_v7_0)) (v1 : (c : Dev Cert.ConvSampleIdeal.nD) → Buf (Elt Ideal) ((c.tc : Thread Cert.ConvSampleIdeal.nD Cert.ConvSampleIdeal.τ).loc Cert.ConvSampleIdeal.main_v9)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v7_0) = v0 c
          ∧ r.2.mem ((c.tc : Thread Cert.ConvSampleIdeal.nD Cert.ConvSampleIdeal.τ).loc Cert.ConvSampleIdeal.main_v9) = v1 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2))
      ∧ θ_run (Cert.ConvSampleReferenceIdeal.defs (F := Ideal)) (onTc (τ := Cert.ConvSampleReferenceIdeal.τ) (Cert.ConvSampleReferenceIdeal.main (F := Ideal))) ⟨m', fun _ => 0, g'⟩ (fun r => ∀ c : Dev Cert.ConvSampleReferenceIdeal.nD,
          r.2.mem ((c.tc : Thread Cert.ConvSampleReferenceIdeal.nD Cert.ConvSampleReferenceIdeal.τ).loc Cert.ConvSampleReferenceIdeal.main_v34) = v0 c
          ∧ r.2.mem ((c.tc : Thread Cert.ConvSampleReferenceIdeal.nD Cert.ConvSampleReferenceIdeal.τ).loc Cert.ConvSampleReferenceIdeal.main_v35) = v1 c
          ∧ r.2.mem ((c.tc : Thread Cert.ConvSampleReferenceIdeal.nD Cert.ConvSampleReferenceIdeal.τ).loc Cert.ConvSampleReferenceIdeal.main_arg0) = m' ((c.tc : Thread Cert.ConvSampleReferenceIdeal.nD Cert.ConvSampleReferenceIdeal.τ).loc Cert.ConvSampleReferenceIdeal.main_arg0)
          ∧ r.2.mem ((c.tc : Thread Cert.ConvSampleReferenceIdeal.nD Cert.ConvSampleReferenceIdeal.τ).loc Cert.ConvSampleReferenceIdeal.main_arg1) = m' ((c.tc : Thread Cert.ConvSampleReferenceIdeal.nD Cert.ConvSampleReferenceIdeal.τ).loc Cert.ConvSampleReferenceIdeal.main_arg1)
          ∧ r.2.mem ((c.tc : Thread Cert.ConvSampleReferenceIdeal.nD Cert.ConvSampleReferenceIdeal.τ).loc Cert.ConvSampleReferenceIdeal.main_arg2) = m' ((c.tc : Thread Cert.ConvSampleReferenceIdeal.nD Cert.ConvSampleReferenceIdeal.τ).loc Cert.ConvSampleReferenceIdeal.main_arg2))

def preserves_OutPrompt_OutPromptIdeal : Prop :=
  True

def algebraic_OutPromptIdeal_OutPromptReferenceIdeal [hOutPromptIdeal : Cert.OutPromptIdeal.Facts] [hOutPromptReferenceIdeal : Cert.OutPromptReferenceIdeal.Facts] : Prop :=
  ∀ (m : (ℓ : Loc Cert.OutPromptIdeal.nD Cert.OutPromptIdeal.τ Cert.OutPromptIdeal.sig) → Buf (Elt Ideal) ℓ) (g : Dev Cert.OutPromptIdeal.nD → PrngReg)
    (m' : (ℓ : Loc Cert.OutPromptReferenceIdeal.nD Cert.OutPromptReferenceIdeal.τ Cert.OutPromptReferenceIdeal.sig) → Buf (Elt Ideal) ℓ) (g' : Dev Cert.OutPromptReferenceIdeal.nD → PrngReg), Pre_OutPromptIdeal m →
    (∀ c : Dev Cert.OutPromptIdeal.nD,
      m' ((c.tc : Thread Cert.OutPromptReferenceIdeal.nD Cert.OutPromptReferenceIdeal.τ).loc Cert.OutPromptReferenceIdeal.main_arg0) = m ((c.tc : Thread Cert.OutPromptIdeal.nD Cert.OutPromptIdeal.τ).loc Cert.OutPromptIdeal.main_arg0)
      ∧ m' ((c.tc : Thread Cert.OutPromptReferenceIdeal.nD Cert.OutPromptReferenceIdeal.τ).loc Cert.OutPromptReferenceIdeal.main_arg1) = m ((c.tc : Thread Cert.OutPromptIdeal.nD Cert.OutPromptIdeal.τ).loc Cert.OutPromptIdeal.main_arg1)
      ∧ m' ((c.tc : Thread Cert.OutPromptReferenceIdeal.nD Cert.OutPromptReferenceIdeal.τ).loc Cert.OutPromptReferenceIdeal.main_arg2) = m ((c.tc : Thread Cert.OutPromptIdeal.nD Cert.OutPromptIdeal.τ).loc Cert.OutPromptIdeal.main_arg2)
      ∧ m' ((c.tc : Thread Cert.OutPromptReferenceIdeal.nD Cert.OutPromptReferenceIdeal.τ).loc Cert.OutPromptReferenceIdeal.main_arg3) = m ((c.tc : Thread Cert.OutPromptIdeal.nD Cert.OutPromptIdeal.τ).loc Cert.OutPromptIdeal.main_arg3)) →
    ∃ (v0 : (c : Dev Cert.OutPromptIdeal.nD) → Buf (Elt Ideal) ((c.tc : Thread Cert.OutPromptIdeal.nD Cert.OutPromptIdeal.τ).loc Cert.OutPromptIdeal.main_v1)),
      θ_run (Cert.OutPromptIdeal.defs (F := Ideal)) (onTc (τ := Cert.OutPromptIdeal.τ) (Cert.OutPromptIdeal.main (F := Ideal))) ⟨m, fun _ => 0, g⟩ (fun r => ∀ c : Dev Cert.OutPromptIdeal.nD,
          r.2.mem ((c.tc : Thread Cert.OutPromptIdeal.nD Cert.OutPromptIdeal.τ).loc Cert.OutPromptIdeal.main_v1) = v0 c
          ∧ r.2.mem ((c.tc : Thread Cert.OutPromptIdeal.nD Cert.OutPromptIdeal.τ).loc Cert.OutPromptIdeal.main_arg0) = m ((c.tc : Thread Cert.OutPromptIdeal.nD Cert.OutPromptIdeal.τ).loc Cert.OutPromptIdeal.main_arg0)
          ∧ r.2.mem ((c.tc : Thread Cert.OutPromptIdeal.nD Cert.OutPromptIdeal.τ).loc Cert.OutPromptIdeal.main_arg1) = m ((c.tc : Thread Cert.OutPromptIdeal.nD Cert.OutPromptIdeal.τ).loc Cert.OutPromptIdeal.main_arg1)
          ∧ r.2.mem ((c.tc : Thread Cert.OutPromptIdeal.nD Cert.OutPromptIdeal.τ).loc Cert.OutPromptIdeal.main_arg2) = m ((c.tc : Thread Cert.OutPromptIdeal.nD Cert.OutPromptIdeal.τ).loc Cert.OutPromptIdeal.main_arg2)
          ∧ r.2.mem ((c.tc : Thread Cert.OutPromptIdeal.nD Cert.OutPromptIdeal.τ).loc Cert.OutPromptIdeal.main_arg3) = m ((c.tc : Thread Cert.OutPromptIdeal.nD Cert.OutPromptIdeal.τ).loc Cert.OutPromptIdeal.main_arg3))
      ∧ θ_run (Cert.OutPromptReferenceIdeal.defs (F := Ideal)) (onTc (τ := Cert.OutPromptReferenceIdeal.τ) (Cert.OutPromptReferenceIdeal.main (F := Ideal))) ⟨m', fun _ => 0, g'⟩ (fun r => ∀ c : Dev Cert.OutPromptReferenceIdeal.nD,
          r.2.mem ((c.tc : Thread Cert.OutPromptReferenceIdeal.nD Cert.OutPromptReferenceIdeal.τ).loc Cert.OutPromptReferenceIdeal.main_v16) = v0 c
          ∧ r.2.mem ((c.tc : Thread Cert.OutPromptReferenceIdeal.nD Cert.OutPromptReferenceIdeal.τ).loc Cert.OutPromptReferenceIdeal.main_arg0) = m' ((c.tc : Thread Cert.OutPromptReferenceIdeal.nD Cert.OutPromptReferenceIdeal.τ).loc Cert.OutPromptReferenceIdeal.main_arg0)
          ∧ r.2.mem ((c.tc : Thread Cert.OutPromptReferenceIdeal.nD Cert.OutPromptReferenceIdeal.τ).loc Cert.OutPromptReferenceIdeal.main_arg1) = m' ((c.tc : Thread Cert.OutPromptReferenceIdeal.nD Cert.OutPromptReferenceIdeal.τ).loc Cert.OutPromptReferenceIdeal.main_arg1)
          ∧ r.2.mem ((c.tc : Thread Cert.OutPromptReferenceIdeal.nD Cert.OutPromptReferenceIdeal.τ).loc Cert.OutPromptReferenceIdeal.main_arg2) = m' ((c.tc : Thread Cert.OutPromptReferenceIdeal.nD Cert.OutPromptReferenceIdeal.τ).loc Cert.OutPromptReferenceIdeal.main_arg2)
          ∧ r.2.mem ((c.tc : Thread Cert.OutPromptReferenceIdeal.nD Cert.OutPromptReferenceIdeal.τ).loc Cert.OutPromptReferenceIdeal.main_arg3) = m' ((c.tc : Thread Cert.OutPromptReferenceIdeal.nD Cert.OutPromptReferenceIdeal.τ).loc Cert.OutPromptReferenceIdeal.main_arg3))

def preserves_OutSample_OutSampleIdeal : Prop :=
  True

def algebraic_OutSampleIdeal_OutSampleReferenceIdeal [hOutSampleIdeal : Cert.OutSampleIdeal.Facts] [hOutSampleReferenceIdeal : Cert.OutSampleReferenceIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleReferenceIdeal.nD Cert.OutSampleReferenceIdeal.τ Cert.OutSampleReferenceIdeal.sig) → Buf (Elt Ideal) ℓ) (g' : Dev Cert.OutSampleReferenceIdeal.nD → PrngReg), Pre_OutSampleIdeal m →
    (∀ c : Dev Cert.OutSampleIdeal.nD,
      m' ((c.tc : Thread Cert.OutSampleReferenceIdeal.nD Cert.OutSampleReferenceIdeal.τ).loc Cert.OutSampleReferenceIdeal.main_arg0) = m ((c.tc : Thread Cert.OutSampleIdeal.nD Cert.OutSampleIdeal.τ).loc Cert.OutSampleIdeal.main_arg0)
      ∧ m' ((c.tc : Thread Cert.OutSampleReferenceIdeal.nD Cert.OutSampleReferenceIdeal.τ).loc Cert.OutSampleReferenceIdeal.main_arg1) = m ((c.tc : Thread Cert.OutSampleIdeal.nD Cert.OutSampleIdeal.τ).loc Cert.OutSampleIdeal.main_arg1)
      ∧ m' ((c.tc : Thread Cert.OutSampleReferenceIdeal.nD Cert.OutSampleReferenceIdeal.τ).loc Cert.OutSampleReferenceIdeal.main_arg2) = m ((c.tc : Thread Cert.OutSampleIdeal.nD Cert.OutSampleIdeal.τ).loc Cert.OutSampleIdeal.main_arg2)
      ∧ m' ((c.tc : Thread Cert.OutSampleReferenceIdeal.nD Cert.OutSampleReferenceIdeal.τ).loc Cert.OutSampleReferenceIdeal.main_arg3) = m ((c.tc : Thread Cert.OutSampleIdeal.nD Cert.OutSampleIdeal.τ).loc Cert.OutSampleIdeal.main_arg3)) →
    ∃ (v0 : (c : Dev Cert.OutSampleIdeal.nD) → Buf (Elt Ideal) ((c.tc : Thread Cert.OutSampleIdeal.nD Cert.OutSampleIdeal.τ).loc Cert.OutSampleIdeal.main_v1_0)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v1_0) = v0 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3))
      ∧ θ_run (Cert.OutSampleReferenceIdeal.defs (F := Ideal)) (onTc (τ := Cert.OutSampleReferenceIdeal.τ) (Cert.OutSampleReferenceIdeal.main (F := Ideal))) ⟨m', fun _ => 0, g'⟩ (fun r => ∀ c : Dev Cert.OutSampleReferenceIdeal.nD,
          r.2.mem ((c.tc : Thread Cert.OutSampleReferenceIdeal.nD Cert.OutSampleReferenceIdeal.τ).loc Cert.OutSampleReferenceIdeal.main_v15) = v0 c
          ∧ r.2.mem ((c.tc : Thread Cert.OutSampleReferenceIdeal.nD Cert.OutSampleReferenceIdeal.τ).loc Cert.OutSampleReferenceIdeal.main_arg0) = m' ((c.tc : Thread Cert.OutSampleReferenceIdeal.nD Cert.OutSampleReferenceIdeal.τ).loc Cert.OutSampleReferenceIdeal.main_arg0)
          ∧ r.2.mem ((c.tc : Thread Cert.OutSampleReferenceIdeal.nD Cert.OutSampleReferenceIdeal.τ).loc Cert.OutSampleReferenceIdeal.main_arg1) = m' ((c.tc : Thread Cert.OutSampleReferenceIdeal.nD Cert.OutSampleReferenceIdeal.τ).loc Cert.OutSampleReferenceIdeal.main_arg1)
          ∧ r.2.mem ((c.tc : Thread Cert.OutSampleReferenceIdeal.nD Cert.OutSampleReferenceIdeal.τ).loc Cert.OutSampleReferenceIdeal.main_arg2) = m' ((c.tc : Thread Cert.OutSampleReferenceIdeal.nD Cert.OutSampleReferenceIdeal.τ).loc Cert.OutSampleReferenceIdeal.main_arg2)
          ∧ r.2.mem ((c.tc : Thread Cert.OutSampleReferenceIdeal.nD Cert.OutSampleReferenceIdeal.τ).loc Cert.OutSampleReferenceIdeal.main_arg3) = m' ((c.tc : Thread Cert.OutSampleReferenceIdeal.nD Cert.OutSampleReferenceIdeal.τ).loc Cert.OutSampleReferenceIdeal.main_arg3))

def Claim : Prop :=
  ∃ (hKernel : Cert.Kernel.Facts) (hKernelIdeal : Cert.KernelIdeal.Facts) (hReferenceIdeal : Cert.ReferenceIdeal.Facts) (hProjPrompt : Cert.ProjPrompt.Facts) (hProjPromptIdeal : Cert.ProjPromptIdeal.Facts) (hProjPromptReferenceIdeal : Cert.ProjPromptReferenceIdeal.Facts) (hKeysSample : Cert.KeysSample.Facts) (hKeysSampleIdeal : Cert.KeysSampleIdeal.Facts) (hKeysSampleReferenceIdeal : Cert.KeysSampleReferenceIdeal.Facts) (hValuesSample : Cert.ValuesSample.Facts) (hValuesSampleIdeal : Cert.ValuesSampleIdeal.Facts) (hValuesSampleReferenceIdeal : Cert.ValuesSampleReferenceIdeal.Facts) (hMergePrompt : Cert.MergePrompt.Facts) (hMergePromptIdeal : Cert.MergePromptIdeal.Facts) (hMergePromptReferenceIdeal : Cert.MergePromptReferenceIdeal.Facts) (hConvPrompt : Cert.ConvPrompt.Facts) (hConvPromptIdeal : Cert.ConvPromptIdeal.Facts) (hConvPromptReferenceIdeal : Cert.ConvPromptReferenceIdeal.Facts) (hConvSample : Cert.ConvSample.Facts) (hConvSampleIdeal : Cert.ConvSampleIdeal.Facts) (hConvSampleReferenceIdeal : Cert.ConvSampleReferenceIdeal.Facts) (hOutPrompt : Cert.OutPrompt.Facts) (hOutPromptIdeal : Cert.OutPromptIdeal.Facts) (hOutPromptReferenceIdeal : Cert.OutPromptReferenceIdeal.Facts) (hOutSample : Cert.OutSample.Facts) (hOutSampleIdeal : Cert.OutSampleIdeal.Facts) (hOutSampleReferenceIdeal : Cert.OutSampleReferenceIdeal.Facts) (hPre_pages_in_pool : Cert.Pre_pages_in_pool.Facts),
    quiescent_Kernel (hKernel := hKernel) (hPre_pages_in_pool := hPre_pages_in_pool)
    ∧ quiescent_KernelIdeal (hKernelIdeal := hKernelIdeal) (hPre_pages_in_pool := hPre_pages_in_pool)
    ∧ quiescent_ReferenceIdeal (hReferenceIdeal := hReferenceIdeal)
    ∧ quiescent_ReferenceIdeal_pre_pages_in_pool (hReferenceIdeal := hReferenceIdeal) (hPre_pages_in_pool := hPre_pages_in_pool)
    ∧ quiescent_ProjPrompt (hProjPrompt := hProjPrompt)
    ∧ quiescent_ProjPromptIdeal (hProjPromptIdeal := hProjPromptIdeal)
    ∧ quiescent_ProjPromptReferenceIdeal (hProjPromptReferenceIdeal := hProjPromptReferenceIdeal)
    ∧ quiescent_KeysSample (hKeysSample := hKeysSample)
    ∧ quiescent_KeysSampleIdeal (hKeysSampleIdeal := hKeysSampleIdeal)
    ∧ quiescent_KeysSampleReferenceIdeal (hKeysSampleReferenceIdeal := hKeysSampleReferenceIdeal)
    ∧ quiescent_ValuesSample (hValuesSample := hValuesSample)
    ∧ quiescent_ValuesSampleIdeal (hValuesSampleIdeal := hValuesSampleIdeal)
    ∧ quiescent_ValuesSampleReferenceIdeal (hValuesSampleReferenceIdeal := hValuesSampleReferenceIdeal)
    ∧ quiescent_MergePrompt (hMergePrompt := hMergePrompt)
    ∧ quiescent_MergePromptIdeal (hMergePromptIdeal := hMergePromptIdeal)
    ∧ quiescent_MergePromptReferenceIdeal (hMergePromptReferenceIdeal := hMergePromptReferenceIdeal)
    ∧ quiescent_ConvPrompt (hConvPrompt := hConvPrompt)
    ∧ quiescent_ConvPromptIdeal (hConvPromptIdeal := hConvPromptIdeal)
    ∧ quiescent_ConvPromptReferenceIdeal (hConvPromptReferenceIdeal := hConvPromptReferenceIdeal)
    ∧ quiescent_ConvSample (hConvSample := hConvSample)
    ∧ quiescent_ConvSampleIdeal (hConvSampleIdeal := hConvSampleIdeal)
    ∧ quiescent_ConvSampleReferenceIdeal (hConvSampleReferenceIdeal := hConvSampleReferenceIdeal)
    ∧ quiescent_OutPrompt (hOutPrompt := hOutPrompt)
    ∧ quiescent_OutPromptIdeal (hOutPromptIdeal := hOutPromptIdeal)
    ∧ quiescent_OutPromptReferenceIdeal (hOutPromptReferenceIdeal := hOutPromptReferenceIdeal)
    ∧ quiescent_OutSample (hOutSample := hOutSample)
    ∧ quiescent_OutSampleIdeal (hOutSampleIdeal := hOutSampleIdeal)
    ∧ quiescent_OutSampleReferenceIdeal (hOutSampleReferenceIdeal := hOutSampleReferenceIdeal)
    ∧ preserves_Kernel_KernelIdeal
    ∧ algebraic_KernelIdeal_ReferenceIdeal (hKernelIdeal := hKernelIdeal) (hReferenceIdeal := hReferenceIdeal) (hPre_pages_in_pool := hPre_pages_in_pool)
    ∧ preserves_ProjPrompt_ProjPromptIdeal
    ∧ algebraic_ProjPromptIdeal_ProjPromptReferenceIdeal (hProjPromptIdeal := hProjPromptIdeal) (hProjPromptReferenceIdeal := hProjPromptReferenceIdeal)
    ∧ preserves_KeysSample_KeysSampleIdeal
    ∧ algebraic_KeysSampleIdeal_KeysSampleReferenceIdeal (hKeysSampleIdeal := hKeysSampleIdeal) (hKeysSampleReferenceIdeal := hKeysSampleReferenceIdeal)
    ∧ preserves_ValuesSample_ValuesSampleIdeal
    ∧ algebraic_ValuesSampleIdeal_ValuesSampleReferenceIdeal (hValuesSampleIdeal := hValuesSampleIdeal) (hValuesSampleReferenceIdeal := hValuesSampleReferenceIdeal)
    ∧ preserves_MergePrompt_MergePromptIdeal
    ∧ algebraic_MergePromptIdeal_MergePromptReferenceIdeal (hMergePromptIdeal := hMergePromptIdeal) (hMergePromptReferenceIdeal := hMergePromptReferenceIdeal)
    ∧ preserves_ConvPrompt_ConvPromptIdeal
    ∧ algebraic_ConvPromptIdeal_ConvPromptReferenceIdeal (hConvPromptIdeal := hConvPromptIdeal) (hConvPromptReferenceIdeal := hConvPromptReferenceIdeal)
    ∧ preserves_ConvSample_ConvSampleIdeal
    ∧ algebraic_ConvSampleIdeal_ConvSampleReferenceIdeal (hConvSampleIdeal := hConvSampleIdeal) (hConvSampleReferenceIdeal := hConvSampleReferenceIdeal)
    ∧ preserves_OutPrompt_OutPromptIdeal
    ∧ algebraic_OutPromptIdeal_OutPromptReferenceIdeal (hOutPromptIdeal := hOutPromptIdeal) (hOutPromptReferenceIdeal := hOutPromptReferenceIdeal)
    ∧ preserves_OutSample_OutSampleIdeal
    ∧ algebraic_OutSampleIdeal_OutSampleReferenceIdeal (hOutSampleIdeal := hOutSampleIdeal) (hOutSampleReferenceIdeal := hOutSampleReferenceIdeal)
-- ==== Pre_pages_in_pool.lean ====
abbrev S128x16 : Shape := ⟨2, ![128, 16]⟩
abbrev S8192x4096 : Shape := ⟨2, ![8192, 4096]⟩
abbrev S4096x18432 : Shape := ⟨2, ![4096, 18432]⟩
abbrev S128x4x2048 : Shape := ⟨3, ![128, 4, 2048]⟩
abbrev S512x18432 : Shape := ⟨2, ![512, 18432]⟩
abbrev S2560x2048x128 : Shape := ⟨3, ![2560, 2048, 128]⟩
abbrev S32x16 : Shape := ⟨2, ![32, 16]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : IVec S128x16 32) (main_arg1 : FVec F S8192x4096 .bf16) (main_arg2 : FVec F S4096x18432 .bf16) (main_arg3 : FVec F S128x4x2048 .f32) (main_arg4 : FVec F S128x4x2048 .f32) (main_arg5 : FVec F S128x4x2048 .f32) (main_arg6 : FVec F S512x18432 .f32) (main_arg7 : FVec F S2560x2048x128 .f32) (main_arg8 : FVec F S2560x2048x128 .f32) (main_arg9 : FVec F S32x16 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  main_v4
-- ==== Kernel.lean ====
abbrev S128x16 : Shape := ⟨2, ![128, 16]⟩
abbrev S8192x4096 : Shape := ⟨2, ![8192, 4096]⟩
abbrev S4096x18432 : Shape := ⟨2, ![4096, 18432]⟩
abbrev S128x4x2048 : Shape := ⟨3, ![128, 4, 2048]⟩
abbrev S512x18432 : Shape := ⟨2, ![512, 18432]⟩
abbrev S2560x2048x128 : Shape := ⟨3, ![2560, 2048, 128]⟩
abbrev S32x16 : Shape := ⟨2, ![32, 16]⟩
abbrev S64 : Shape := ⟨1, ![64]⟩
abbrev S4x128 : Shape := ⟨2, ![4, 128]⟩
abbrev S64x1 : Shape := ⟨2, ![64, 1]⟩
abbrev S64x64 : Shape := ⟨2, ![64, 64]⟩
abbrev S128x4x16x128 : Shape := ⟨4, ![128, 4, 16, 128]⟩
abbrev S128x16x4x128 : Shape := ⟨4, ![128, 16, 4, 128]⟩
abbrev S128x64x128 : Shape := ⟨3, ![128, 64, 128]⟩
abbrev S64x2048 : Shape := ⟨2, ![64, 2048]⟩
abbrev S_ : Shape := ⟨0, ![]⟩
abbrev S132 : Shape := ⟨1, ![132]⟩
abbrev S132x1 : Shape := ⟨2, ![132, 1]⟩
abbrev S132x16 : Shape := ⟨2, ![132, 16]⟩
abbrev S16x132 : Shape := ⟨2, ![16, 132]⟩
abbrev S1x16 : Shape := ⟨2, ![1, 16]⟩
abbrev S16 : Shape := ⟨1, ![16]⟩
abbrev S4x128x1 : Shape := ⟨3, ![4, 128, 1]⟩
abbrev S16x4x128 : Shape := ⟨3, ![16, 4, 128]⟩
abbrev S16x4x128x1 : Shape := ⟨4, ![16, 4, 128, 1]⟩
abbrev S16x4x128x16 : Shape := ⟨4, ![16, 4, 128, 16]⟩
abbrev S1x64x2048 : Shape := ⟨3, ![1, 64, 2048]⟩
abbrev S2x64x2048 : Shape := ⟨3, ![2, 64, 2048]⟩
abbrev S64x64x1 : Shape := ⟨3, ![64, 64, 1]⟩
abbrev S64x64x2 : Shape := ⟨3, ![64, 64, 2]⟩
abbrev S512x2048 : Shape := ⟨2, ![512, 2048]⟩
abbrev S8192x18432 : Shape := ⟨2, ![8192, 18432]⟩
abbrev S512x4096 : Shape := ⟨2, ![512, 4096]⟩
abbrev S4096x1024 : Shape := ⟨2, ![4096, 1024]⟩
abbrev S1x64x128 : Shape := ⟨3, ![1, 64, 128]⟩
abbrev S1x2048x128 : Shape := ⟨3, ![1, 2048, 128]⟩
abbrev S1x1 : Shape := ⟨2, ![1, 1]⟩
abbrev S8x2048 : Shape := ⟨2, ![8, 2048]⟩
abbrev S512x1024 : Shape := ⟨2, ![512, 1024]⟩
abbrev S16x64x128 : Shape := ⟨3, ![16, 64, 128]⟩
abbrev S128x128 : Shape := ⟨2, ![128, 128]⟩
abbrev S64x128 : Shape := ⟨2, ![64, 128]⟩
abbrev S2048x128 : Shape := ⟨2, ![2048, 128]⟩
abbrev S4096x256 : Shape := ⟨2, ![4096, 256]⟩
abbrev S512x256 : Shape := ⟨2, ![512, 256]⟩
abbrev S128x16x128 : Shape := ⟨3, ![128, 16, 128]⟩
abbrev S16x128 : Shape := ⟨2, ![16, 128]⟩
abbrev S4x2048 : Shape := ⟨2, ![4, 2048]⟩

abbrev nBuf : Space → Nat
  | .hbm => 166
  | .vmem => 57
  | .smem => 1
  | _ => 0

abbrev hbmTy0_0 (i : Nat) : BufTy := match i % 128 with
  | 0 => ⟨S8192x4096, .bf16⟩
  | 1 => ⟨S4096x18432, .bf16⟩
  | 2 => ⟨S128x4x2048, .f32⟩
  | 3 => ⟨S128x4x2048, .f32⟩
  | 4 => ⟨S128x4x2048, .f32⟩
  | 5 => ⟨S512x18432, .f32⟩
  | 6 => ⟨S2560x2048x128, .f32⟩
  | 7 => ⟨S2560x2048x128, .f32⟩
  | 8 => ⟨S32x16, .f32⟩
  | 9 => ⟨S64, .i32⟩
  | 10 => ⟨S64, .i1⟩
  | 11 => ⟨S4x128, .i32⟩
  | 12 => ⟨S4x128, .i1⟩
  | 13 => ⟨S64x1, .i32⟩
  | 14 => ⟨S64x1, .i1⟩
  | 15 => ⟨S64x64, .i32⟩
  | 16 => ⟨S64x64, .i1⟩
  | 17 => ⟨S64x64, .i1⟩
  | 18 => ⟨S128x4x16x128, .f32⟩
  | 19 => ⟨S128x16x4x128, .f32⟩
  | 20 => ⟨S128x64x128, .f32⟩
  | 21 => ⟨S128x64x128, .f32⟩
  | 22 => ⟨S128x64x128, .bf16⟩
  | 23 => ⟨S128x64x128, .f32⟩
  | 24 => ⟨S128x64x128, .bf16⟩
  | 25 => ⟨S64x2048, .i32⟩
  | 26 => ⟨S_, .i32⟩
  | 27 => ⟨S_, .i32⟩
  | 28 => ⟨S64x2048, .i32⟩
  | 29 => ⟨S64x2048, .i32⟩
  | 30 => ⟨S64x2048, .i32⟩
  | 31 => ⟨S_, .i32⟩
  | 32 => ⟨S64x2048, .i32⟩
  | 33 => ⟨S64x2048, .i1⟩
  | 34 => ⟨S64x2048, .i32⟩
  | 35 => ⟨S64x2048, .i32⟩
  | 36 => ⟨S_, .i32⟩
  | 37 => ⟨S64x2048, .i32⟩
  | 38 => ⟨S64x2048, .i1⟩
  | 39 => ⟨S64x2048, .i1⟩
  | 40 => ⟨S_, .i32⟩
  | 41 => ⟨S64x2048, .i32⟩
  | 42 => ⟨S64x2048, .i32⟩
  | 43 => ⟨S64x2048, .i32⟩
  | 44 => ⟨S64x2048, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S64x2048, .i32⟩
  | 52 => ⟨S64x2048, .i32⟩
  | 53 => ⟨S_, .i32⟩
  | 54 => ⟨S64x2048, .i32⟩
  | 55 => ⟨S64x2048, .i1⟩
  | 56 => ⟨S_, .i32⟩
  | 57 => ⟨S64x2048, .i32⟩
  | 58 => ⟨S64x2048, .i1⟩
  | 59 => ⟨S_, .i32⟩
  | 60 => ⟨S_, .i1⟩
  | 61 => ⟨S64x2048, .i1⟩
  | 62 => ⟨S64x2048, .i1⟩
  | 63 => ⟨S64x2048, .i1⟩
  | 64 => ⟨S64x2048, .i32⟩
  | 65 => ⟨S64x2048, .i32⟩
  | 66 => ⟨S64x2048, .i32⟩
  | 67 => ⟨S64x2048, .i1⟩
  | 68 => ⟨S132, .i32⟩
  | 69 => ⟨S_, .i32⟩
  | 70 => ⟨S132, .i32⟩
  | 71 => ⟨S132, .i32⟩
  | 72 => ⟨S_, .i32⟩
  | 73 => ⟨S132, .i32⟩
  | 74 => ⟨S132, .i32⟩
  | 75 => ⟨S132, .f32⟩
  | 76 => ⟨S_, .f32⟩
  | 77 => ⟨S132, .f32⟩
  | 78 => ⟨S132, .f32⟩
  | 79 => ⟨S132, .f32⟩
  | 80 => ⟨S_, .f32⟩
  | 81 => ⟨S132, .f32⟩
  | 82 => ⟨S132, .f32⟩
  | 83 => ⟨S_, .f32⟩
  | 84 => ⟨S132, .f32⟩
  | 85 => ⟨S132, .f32⟩
  | 86 => ⟨S132, .i32⟩
  | 87 => ⟨S_, .i32⟩
  | 88 => ⟨S132, .i32⟩
  | 89 => ⟨S132, .i32⟩
  | 90 => ⟨S_, .i32⟩
  | 91 => ⟨S132, .i32⟩
  | 92 => ⟨S132, .i32⟩
  | 93 => ⟨S_, .i32⟩
  | 94 => ⟨S132, .i32⟩
  | 95 => ⟨S132, .i1⟩
  | 96 => ⟨S132, .i32⟩
  | 97 => ⟨S_, .i32⟩
  | 98 => ⟨S132, .i32⟩
  | 99 => ⟨S132, .i1⟩
  | 100 => ⟨S_, .i32⟩
  | 101 => ⟨S132, .i32⟩
  | 102 => ⟨S132, .i32⟩
  | 103 => ⟨S132, .i32⟩
  | 104 => ⟨S132x1, .i32⟩
  | 105 => ⟨S132x16, .f32⟩
  | 106 => ⟨S16x132, .f32⟩
  | 107 => ⟨S1x16, .f32⟩
  | 108 => ⟨S16, .f32⟩
  | 109 => ⟨S_, .i32⟩
  | 110 => ⟨S64, .i32⟩
  | 111 => ⟨S64, .i32⟩
  | 112 => ⟨S64, .i32⟩
  | 113 => ⟨S64x1, .i32⟩
  | 114 => ⟨S64, .f32⟩
  | 115 => ⟨S64x1, .f32⟩
  | 116 => ⟨S_, .f32⟩
  | 117 => ⟨S_, .f32⟩
  | 118 => ⟨S64x2048, .f32⟩
  | 119 => ⟨S64x2048, .f32⟩
  | 120 => ⟨S64x2048, .f32⟩
  | 121 => ⟨S_, .i32⟩
  | 122 => ⟨S4x128, .i32⟩
  | 123 => ⟨S4x128, .i32⟩
  | 124 => ⟨S4x128, .i32⟩
  | 125 => ⟨S4x128x1, .i32⟩
  | 126 => ⟨S16x4x128, .f32⟩
  | 127 => ⟨S16x4x128x1, .f32⟩
  | _ => ⟨S8192x4096, .bf16⟩

abbrev hbmTy0_1 (i : Nat) : BufTy := match i % 128 with
  | 0 => ⟨S16x4x128x16, .f32⟩
  | 1 => ⟨S64x2048, .f32⟩
  | 2 => ⟨S_, .f32⟩
  | 3 => ⟨S_, .f32⟩
  | 4 => ⟨S64x2048, .f32⟩
  | 5 => ⟨S64x2048, .f32⟩
  | 6 => ⟨S1x64x2048, .f32⟩
  | 7 => ⟨S1x64x2048, .f32⟩
  | 8 => ⟨S2x64x2048, .f32⟩
  | 9 => ⟨S_, .f32⟩
  | 10 => ⟨S2x64x2048, .f32⟩
  | 11 => ⟨S2x64x2048, .f32⟩
  | 12 => ⟨S_, .i32⟩
  | 13 => ⟨S64x1, .i32⟩
  | 14 => ⟨S64x1, .i32⟩
  | 15 => ⟨S64x1, .i32⟩
  | 16 => ⟨S_, .i32⟩
  | 17 => ⟨S64x64, .i32⟩
  | 18 => ⟨S64x64, .i32⟩
  | 19 => ⟨S64x64, .i32⟩
  | 20 => ⟨S64x64, .i32⟩
  | 21 => ⟨S64x64x1, .i32⟩
  | 22 => ⟨S64x64x1, .i32⟩
  | 23 => ⟨S64x64x2, .i32⟩
  | 24 => ⟨S64x64, .f32⟩
  | 25 => ⟨S_, .f32⟩
  | 26 => ⟨S_, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S_, .f32⟩
  | 33 => ⟨S128x64x128, .f32⟩
  | 34 => ⟨S128x64x128, .f32⟩
  | 35 => ⟨S128x64x128, .bf16⟩
  | 36 => ⟨S512x2048, .f32⟩
  | 37 => ⟨S8192x18432, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x64x128, .f32⟩
  | .local _ .vmem, ⟨4, _⟩ => ⟨S1x64x128, .f32⟩
  | .local _ .vmem, ⟨5, _⟩ => ⟨S1x64x128, .bf16⟩
  | .local _ .vmem, ⟨6, _⟩ => ⟨S1x64x128, .bf16⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .f32⟩
  | .local _ .vmem, ⟨19, _⟩ => ⟨S1x2048x128, .f32⟩
  | .local _ .vmem, ⟨20, _⟩ => ⟨S1x2048x128, .f32⟩
  | .local _ .vmem, ⟨21, _⟩ => ⟨S1x2048x128, .f32⟩
  | .local _ .vmem, ⟨22, _⟩ => ⟨S1x2048x128, .f32⟩
  | .local _ .vmem, ⟨23, _⟩ => ⟨S1x2048x128, .f32⟩
  | .local _ .vmem, ⟨24, _⟩ => ⟨S1x2048x128, .f32⟩
  | .local _ .vmem, ⟨25, _⟩ => ⟨S1x2048x128, .f32⟩
  | .local _ .vmem, ⟨26, _⟩ => ⟨S1x2048x128, .f32⟩
  | .local _ .vmem, ⟨27, _⟩ => ⟨S1x2048x128, .f32⟩
  | .local _ .vmem, ⟨28, _⟩ => ⟨S1x2048x128, .f32⟩
  | .local _ .vmem, ⟨29, _⟩ => ⟨S1x2048x128, .f32⟩
  | .local _ .vmem, ⟨30, _⟩ => ⟨S1x2048x128, .f32⟩
  | .local _ .vmem, ⟨31, _⟩ => ⟨S1x2048x128, .f32⟩
  | .local _ .vmem, ⟨32, _⟩ => ⟨S1x2048x128, .f32⟩
  | .local _ .vmem, ⟨33, _⟩ => ⟨S1x2048x128, .f32⟩
  | .local _ .vmem, ⟨34, _⟩ => ⟨S1x2048x128, .f32⟩
  | .local _ .vmem, ⟨35, _⟩ => ⟨S1x2048x128, .f32⟩
  | .local _ .vmem, ⟨36, _⟩ => ⟨S1x2048x128, .f32⟩
  | .local _ .vmem, ⟨37, _⟩ => ⟨S1x2048x128, .f32⟩
  | .local _ .vmem, ⟨38, _⟩ => ⟨S1x2048x128, .f32⟩
  | .local _ .vmem, ⟨39, _⟩ => ⟨S1x64x2048, .f32⟩
  | .local _ .vmem, ⟨40, _⟩ => ⟨S1x64x2048, .f32⟩
  | .local _ .vmem, ⟨41, _⟩ => ⟨S1x64x2048, .f32⟩
  | .local _ .vmem, ⟨42, _⟩ => ⟨S1x64x128, .bf16⟩
  | .local _ .vmem, ⟨43, _⟩ => ⟨S1x64x128, .bf16⟩
  | .local _ .vmem, ⟨44, _⟩ => ⟨S1x64x128, .bf16⟩
  | .local _ .vmem, ⟨45, _⟩ => ⟨S1x64x128, .bf16⟩
  | .local _ .vmem, ⟨46, _⟩ => ⟨S64x64, .f32⟩
  | .local _ .vmem, ⟨47, _⟩ => ⟨S8x2048, .f32⟩
  | .local _ .vmem, ⟨48, _⟩ => ⟨S8x2048, .f32⟩
  | .local _ .vmem, ⟨49, _⟩ => ⟨S8x2048, .f32⟩
  | .local _ .vmem, ⟨50, _⟩ => ⟨S8x2048, .f32⟩
  | .local _ .vmem, ⟨51, _⟩ => ⟨S512x1024, .bf16⟩
  | .local _ .vmem, ⟨52, _⟩ => ⟨S512x1024, .bf16⟩
  | .local _ .vmem, ⟨53, _⟩ => ⟨S16x64x128, .f32⟩
  | .local _ .vmem, ⟨54, _⟩ => ⟨S16x64x128, .f32⟩
  | .local _ .vmem, ⟨55, _⟩ => ⟨S16x64x128, .f32⟩
  | .local _ .vmem, ⟨56, _⟩ => ⟨S128x128, .f32⟩
  | .local _ .smem, ⟨0, _⟩ => ⟨S128x16, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_c_7 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_8 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v8 : Ref sig .tc := ⟨.hbm, 43, rfl⟩
abbrev main_v9 : Ref sig .tc := ⟨.hbm, 44, rfl⟩
abbrev main_c_9 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_c_10 : Ref sig .tc := ⟨.hbm, 69, rfl⟩
abbrev main_v13 : Ref sig .tc := ⟨.hbm, 70, rfl⟩
abbrev main_v14 : Ref sig .tc := ⟨.hbm, 71, rfl⟩
abbrev main_c_11 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_cst : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_cst_12 : Ref sig .tc := ⟨.hbm, 80, rfl⟩
abbrev main_v21 : Ref sig .tc := ⟨.hbm, 81, rfl⟩
abbrev main_v22 : Ref sig .tc := ⟨.hbm, 82, rfl⟩
abbrev main_cst_13 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_c_14 : Ref sig .tc := ⟨.hbm, 87, rfl⟩
abbrev main_v26 : Ref sig .tc := ⟨.hbm, 88, rfl⟩
abbrev main_v27 : Ref sig .tc := ⟨.hbm, 89, rfl⟩
abbrev main_c_15 : Ref sig .tc := ⟨.hbm, 90, rfl⟩
abbrev main_v28 : Ref sig .tc := ⟨.hbm, 91, rfl⟩
abbrev main_v29 : Ref sig .tc := ⟨.hbm, 92, rfl⟩
abbrev main_c_16 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_c_17 : Ref sig .tc := ⟨.hbm, 97, rfl⟩
abbrev main_v33 : Ref sig .tc := ⟨.hbm, 98, rfl⟩
abbrev main_v34 : Ref sig .tc := ⟨.hbm, 99, rfl⟩
abbrev main_c_18 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_c_19 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_20 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v49 : Ref sig .tc := ⟨.hbm, 120, rfl⟩
abbrev main_c_21 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_cst_22 : Ref sig .tc := ⟨.hbm, 130, rfl⟩
abbrev main_call4_v0 : Ref sig .tc := ⟨.hbm, 131, rfl⟩
abbrev main_call4_v1 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_cst_23 : Ref sig .tc := ⟨.hbm, 137, rfl⟩
abbrev main_v62 : Ref sig .tc := ⟨.hbm, 138, rfl⟩
abbrev main_v63 : Ref sig .tc := ⟨.hbm, 139, rfl⟩
abbrev main_c_24 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_c_25 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_cst_26 : Ref sig .tc := ⟨.hbm, 153, rfl⟩
abbrev main_call5_v0 : Ref sig .tc := ⟨.hbm, 154, rfl⟩
abbrev main_call5_v1 : Ref sig .tc := ⟨.hbm, 155, rfl⟩
abbrev main_v75 : Ref sig .tc := ⟨.hbm, 156, rfl⟩
abbrev main_cst_27 : Ref sig .tc := ⟨.hbm, 157, rfl⟩
abbrev main_v76 : Ref sig .tc := ⟨.hbm, 158, rfl⟩
abbrev main_v77 : Ref sig .tc := ⟨.hbm, 159, rfl⟩
abbrev main_cst_28 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81_0 : Ref sig .tc := ⟨.hbm, 164, rfl⟩
abbrev main_v81_1 : Ref sig .tc := ⟨.hbm, 165, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg25_0 : Ref sig .tc := ⟨.vmem, 47, rfl⟩
abbrev cc0_stg25_1 : Ref sig .tc := ⟨.vmem, 48, rfl⟩
abbrev cc0_stg26_0 : Ref sig .tc := ⟨.vmem, 49, rfl⟩
abbrev cc0_stg26_1 : Ref sig .tc := ⟨.vmem, 50, rfl⟩
abbrev cc0_stg27_0 : Ref sig .tc := ⟨.vmem, 51, rfl⟩
abbrev cc0_stg27_1 : Ref sig .tc := ⟨.vmem, 52, rfl⟩
abbrev cc0_scratch0 : Ref sig .tc := ⟨.vmem, 53, rfl⟩
abbrev cc0_scratch1 : Ref sig .tc := ⟨.vmem, 54, rfl⟩
abbrev cc0_scratch2 : Ref sig .tc := ⟨.vmem, 55, rfl⟩
abbrev cc0_scratch3 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45
abbrev cc0_sem24_0 : DmaSem sig := 46
abbrev cc0_sem25_0 : DmaSem sig := 47
abbrev cc0_sem25_1 : DmaSem sig := 48
abbrev cc0_sem26_0 : DmaSem sig := 49
abbrev cc0_sem26_1 : DmaSem sig := 50
abbrev cc0_sem27_0 : DmaSem sig := 51
abbrev cc0_sem27_1 : DmaSem sig := 52

abbrev nD : Nat := 1
abbrev τ : Topo := Topo.v7x

variable {F : FTy → Type} [FloatOps F]

abbrev grid0 : Pipeline.Grid := ⟨2, ![18, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_28 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let v66 : Index := Scalar.indexCast v19
  let c16_i32_11 : BitVec 32 := 16#32
  let v32 : BitVec 32 := Scalar.muli arg0 c16_i32_11
  let v33 : BitVec 32 := Scalar.addi v32 arg1
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let v34 : BitVec 32 := Scalar.divsi v33 c2_i32_12
  let c1_i32_18 : BitVec 32 := 1#32
  let v49 : BitVec 32 := Scalar.subi v34 c1_i32_18
  let v50 : BitVec 32 := Scalar.select v48 v49 v34
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let c0_i32_24 : BitVec 32 := 0#32
  let v56 : BitVec 1 := Scalar.cmpi .ne v55 c0_i32_24
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let v65 : BitVec 32 := Scalar.addi v64 c0_i32_28
  let v67 : Index := Scalar.indexCast v65
  ![v66.toNat, v67.toNat]
def k0_off2 (i : grid0.Coords) (c0_i32_33 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c8_i32 : BitVec 32 := 8#32
  let v53 : BitVec 32 := Scalar.muli v31 c8_i32
  let v54 : BitVec 32 := Scalar.addi v53 c0_i32_33
  let v67 : Index := Scalar.indexCast v54
  let c0_40 : Index := 0#32
  let c0_41 : Index := 0#32
  ![v67.toNat, 0, 0]
def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c8_i32 : BitVec 32 := 8#32
  let v53 : BitVec 32 := Scalar.muli v31 c8_i32
  let c0_i32_33 : BitVec 32 := 0#32
  let v54 : BitVec 32 := Scalar.addi v53 c0_i32_33
  let c0_i32_48 : BitVec 32 := 0#32
  let v86 : BitVec 1 := Scalar.cmpi .sgt v54 c0_i32_48
  let v87 : BitVec 32 := Scalar.extui v86
  let c0_i32_49 : BitVec 32 := 0#32
  let v88 : BitVec 1 := Scalar.cmpi .slt v54 c0_i32_49
  let v89 : BitVec 32 := Scalar.extui v88
  let v90 : BitVec 32 := Scalar.subi v87 v89
  let c2_i32_47 : BitVec 32 := 2#32
  let c0_i32_50 : BitVec 32 := 0#32
  let v91 : BitVec 1 := Scalar.cmpi .sgt c2_i32_47 c0_i32_50
  let v92 : BitVec 32 := Scalar.extui v91
  let c0_i32_51 : BitVec 32 := 0#32
  let v93 : BitVec 1 := Scalar.cmpi .slt c2_i32_47 c0_i32_51
  let v94 : BitVec 32 := Scalar.extui v93
  let v95 : BitVec 32 := Scalar.subi v92 v94
  let v96 : BitVec 1 := Scalar.cmpi .ne v90 v95
  let v97 : BitVec 32 := Scalar.remsi v54 c2_i32_47
  let c0_i32_52 : BitVec 32 := 0#32
  let v98 : BitVec 1 := Scalar.cmpi .ne v97 c0_i32_52
  let v99 : BitVec 1 := Scalar.andi v96 v98
  let v85 : BitVec 32 := Scalar.divsi v54 c2_i32_47
  let c1_i32_53 : BitVec 32 := 1#32
  let v100 : BitVec 32 := Scalar.subi v85 c1_i32_53
  let v101 : BitVec 32 := Scalar.select v99 v100 v85
  let c16_i32_54 : BitVec 32 := 16#32
  let v102 : BitVec 32 := Scalar.muli v101 c16_i32_54
  v102
def k0_off3 (i : grid0.Coords) (c0_i32_33 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c8_i32 : BitVec 32 := 8#32
  let v53 : BitVec 32 := Scalar.muli v31 c8_i32
  let v54 : BitVec 32 := Scalar.addi v53 c0_i32_33
  let c0_i32_48 : BitVec 32 := 0#32
  let v86 : BitVec 1 := Scalar.cmpi .sgt v54 c0_i32_48
  let v87 : BitVec 32 := Scalar.extui v86
  let c0_i32_49 : BitVec 32 := 0#32
  let v88 : BitVec 1 := Scalar.cmpi .slt v54 c0_i32_49
  let v89 : BitVec 32 := Scalar.extui v88
  let v90 : BitVec 32 := Scalar.subi v87 v89
  let c2_i32_47 : BitVec 32 := 2#32
  let c0_i32_50 : BitVec 32 := 0#32
  let v91 : BitVec 1 := Scalar.cmpi .sgt c2_i32_47 c0_i32_50
  let v92 : BitVec 32 := Scalar.extui v91
  let c0_i32_51 : BitVec 32 := 0#32
  let v93 : BitVec 1 := Scalar.cmpi .slt c2_i32_47 c0_i32_51
  let v94 : BitVec 32 := Scalar.extui v93
  let v95 : BitVec 32 := Scalar.subi v92 v94
  let v96 : BitVec 1 := Scalar.cmpi .ne v90 v95
  let v97 : BitVec 32 := Scalar.remsi v54 c2_i32_47
  let c0_i32_52 : BitVec 32 := 0#32
  let v98 : BitVec 1 := Scalar.cmpi .ne v97 c0_i32_52
  let v99 : BitVec 1 := Scalar.andi v96 v98
  let v85 : BitVec 32 := Scalar.divsi v54 c2_i32_47
  let c1_i32_53 : BitVec 32 := 1#32
  let v100 : BitVec 32 := Scalar.subi v85 c1_i32_53
  let v101 : BitVec 32 := Scalar.select v99 v100 v85
  let c16_i32_54 : BitVec 32 := 16#32
  let v102 : BitVec 32 := Scalar.muli v101 c16_i32_54
  let v103 : BitVec 32 := v102
  let v104 : Index := Scalar.indexCast v103
  let c0_55 : Index := 0#32
  ![v104.toNat, 0]
def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c8_i32_56 : BitVec 32 := 8#32
  let v108 : BitVec 32 := Scalar.muli v31 c8_i32_56
  let c1_i32_57 : BitVec 32 := 1#32
  let v109 : BitVec 32 := Scalar.addi v108 c1_i32_57
  let c0_i32_72 : BitVec 32 := 0#32
  let v141 : BitVec 1 := Scalar.cmpi .sgt v109 c0_i32_72
  let v142 : BitVec 32 := Scalar.extui v141
  let c0_i32_73 : BitVec 32 := 0#32
  let v143 : BitVec 1 := Scalar.cmpi .slt v109 c0_i32_73
  let v144 : BitVec 32 := Scalar.extui v143
  let v145 : BitVec 32 := Scalar.subi v142 v144
  let c2_i32_71 : BitVec 32 := 2#32
  let c0_i32_74 : BitVec 32 := 0#32
  let v146 : BitVec 1 := Scalar.cmpi .sgt c2_i32_71 c0_i32_74
  let v147 : BitVec 32 := Scalar.extui v146
  let c0_i32_75 : BitVec 32 := 0#32
  let v148 : BitVec 1 := Scalar.cmpi .slt c2_i32_71 c0_i32_75
  let v149 : BitVec 32 := Scalar.extui v148
  let v150 : BitVec 32 := Scalar.subi v147 v149
  let v151 : BitVec 1 := Scalar.cmpi .ne v145 v150
  let v152 : BitVec 32 := Scalar.remsi v109 c2_i32_71
  let c0_i32_76 : BitVec 32 := 0#32
  let v153 : BitVec 1 := Scalar.cmpi .ne v152 c0_i32_76
  let v154 : BitVec 1 := Scalar.andi v151 v153
  let v140 : BitVec 32 := Scalar.divsi v109 c2_i32_71
  let c1_i32_77 : BitVec 32 := 1#32
  let v155 : BitVec 32 := Scalar.subi v140 c1_i32_77
  let v156 : BitVec 32 := Scalar.select v154 v155 v140
  let c16_i32_78 : BitVec 32 := 16#32
  let v157 : BitVec 32 := Scalar.muli v156 c16_i32_78
  v157
def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c8_i32_101 : BitVec 32 := 8#32
  let v185 : BitVec 32 := Scalar.muli v31 c8_i32_101
  let c2_i32_102 : BitVec 32 := 2#32
  let v186 : BitVec 32 := Scalar.addi v185 c2_i32_102
  let c0_i32_117 : BitVec 32 := 0#32
  let v218 : BitVec 1 := Scalar.cmpi .sgt v186 c0_i32_117
  let v219 : BitVec 32 := Scalar.extui v218
  let c0_i32_118 : BitVec 32 := 0#32
  let v220 : BitVec 1 := Scalar.cmpi .slt v186 c0_i32_118
  let v221 : BitVec 32 := Scalar.extui v220
  let v222 : BitVec 32 := Scalar.subi v219 v221
  let c2_i32_116 : BitVec 32 := 2#32
  let c0_i32_119 : BitVec 32 := 0#32
  let v223 : BitVec 1 := Scalar.cmpi .sgt c2_i32_116 c0_i32_119
  let v224 : BitVec 32 := Scalar.extui v223
  let c0_i32_120 : BitVec 32 := 0#32
  let v225 : BitVec 1 := Scalar.cmpi .slt c2_i32_116 c0_i32_120
  let v226 : BitVec 32 := Scalar.extui v225
  let v227 : BitVec 32 := Scalar.subi v224 v226
  let v228 : BitVec 1 := Scalar.cmpi .ne v222 v227
  let v229 : BitVec 32 := Scalar.remsi v186 c2_i32_116
  let c0_i32_121 : BitVec 32 := 0#32
  let v230 : BitVec 1 := Scalar.cmpi .ne v229 c0_i32_121
  let v231 : BitVec 1 := Scalar.andi v228 v230
  let v217 : BitVec 32 := Scalar.divsi v186 c2_i32_116
  let c1_i32_122 : BitVec 32 := 1#32
  let v232 : BitVec 32 := Scalar.subi v217 c1_i32_122
  let v233 : BitVec 32 := Scalar.select v231 v232 v217
  let c16_i32_123 : BitVec 32 := 16#32
  let v234 : BitVec 32 := Scalar.muli v233 c16_i32_123
  v234
def k0_mult4 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c8_i32_125 : BitVec 32 := 8#32
  let v240 : BitVec 32 := Scalar.muli v31 c8_i32_125
  let c3_i32 : BitVec 32 := 3#32
  let v241 : BitVec 32 := Scalar.addi v240 c3_i32
  let c0_i32_140 : BitVec 32 := 0#32
  let v273 : BitVec 1 := Scalar.cmpi .sgt v241 c0_i32_140
  let v274 : BitVec 32 := Scalar.extui v273
  let c0_i32_141 : BitVec 32 := 0#32
  let v275 : BitVec 1 := Scalar.cmpi .slt v241 c0_i32_141
  let v276 : BitVec 32 := Scalar.extui v275
  let v277 : BitVec 32 := Scalar.subi v274 v276
  let c2_i32_139 : BitVec 32 := 2#32
  let c0_i32_142 : BitVec 32 := 0#32
  let v278 : BitVec 1 := Scalar.cmpi .sgt c2_i32_139 c0_i32_142
  let v279 : BitVec 32 := Scalar.extui v278
  let c0_i32_143 : BitVec 32 := 0#32
  let v280 : BitVec 1 := Scalar.cmpi .slt c2_i32_139 c0_i32_143
  let v281 : BitVec 32 := Scalar.extui v280
  let v282 : BitVec 32 := Scalar.subi v279 v281
  let v283 : BitVec 1 := Scalar.cmpi .ne v277 v282
  let v284 : BitVec 32 := Scalar.remsi v241 c2_i32_139
  let c0_i32_144 : BitVec 32 := 0#32
  let v285 : BitVec 1 := Scalar.cmpi .ne v284 c0_i32_144
  let v286 : BitVec 1 := Scalar.andi v283 v285
  let v272 : BitVec 32 := Scalar.divsi v241 c2_i32_139
  let c1_i32_145 : BitVec 32 := 1#32
  let v287 : BitVec 32 := Scalar.subi v272 c1_i32_145
  let v288 : BitVec 32 := Scalar.select v286 v287 v272
  let c16_i32_146 : BitVec 32 := 16#32
  let v289 : BitVec 32 := Scalar.muli v288 c16_i32_146
  v289
def k0_mult5 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c8_i32_169 : BitVec 32 := 8#32
  let v317 : BitVec 32 := Scalar.muli v31 c8_i32_169
  let c4_i32 : BitVec 32 := 4#32
  let v318 : BitVec 32 := Scalar.addi v317 c4_i32
  let c0_i32_184 : BitVec 32 := 0#32
  let v350 : BitVec 1 := Scalar.cmpi .sgt v318 c0_i32_184
  let v351 : BitVec 32 := Scalar.extui v350
  let c0_i32_185 : BitVec 32 := 0#32
  let v352 : BitVec 1 := Scalar.cmpi .slt v318 c0_i32_185
  let v353 : BitVec 32 := Scalar.extui v352
  let v354 : BitVec 32 := Scalar.subi v351 v353
  let c2_i32_183 : BitVec 32 := 2#32
  let c0_i32_186 : BitVec 32 := 0#32
  let v355 : BitVec 1 := Scalar.cmpi .sgt c2_i32_183 c0_i32_186
  let v356 : BitVec 32 := Scalar.extui v355
  let c0_i32_187 : BitVec 32 := 0#32
  let v357 : BitVec 1 := Scalar.cmpi .slt c2_i32_183 c0_i32_187
  let v358 : BitVec 32 := Scalar.extui v357
  let v359 : BitVec 32 := Scalar.subi v356 v358
  let v360 : BitVec 1 := Scalar.cmpi .ne v354 v359
  let v361 : BitVec 32 := Scalar.remsi v318 c2_i32_183
  let c0_i32_188 : BitVec 32 := 0#32
  let v362 : BitVec 1 := Scalar.cmpi .ne v361 c0_i32_188
  let v363 : BitVec 1 := Scalar.andi v360 v362
  let v349 : BitVec 32 := Scalar.divsi v318 c2_i32_183
  let c1_i32_189 : BitVec 32 := 1#32
  let v364 : BitVec 32 := Scalar.subi v349 c1_i32_189
  let v365 : BitVec 32 := Scalar.select v363 v364 v349
  let c16_i32_190 : BitVec 32 := 16#32
  let v366 : BitVec 32 := Scalar.muli v365 c16_i32_190
  v366
def k0_mult6 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c8_i32_192 : BitVec 32 := 8#32
  let v372 : BitVec 32 := Scalar.muli v31 c8_i32_192
  let c5_i32 : BitVec 32 := 5#32
  let v373 : BitVec 32 := Scalar.addi v372 c5_i32
  let c0_i32_207 : BitVec 32 := 0#32
  let v405 : BitVec 1 := Scalar.cmpi .sgt v373 c0_i32_207
  let v406 : BitVec 32 := Scalar.extui v405
  let c0_i32_208 : BitVec 32 := 0#32
  let v407 : BitVec 1 := Scalar.cmpi .slt v373 c0_i32_208
  let v408 : BitVec 32 := Scalar.extui v407
  let v409 : BitVec 32 := Scalar.subi v406 v408
  let c2_i32_206 : BitVec 32 := 2#32
  let c0_i32_209 : BitVec 32 := 0#32
  let v410 : BitVec 1 := Scalar.cmpi .sgt c2_i32_206 c0_i32_209
  let v411 : BitVec 32 := Scalar.extui v410
  let c0_i32_210 : BitVec 32 := 0#32
  let v412 : BitVec 1 := Scalar.cmpi .slt c2_i32_206 c0_i32_210
  let v413 : BitVec 32 := Scalar.extui v412
  let v414 : BitVec 32 := Scalar.subi v411 v413
  let v415 : BitVec 1 := Scalar.cmpi .ne v409 v414
  let v416 : BitVec 32 := Scalar.remsi v373 c2_i32_206
  let c0_i32_211 : BitVec 32 := 0#32
  let v417 : BitVec 1 := Scalar.cmpi .ne v416 c0_i32_211
  let v418 : BitVec 1 := Scalar.andi v415 v417
  let v404 : BitVec 32 := Scalar.divsi v373 c2_i32_206
  let c1_i32_212 : BitVec 32 := 1#32
  let v419 : BitVec 32 := Scalar.subi v404 c1_i32_212
  let v420 : BitVec 32 := Scalar.select v418 v419 v404
  let c16_i32_213 : BitVec 32 := 16#32
  let v421 : BitVec 32 := Scalar.muli v420 c16_i32_213
  v421
def k0_mult7 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c8_i32_236 : BitVec 32 := 8#32
  let v449 : BitVec 32 := Scalar.muli v31 c8_i32_236
  let c6_i32 : BitVec 32 := 6#32
  let v450 : BitVec 32 := Scalar.addi v449 c6_i32
  let c0_i32_251 : BitVec 32 := 0#32
  let v482 : BitVec 1 := Scalar.cmpi .sgt v450 c0_i32_251
  let v483 : BitVec 32 := Scalar.extui v482
  let c0_i32_252 : BitVec 32 := 0#32
  let v484 : BitVec 1 := Scalar.cmpi .slt v450 c0_i32_252
  let v485 : BitVec 32 := Scalar.extui v484
  let v486 : BitVec 32 := Scalar.subi v483 v485
  let c2_i32_250 : BitVec 32 := 2#32
  let c0_i32_253 : BitVec 32 := 0#32
  let v487 : BitVec 1 := Scalar.cmpi .sgt c2_i32_250 c0_i32_253
  let v488 : BitVec 32 := Scalar.extui v487
  let c0_i32_254 : BitVec 32 := 0#32
  let v489 : BitVec 1 := Scalar.cmpi .slt c2_i32_250 c0_i32_254
  let v490 : BitVec 32 := Scalar.extui v489
  let v491 : BitVec 32 := Scalar.subi v488 v490
  let v492 : BitVec 1 := Scalar.cmpi .ne v486 v491
  let v493 : BitVec 32 := Scalar.remsi v450 c2_i32_250
  let c0_i32_255 : BitVec 32 := 0#32
  let v494 : BitVec 1 := Scalar.cmpi .ne v493 c0_i32_255
  let v495 : BitVec 1 := Scalar.andi v492 v494
  let v481 : BitVec 32 := Scalar.divsi v450 c2_i32_250
  let c1_i32_256 : BitVec 32 := 1#32
  let v496 : BitVec 32 := Scalar.subi v481 c1_i32_256
  let v497 : BitVec 32 := Scalar.select v495 v496 v481
  let c16_i32_257 : BitVec 32 := 16#32
  let v498 : BitVec 32 := Scalar.muli v497 c16_i32_257
  v498
def k0_mult8 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c8_i32_259 : BitVec 32 := 8#32
  let v504 : BitVec 32 := Scalar.muli v31 c8_i32_259
  let c7_i32 : BitVec 32 := 7#32
  let v505 : BitVec 32 := Scalar.addi v504 c7_i32
  let c0_i32_274 : BitVec 32 := 0#32
  let v537 : BitVec 1 := Scalar.cmpi .sgt v505 c0_i32_274
  let v538 : BitVec 32 := Scalar.extui v537
  let c0_i32_275 : BitVec 32 := 0#32
  let v539 : BitVec 1 := Scalar.cmpi .slt v505 c0_i32_275
  let v540 : BitVec 32 := Scalar.extui v539
  let v541 : BitVec 32 := Scalar.subi v538 v540
  let c2_i32_273 : BitVec 32 := 2#32
  let c0_i32_276 : BitVec 32 := 0#32
  let v542 : BitVec 1 := Scalar.cmpi .sgt c2_i32_273 c0_i32_276
  let v543 : BitVec 32 := Scalar.extui v542
  let c0_i32_277 : BitVec 32 := 0#32
  let v544 : BitVec 1 := Scalar.cmpi .slt c2_i32_273 c0_i32_277
  let v545 : BitVec 32 := Scalar.extui v544
  let v546 : BitVec 32 := Scalar.subi v543 v545
  let v547 : BitVec 1 := Scalar.cmpi .ne v541 v546
  let v548 : BitVec 32 := Scalar.remsi v505 c2_i32_273
  let c0_i32_278 : BitVec 32 := 0#32
  let v549 : BitVec 1 := Scalar.cmpi .ne v548 c0_i32_278
  let v550 : BitVec 1 := Scalar.andi v547 v549
  let v536 : BitVec 32 := Scalar.divsi v505 c2_i32_273
  let c1_i32_279 : BitVec 32 := 1#32
  let v551 : BitVec 32 := Scalar.subi v536 c1_i32_279
  let v552 : BitVec 32 := Scalar.select v550 v551 v536
  let c16_i32_280 : BitVec 32 := 16#32
  let v553 : BitVec 32 := Scalar.muli v552 c16_i32_280
  v553
def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c1_i32_283 : BitVec 32 := 1#32
  let v562 : BitVec 1 := Scalar.cmpi .eq v31 c1_i32_283
  let v563 : BitVec 32 := Scalar.extui v562
  let c0_i32_284 : BitVec 32 := 0#32
  let v564 : BitVec 1 := Scalar.cmpi .ne v563 c0_i32_284
  v564

def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c2_i32_592 : BitVec 32 := 2#32
  let c0_i32_593 : BitVec 32 := 0#32
  let v1165 : BitVec 1 := Scalar.cmpi .eq c2_i32_592 c0_i32_593
  let c1_i32_594 : BitVec 32 := 1#32
  let v1166 : BitVec 32 := Scalar.select v1165 c1_i32_594 c2_i32_592
  let v1167 : BitVec 32 := Scalar.remsi v19 v1166
  let c0_i32_596 : BitVec 32 := 0#32
  let v1169 : BitVec 1 := Scalar.cmpi .slt v1167 c0_i32_596
  let c0_i32_597 : BitVec 32 := 0#32
  let v1170 : BitVec 1 := Scalar.cmpi .slt v1166 c0_i32_597
  let v1171 : BitVec 1 := Scalar.xori v1169 v1170
  let c0_i32_595 : BitVec 32 := 0#32
  let v1168 : BitVec 1 := Scalar.cmpi .ne v1167 c0_i32_595
  let v1172 : BitVec 1 := Scalar.andi v1171 v1168
  let v1173 : BitVec 32 := Scalar.addi v1167 v1166
  let v1174 : BitVec 32 := Scalar.select v1172 v1173 v1167
  let c0_i32_598 : BitVec 32 := 0#32
  let v1175 : BitVec 1 := Scalar.cmpi .eq v1174 c0_i32_598
  let v1176 : BitVec 32 := Scalar.extui v1175
  let c0_i32_599 : BitVec 32 := 0#32
  let v1177 : BitVec 1 := Scalar.cmpi .ne v1176 c0_i32_599
  v1177

def k0_cond3 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c2_i32_600 : BitVec 32 := 2#32
  let c0_i32_601 : BitVec 32 := 0#32
  let v1178 : BitVec 1 := Scalar.cmpi .eq c2_i32_600 c0_i32_601
  let c1_i32_602 : BitVec 32 := 1#32
  let v1179 : BitVec 32 := Scalar.select v1178 c1_i32_602 c2_i32_600
  let v1180 : BitVec 32 := Scalar.remsi v19 v1179
  let c0_i32_604 : BitVec 32 := 0#32
  let v1182 : BitVec 1 := Scalar.cmpi .slt v1180 c0_i32_604
  let c0_i32_605 : BitVec 32 := 0#32
  let v1183 : BitVec 1 := Scalar.cmpi .slt v1179 c0_i32_605
  let v1184 : BitVec 1 := Scalar.xori v1182 v1183
  let c0_i32_603 : BitVec 32 := 0#32
  let v1181 : BitVec 1 := Scalar.cmpi .ne v1180 c0_i32_603
  let v1185 : BitVec 1 := Scalar.andi v1184 v1181
  let v1186 : BitVec 32 := Scalar.addi v1180 v1179
  let v1187 : BitVec 32 := Scalar.select v1185 v1186 v1180
  let c1_i32_606 : BitVec 32 := 1#32
  let v1188 : BitVec 1 := Scalar.cmpi .eq v1187 c1_i32_606
  let v1189 : BitVec 32 := Scalar.extui v1188
  let c0_i32_607 : BitVec 32 := 0#32
  let v1190 : BitVec 1 := Scalar.cmpi .ne v1189 c0_i32_607
  v1190

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c0_i32_11 : BitVec 32 := 0#32
  let c0_i32_12 : BitVec 32 := 0#32
  let c0_i32_13 : BitVec 32 := 0#32
  ![v19.toNat, c0_i32_11.toNat, c0_i32_12.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c0_i32_11 : BitVec 32 := 0#32
  let c0_i32_12 : BitVec 32 := 0#32
  let c0_i32_13 : BitVec 32 := 0#32
  ![v19.toNat, c0_i32_11.toNat, c0_i32_12.toNat]

def cc0_transform_4 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c0_i32_28 : BitVec 32 := 0#32
  let v65 : BitVec 32 := Scalar.addi v64 c0_i32_28
  let v66 : Index := Scalar.indexCast v19
  let v67 : Index := Scalar.indexCast v65
  let v68 : BitVec 32 := pf.at 0 (Rect.unit (s := S128x16) ![v66.toNat, v67.toNat] S1x1.size (k0_off1_inb i 0)) numel1_S1x1
  let c0_i32_29 : BitVec 32 := 0#32
  let c0_i32_30 : BitVec 32 := 0#32
  let c0_i32_31 : BitVec 32 := 0#32
  ![v68.toNat, c0_i32_29.toNat, c0_i32_30.toNat]

def cc0_transform_5 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c1_i32_28 : BitVec 32 := 1#32
  let v65 : BitVec 32 := Scalar.addi v64 c1_i32_28
  let v66 : Index := Scalar.indexCast v19
  let v67 : Index := Scalar.indexCast v65
  let v68 : BitVec 32 := pf.at 0 (Rect.unit (s := S128x16) ![v66.toNat, v67.toNat] S1x1.size (k0_off1_inb i 1)) numel1_S1x1
  let c0_i32_29 : BitVec 32 := 0#32
  let c0_i32_30 : BitVec 32 := 0#32
  let c0_i32_31 : BitVec 32 := 0#32
  ![v68.toNat, c0_i32_29.toNat, c0_i32_30.toNat]

def cc0_transform_6 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c2_i32_28 : BitVec 32 := 2#32
  let v65 : BitVec 32 := Scalar.addi v64 c2_i32_28
  let v66 : Index := Scalar.indexCast v19
  let v67 : Index := Scalar.indexCast v65
  let v68 : BitVec 32 := pf.at 0 (Rect.unit (s := S128x16) ![v66.toNat, v67.toNat] S1x1.size (k0_off1_inb i 2)) numel1_S1x1
  let c0_i32_29 : BitVec 32 := 0#32
  let c0_i32_30 : BitVec 32 := 0#32
  let c0_i32_31 : BitVec 32 := 0#32
  ![v68.toNat, c0_i32_29.toNat, c0_i32_30.toNat]

def cc0_transform_7 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c3_i32 : BitVec 32 := 3#32
  let v65 : BitVec 32 := Scalar.addi v64 c3_i32
  let v66 : Index := Scalar.indexCast v19
  let v67 : Index := Scalar.indexCast v65
  let v68 : BitVec 32 := pf.at 0 (Rect.unit (s := S128x16) ![v66.toNat, v67.toNat] S1x1.size (k0_off1_inb i 3)) numel1_S1x1
  let c0_i32_28 : BitVec 32 := 0#32
  let c0_i32_29 : BitVec 32 := 0#32
  let c0_i32_30 : BitVec 32 := 0#32
  ![v68.toNat, c0_i32_28.toNat, c0_i32_29.toNat]

def cc0_transform_8 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c4_i32 : BitVec 32 := 4#32
  let v65 : BitVec 32 := Scalar.addi v64 c4_i32
  let v66 : Index := Scalar.indexCast v19
  let v67 : Index := Scalar.indexCast v65
  let v68 : BitVec 32 := pf.at 0 (Rect.unit (s := S128x16) ![v66.toNat, v67.toNat] S1x1.size (k0_off1_inb i 4)) numel1_S1x1
  let c0_i32_28 : BitVec 32 := 0#32
  let c0_i32_29 : BitVec 32 := 0#32
  let c0_i32_30 : BitVec 32 := 0#32
  ![v68.toNat, c0_i32_28.toNat, c0_i32_29.toNat]

def cc0_transform_9 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c5_i32 : BitVec 32 := 5#32
  let v65 : BitVec 32 := Scalar.addi v64 c5_i32
  let v66 : Index := Scalar.indexCast v19
  let v67 : Index := Scalar.indexCast v65
  let v68 : BitVec 32 := pf.at 0 (Rect.unit (s := S128x16) ![v66.toNat, v67.toNat] S1x1.size (k0_off1_inb i 5)) numel1_S1x1
  let c0_i32_28 : BitVec 32 := 0#32
  let c0_i32_29 : BitVec 32 := 0#32
  let c0_i32_30 : BitVec 32 := 0#32
  ![v68.toNat, c0_i32_28.toNat, c0_i32_29.toNat]

def cc0_transform_10 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c6_i32 : BitVec 32 := 6#32
  let v65 : BitVec 32 := Scalar.addi v64 c6_i32
  let v66 : Index := Scalar.indexCast v19
  let v67 : Index := Scalar.indexCast v65
  let v68 : BitVec 32 := pf.at 0 (Rect.unit (s := S128x16) ![v66.toNat, v67.toNat] S1x1.size (k0_off1_inb i 6)) numel1_S1x1
  let c0_i32_28 : BitVec 32 := 0#32
  let c0_i32_29 : BitVec 32 := 0#32
  let c0_i32_30 : BitVec 32 := 0#32
  ![v68.toNat, c0_i32_28.toNat, c0_i32_29.toNat]

def cc0_transform_11 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c7_i32 : BitVec 32 := 7#32
  let v65 : BitVec 32 := Scalar.addi v64 c7_i32
  let v66 : Index := Scalar.indexCast v19
  let v67 : Index := Scalar.indexCast v65
  let v68 : BitVec 32 := pf.at 0 (Rect.unit (s := S128x16) ![v66.toNat, v67.toNat] S1x1.size (k0_off1_inb i 7)) numel1_S1x1
  let c0_i32_28 : BitVec 32 := 0#32
  let c0_i32_29 : BitVec 32 := 0#32
  let c0_i32_30 : BitVec 32 := 0#32
  ![v68.toNat, c0_i32_28.toNat, c0_i32_29.toNat]

def cc0_transform_12 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c0_i32_28 : BitVec 32 := 0#32
  let v65 : BitVec 32 := Scalar.addi v64 c0_i32_28
  let v66 : Index := Scalar.indexCast v19
  let v67 : Index := Scalar.indexCast v65
  let v68 : BitVec 32 := pf.at 0 (Rect.unit (s := S128x16) ![v66.toNat, v67.toNat] S1x1.size (k0_off1_inb i 0)) numel1_S1x1
  let c0_i32_29 : BitVec 32 := 0#32
  let c0_i32_30 : BitVec 32 := 0#32
  let c0_i32_31 : BitVec 32 := 0#32
  ![v68.toNat, c0_i32_29.toNat, c0_i32_30.toNat]

def cc0_transform_13 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c1_i32_28 : BitVec 32 := 1#32
  let v65 : BitVec 32 := Scalar.addi v64 c1_i32_28
  let v66 : Index := Scalar.indexCast v19
  let v67 : Index := Scalar.indexCast v65
  let v68 : BitVec 32 := pf.at 0 (Rect.unit (s := S128x16) ![v66.toNat, v67.toNat] S1x1.size (k0_off1_inb i 1)) numel1_S1x1
  let c0_i32_29 : BitVec 32 := 0#32
  let c0_i32_30 : BitVec 32 := 0#32
  let c0_i32_31 : BitVec 32 := 0#32
  ![v68.toNat, c0_i32_29.toNat, c0_i32_30.toNat]

def cc0_transform_14 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c2_i32_28 : BitVec 32 := 2#32
  let v65 : BitVec 32 := Scalar.addi v64 c2_i32_28
  let v66 : Index := Scalar.indexCast v19
  let v67 : Index := Scalar.indexCast v65
  let v68 : BitVec 32 := pf.at 0 (Rect.unit (s := S128x16) ![v66.toNat, v67.toNat] S1x1.size (k0_off1_inb i 2)) numel1_S1x1
  let c0_i32_29 : BitVec 32 := 0#32
  let c0_i32_30 : BitVec 32 := 0#32
  let c0_i32_31 : BitVec 32 := 0#32
  ![v68.toNat, c0_i32_29.toNat, c0_i32_30.toNat]

def cc0_transform_15 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c3_i32 : BitVec 32 := 3#32
  let v65 : BitVec 32 := Scalar.addi v64 c3_i32
  let v66 : Index := Scalar.indexCast v19
  let v67 : Index := Scalar.indexCast v65
  let v68 : BitVec 32 := pf.at 0 (Rect.unit (s := S128x16) ![v66.toNat, v67.toNat] S1x1.size (k0_off1_inb i 3)) numel1_S1x1
  let c0_i32_28 : BitVec 32 := 0#32
  let c0_i32_29 : BitVec 32 := 0#32
  let c0_i32_30 : BitVec 32 := 0#32
  ![v68.toNat, c0_i32_28.toNat, c0_i32_29.toNat]

def cc0_transform_16 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c4_i32 : BitVec 32 := 4#32
  let v65 : BitVec 32 := Scalar.addi v64 c4_i32
  let v66 : Index := Scalar.indexCast v19
  let v67 : Index := Scalar.indexCast v65
  let v68 : BitVec 32 := pf.at 0 (Rect.unit (s := S128x16) ![v66.toNat, v67.toNat] S1x1.size (k0_off1_inb i 4)) numel1_S1x1
  let c0_i32_28 : BitVec 32 := 0#32
  let c0_i32_29 : BitVec 32 := 0#32
  let c0_i32_30 : BitVec 32 := 0#32
  ![v68.toNat, c0_i32_28.toNat, c0_i32_29.toNat]

def cc0_transform_17 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c5_i32 : BitVec 32 := 5#32
  let v65 : BitVec 32 := Scalar.addi v64 c5_i32
  let v66 : Index := Scalar.indexCast v19
  let v67 : Index := Scalar.indexCast v65
  let v68 : BitVec 32 := pf.at 0 (Rect.unit (s := S128x16) ![v66.toNat, v67.toNat] S1x1.size (k0_off1_inb i 5)) numel1_S1x1
  let c0_i32_28 : BitVec 32 := 0#32
  let c0_i32_29 : BitVec 32 := 0#32
  let c0_i32_30 : BitVec 32 := 0#32
  ![v68.toNat, c0_i32_28.toNat, c0_i32_29.toNat]

def cc0_transform_18 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c6_i32 : BitVec 32 := 6#32
  let v65 : BitVec 32 := Scalar.addi v64 c6_i32
  let v66 : Index := Scalar.indexCast v19
  let v67 : Index := Scalar.indexCast v65
  let v68 : BitVec 32 := pf.at 0 (Rect.unit (s := S128x16) ![v66.toNat, v67.toNat] S1x1.size (k0_off1_inb i 6)) numel1_S1x1
  let c0_i32_28 : BitVec 32 := 0#32
  let c0_i32_29 : BitVec 32 := 0#32
  let c0_i32_30 : BitVec 32 := 0#32
  ![v68.toNat, c0_i32_28.toNat, c0_i32_29.toNat]

def cc0_transform_19 (k0_off1_inb : ∀ i : grid0.Coords, ∀ (r : Fin 8), ∀ a, (k0_off1 i (BitVec.ofNat 32 r.val)) a + S1x1.size a ≤ S128x16.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c16_i32_11 : BitVec 32 := 16#32
  let v32 : BitVec 32 := Scalar.muli arg0 c16_i32_11
  let v33 : BitVec 32 := Scalar.addi v32 arg1
  let c2_i32_12 : BitVec 32 := 2#32
  let v34 : BitVec 32 := Scalar.divsi v33 c2_i32_12
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let c1_i32_18 : BitVec 32 := 1#32
  let v49 : BitVec 32 := Scalar.subi v34 c1_i32_18
  let v50 : BitVec 32 := Scalar.select v48 v49 v34
  let c127_i32_19 : BitVec 32 := 127#32
  let v51 : BitVec 32 := Scalar.minsi v50 c127_i32_19
  let c128_i32_20 : BitVec 32 := 128#32
  let v52 : BitVec 1 := Scalar.cmpi .slt v50 c128_i32_20
  let c2_i32_21 : BitVec 32 := 2#32
  let c0_i32_22 : BitVec 32 := 0#32
  let v53 : BitVec 1 := Scalar.cmpi .eq c2_i32_21 c0_i32_22
  let c1_i32_23 : BitVec 32 := 1#32
  let v54 : BitVec 32 := Scalar.select v53 c1_i32_23 c2_i32_21
  let v55 : BitVec 32 := Scalar.remsi v33 v54
  let c0_i32_24 : BitVec 32 := 0#32
  let v56 : BitVec 1 := Scalar.cmpi .ne v55 c0_i32_24
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let v60 : BitVec 1 := Scalar.andi v59 v56
  let v61 : BitVec 32 := Scalar.addi v55 v54
  let v62 : BitVec 32 := Scalar.select v60 v61 v55
  let c1_i32_27 : BitVec 32 := 1#32
  let v63 : BitVec 32 := Scalar.select v52 v62 c1_i32_27
  let c8_i32 : BitVec 32 := 8#32
  let v64 : BitVec 32 := Scalar.muli v63 c8_i32
  let c7_i32 : BitVec 32 := 7#32
  let v65 : BitVec 32 := Scalar.addi v64 c7_i32
  let v66 : Index := Scalar.indexCast v19
  let v67 : Index := Scalar.indexCast v65
  let v68 : BitVec 32 := pf.at 0 (Rect.unit (s := S128x16) ![v66.toNat, v67.toNat] S1x1.size (k0_off1_inb i 7)) numel1_S1x1
  let c0_i32_28 : BitVec 32 := 0#32
  let c0_i32_29 : BitVec 32 := 0#32
  let c0_i32_30 : BitVec 32 := 0#32
  ![v68.toNat, c0_i32_28.toNat, c0_i32_29.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c1_i32_11 : BitVec 32 := 1#32
  let v32 : BitVec 32 := Scalar.addi v31 c1_i32_11
  let c2_i32_12 : BitVec 32 := 2#32
  let v33 : BitVec 32 := Scalar.divsi v32 c2_i32_12
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v32 c2_i32_12
  let c0_i32_17 : BitVec 32 := 0#32
  let v46 : BitVec 1 := Scalar.cmpi .ne v45 c0_i32_17
  let v47 : BitVec 1 := Scalar.andi v44 v46
  let c1_i32_18 : BitVec 32 := 1#32
  let v48 : BitVec 32 := Scalar.subi v33 c1_i32_18
  let v49 : BitVec 32 := Scalar.select v47 v48 v33
  let c0_i32_19 : BitVec 32 := 0#32
  let c0_i32_20 : BitVec 32 := 0#32
  let c0_i32_21 : BitVec 32 := 0#32
  ![v49.toNat, c0_i32_19.toNat, c0_i32_20.toNat]

def cc0_transform_22 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c0_i32_11 : BitVec 32 := 0#32
  let c0_i32_12 : BitVec 32 := 0#32
  let c0_i32_13 : BitVec 32 := 0#32
  ![v19.toNat, c0_i32_11.toNat, c0_i32_12.toNat]

def cc0_transform_23 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c0_i32_11 : BitVec 32 := 0#32
  let c0_i32_12 : BitVec 32 := 0#32
  let c0_i32_13 : BitVec 32 := 0#32
  ![v19.toNat, c0_i32_11.toNat, c0_i32_12.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c4_i32 : BitVec 32 := 4#32
  let v32 : BitVec 32 := Scalar.muli v19 c4_i32
  let c8_i32 : BitVec 32 := 8#32
  let v33 : BitVec 32 := Scalar.divsi v32 c8_i32
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c0_i32_13 : BitVec 32 := 0#32
  let v39 : BitVec 1 := Scalar.cmpi .sgt c8_i32 c0_i32_13
  let v40 : BitVec 32 := Scalar.extui v39
  let c0_i32_14 : BitVec 32 := 0#32
  let v41 : BitVec 1 := Scalar.cmpi .slt c8_i32 c0_i32_14
  let v42 : BitVec 32 := Scalar.extui v41
  let v43 : BitVec 32 := Scalar.subi v40 v42
  let v44 : BitVec 1 := Scalar.cmpi .ne v38 v43
  let v45 : BitVec 32 := Scalar.remsi v32 c8_i32
  let c0_i32_15 : BitVec 32 := 0#32
  let v46 : BitVec 1 := Scalar.cmpi .ne v45 c0_i32_15
  let v47 : BitVec 1 := Scalar.andi v44 v46
  let c1_i32_16 : BitVec 32 := 1#32
  let v48 : BitVec 32 := Scalar.subi v33 c1_i32_16
  let v49 : BitVec 32 := Scalar.select v47 v48 v33
  let c0_i32_17 : BitVec 32 := 0#32
  let c0_i32_18 : BitVec 32 := 0#32
  ![v49.toNat, c0_i32_17.toNat]

def cc0_transform_26 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c128_i32 : BitVec 32 := 128#32
  let v20 : BitVec 1 := Scalar.cmpi .slt v18 c128_i32
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi v1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let v31 : BitVec 32 := Scalar.select v20 v30 c1_i32_10
  let c4_i32 : BitVec 32 := 4#32
  let v32 : BitVec 32 := Scalar.muli v19 c4_i32
  let c8_i32 : BitVec 32 := 8#32
  let v33 : BitVec 32 := Scalar.divsi v32 c8_i32
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c0_i32_13 : BitVec 32 := 0#32
  let v39 : BitVec 1 := Scalar.cmpi .sgt c8_i32 c0_i32_13
  let v40 : BitVec 32 := Scalar.extui v39
  let c0_i32_14 : BitVec 32 := 0#32
  let v41 : BitVec 1 := Scalar.cmpi .slt c8_i32 c0_i32_14
  let v42 : BitVec 32 := Scalar.extui v41
  let v43 : BitVec 32 := Scalar.subi v40 v42
  let v44 : BitVec 1 := Scalar.cmpi .ne v38 v43
  let v45 : BitVec 32 := Scalar.remsi v32 c8_i32
  let c0_i32_15 : BitVec 32 := 0#32
  let v46 : BitVec 1 := Scalar.cmpi .ne v45 c0_i32_15
  let v47 : BitVec 1 := Scalar.andi v44 v46
  let c1_i32_16 : BitVec 32 := 1#32
  let v48 : BitVec 32 := Scalar.subi v33 c1_i32_16
  let v49 : BitVec 32 := Scalar.select v47 v48 v33
  let c0_i32_17 : BitVec 32 := 0#32
  let c0_i32_18 : BitVec 32 := 0#32
  ![v49.toNat, c0_i32_17.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2048x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2048x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2048x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S1x64x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x64x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x64x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x64x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 1 → Memref sig .tc .vmem S64x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S8x2048 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S8x2048 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== ReferenceIdeal.lean ====
abbrev S128x16 : Shape := ⟨2, ![128, 16]⟩
abbrev S8192x4096 : Shape := ⟨2, ![8192, 4096]⟩
abbrev S4096x18432 : Shape := ⟨2, ![4096, 18432]⟩
abbrev S128x4x2048 : Shape := ⟨3, ![128, 4, 2048]⟩
abbrev S512x18432 : Shape := ⟨2, ![512, 18432]⟩
abbrev S2560x2048x128 : Shape := ⟨3, ![2560, 2048, 128]⟩
abbrev S32x16 : Shape := ⟨2, ![32, 16]⟩
abbrev S8192x18432 : Shape := ⟨2, ![8192, 18432]⟩

abbrev nBuf : Space → Nat
  | .hbm => 14
  | .vmem => 0
  | .smem => 0
  | _ => 0

abbrev bufTy : (tb : Table) → Fin (tcTables nBuf tb) → BufTy
  | .hbm, ⟨0, _⟩ => ⟨S128x16, .i32⟩
  | .hbm, ⟨1, _⟩ => ⟨S8192x4096, .bf16⟩
  | .hbm, ⟨2, _⟩ => ⟨S4096x18432, .bf16⟩
  | .hbm, ⟨3, _⟩ => ⟨S128x4x2048, .f32⟩
  | .hbm, ⟨4, _⟩ => ⟨S128x4x2048, .f32⟩
  | .hbm, ⟨5, _⟩ => ⟨S128x4x2048, .f32⟩
  | .hbm, ⟨6, _⟩ => ⟨S512x18432, .f32⟩
  | .hbm, ⟨7, _⟩ => ⟨S2560x2048x128, .f32⟩
  | .hbm, ⟨8, _⟩ => ⟨S2560x2048x128, .f32⟩
  | .hbm, ⟨9, _⟩ => ⟨S32x16, .f32⟩
  | .hbm, ⟨10, _⟩ => ⟨S8192x4096, .f32⟩
  | .hbm, ⟨11, _⟩ => ⟨S4096x18432, .f32⟩
  | .hbm, ⟨12, _⟩ => ⟨S8192x18432, .f32⟩
  | .hbm, ⟨13, _⟩ => ⟨S8192x18432, .bf16⟩
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== ProjPrompt.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjPromptReferenceIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KeysSample.lean ====
abbrev S512x4096 : Shape := ⟨2, ![512, 4096]⟩
abbrev S4096x24576 : Shape := ⟨2, ![4096, 24576]⟩
abbrev S512x2048 : Shape := ⟨2, ![512, 2048]⟩
abbrev S4096x2048 : Shape := ⟨2, ![4096, 2048]⟩
abbrev S4096x512 : Shape := ⟨2, ![4096, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x24576, .f32⟩
  | .hbm, ⟨2, _⟩ => ⟨S512x2048, .f32⟩
  | .hbm, ⟨3, _⟩ => ⟨S4096x2048, .bf16⟩
  | .local _ .vmem, ⟨0, _⟩ => ⟨S512x4096, .bf16⟩
  | .local _ .vmem, ⟨1, _⟩ => ⟨S4096x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | .local _ .vmem, ⟨5, _⟩ => ⟨S4096x512, .bf16⟩
  | .local _ .vmem, ⟨6, _⟩ => ⟨S4096x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KeysSampleReferenceIdeal.lean ====
abbrev S512x4096 : Shape := ⟨2, ![512, 4096]⟩
abbrev S4096x24576 : Shape := ⟨2, ![4096, 24576]⟩
abbrev S4096x2048 : Shape := ⟨2, ![4096, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x24576, .f32⟩
  | .hbm, ⟨2, _⟩ => ⟨S512x4096, .f32⟩
  | .hbm, ⟨3, _⟩ => ⟨S4096x2048, .f32⟩
  | .hbm, ⟨4, _⟩ => ⟨S512x2048, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ValuesSample.lean ====
abbrev S512x4096 : Shape := ⟨2, ![512, 4096]⟩
abbrev S4096x24576 : Shape := ⟨2, ![4096, 24576]⟩
abbrev S512x2048 : Shape := ⟨2, ![512, 2048]⟩
abbrev S4096x2048 : Shape := ⟨2, ![4096, 2048]⟩
abbrev S4096x512 : Shape := ⟨2, ![4096, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x24576, .f32⟩
  | .hbm, ⟨2, _⟩ => ⟨S512x2048, .f32⟩
  | .hbm, ⟨3, _⟩ => ⟨S4096x2048, .bf16⟩
  | .local _ .vmem, ⟨0, _⟩ => ⟨S512x4096, .bf16⟩
  | .local _ .vmem, ⟨1, _⟩ => ⟨S4096x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | .local _ .vmem, ⟨5, _⟩ => ⟨S4096x512, .bf16⟩
  | .local _ .vmem, ⟨6, _⟩ => ⟨S4096x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ValuesSampleReferenceIdeal.lean ====
abbrev S512x4096 : Shape := ⟨2, ![512, 4096]⟩
abbrev S4096x24576 : Shape := ⟨2, ![4096, 24576]⟩
abbrev S4096x2048 : Shape := ⟨2, ![4096, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x24576, .f32⟩
  | .hbm, ⟨2, _⟩ => ⟨S512x4096, .f32⟩
  | .hbm, ⟨3, _⟩ => ⟨S4096x2048, .f32⟩
  | .hbm, ⟨4, _⟩ => ⟨S512x2048, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergePrompt.lean ====
abbrev S8192x2048 : Shape := ⟨2, ![8192, 2048]⟩
abbrev S2048x4096 : Shape := ⟨2, ![2048, 4096]⟩
abbrev S8192x18432 : Shape := ⟨2, ![8192, 18432]⟩
abbrev S8192x4096 : Shape := ⟨2, ![8192, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .bf16⟩
  | .hbm, ⟨3, _⟩ => ⟨S2048x4096, .bf16⟩
  | .hbm, ⟨4, _⟩ => ⟨S8192x18432, .bf16⟩
  | .hbm, ⟨5, _⟩ => ⟨S8192x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergePromptReferenceIdeal.lean ====
abbrev S8192x2048 : Shape := ⟨2, ![8192, 2048]⟩
abbrev S2048x4096 : Shape := ⟨2, ![2048, 4096]⟩
abbrev S8192x18432 : Shape := ⟨2, ![8192, 18432]⟩
abbrev S8192x4096 : Shape := ⟨2, ![8192, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .bf16⟩
  | .hbm, ⟨3, _⟩ => ⟨S2048x4096, .bf16⟩
  | .hbm, ⟨4, _⟩ => ⟨S8192x18432, .bf16⟩
  | .hbm, ⟨5, _⟩ => ⟨S8192x4096, .bf16⟩
  | .hbm, ⟨6, _⟩ => ⟨S8192x4096, .f32⟩
  | .hbm, ⟨7, _⟩ => ⟨S8192x4096, .bf16⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x2048, .f32⟩
  | .hbm, ⟨18, _⟩ => ⟨S2048x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x2048, .f32⟩
  | .hbm, ⟨30, _⟩ => ⟨S2048x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== ConvPrompt.lean ====
abbrev S8192x18432 : Shape := ⟨2, ![8192, 18432]⟩
abbrev S3x2048 : Shape := ⟨2, ![3, 2048]⟩
abbrev S8192x2048 : Shape := ⟨2, ![8192, 2048]⟩
abbrev S8x2048 : Shape := ⟨2, ![8, 2048]⟩
abbrev S512x512 : Shape := ⟨2, ![512, 512]⟩
abbrev S16x512 : Shape := ⟨2, ![16, 512]⟩
abbrev S3x512 : Shape := ⟨2, ![3, 512]⟩
abbrev S8x512 : Shape := ⟨2, ![8, 512]⟩
abbrev S1x512 : Shape := ⟨2, ![1, 512]⟩
abbrev S2x2048 : Shape := ⟨2, ![2, 2048]⟩

abbrev nBuf : Space → Nat
  | .hbm => 5
  | .vmem => 18
  | .smem => 0
  | _ => 0

abbrev bufTy : (tb : Table) → Fin (tcTables nBuf tb) → BufTy
  | .hbm, ⟨0, _⟩ => ⟨S8192x18432, .bf16⟩
  | .hbm, ⟨1, _⟩ => ⟨S3x2048, .f32⟩
  | .hbm, ⟨2, _⟩ => ⟨S8192x2048, .bf16⟩
  | .hbm, ⟨3, _⟩ => ⟨S8x2048, .f32⟩
  | .hbm, ⟨4, _⟩ => ⟨S2x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S3x512, .f32⟩
  | .local _ .vmem, ⟨13, _⟩ => ⟨S3x512, .f32⟩
  | .local _ .vmem, ⟨14, _⟩ => ⟨S512x512, .bf16⟩
  | .local _ .vmem, ⟨15, _⟩ => ⟨S512x512, .bf16⟩
  | .local _ .vmem, ⟨16, _⟩ => ⟨S8x512, .f32⟩
  | .local _ .vmem, ⟨17, _⟩ => ⟨S8x512, .f32⟩
  | _, _ => ⟨S8192x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let v3 : BitVec 32 := Scalar.addi c12_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvPromptReferenceIdeal.lean ====
abbrev S8192x18432 : Shape := ⟨2, ![8192, 18432]⟩
abbrev S3x2048 : Shape := ⟨2, ![3, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x2048 : Shape := ⟨2, ![1, 2048]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x18432, .bf16⟩
  | .hbm, ⟨1, _⟩ => ⟨S3x2048, .f32⟩
  | .hbm, ⟨2, _⟩ => ⟨S8192x2048, .bf16⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .bf16⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S2x2048, .f32⟩
  | .hbm, ⟨13, _⟩ => ⟨S8194x2048, .f32⟩
  | .hbm, ⟨14, _⟩ => ⟨S1x2048, .f32⟩
  | .hbm, ⟨15, _⟩ => ⟨S2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | .hbm, ⟨46, _⟩ => ⟨S2x2048, .f32⟩
  | _, _ => ⟨S8192x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== ConvSample.lean ====
abbrev S512x18432 : Shape := ⟨2, ![512, 18432]⟩
abbrev S128x2x2048 : Shape := ⟨3, ![128, 2, 2048]⟩
abbrev S3x2048 : Shape := ⟨2, ![3, 2048]⟩
abbrev S_ : Shape := ⟨0, ![]⟩
abbrev S128x3x2048 : Shape := ⟨3, ![128, 3, 2048]⟩
abbrev S128x1x2048 : Shape := ⟨3, ![128, 1, 2048]⟩
abbrev S128x4x2048 : Shape := ⟨3, ![128, 4, 2048]⟩
abbrev S512x2048 : Shape := ⟨2, ![512, 2048]⟩
abbrev S512x512 : Shape := ⟨2, ![512, 512]⟩
abbrev S3x512 : Shape := ⟨2, ![3, 512]⟩
abbrev S1x512 : Shape := ⟨2, ![1, 512]⟩

abbrev nBuf : Space → Nat
  | .hbm => 15
  | .vmem => 18
  | .smem => 0
  | _ => 0

abbrev bufTy : (tb : Table) → Fin (tcTables nBuf tb) → BufTy
  | .hbm, ⟨0, _⟩ => ⟨S512x18432, .f32⟩
  | .hbm, ⟨1, _⟩ => ⟨S128x2x2048, .f32⟩
  | .hbm, ⟨2, _⟩ => ⟨S3x2048, .f32⟩
  | .hbm, ⟨3, _⟩ => ⟨S_, .f32⟩
  | .hbm, ⟨4, _⟩ => ⟨S128x3x2048, .f32⟩
  | .hbm, ⟨5, _⟩ => ⟨S128x1x2048, .f32⟩
  | .hbm, ⟨6, _⟩ => ⟨S128x4x2048, .f32⟩
  | .hbm, ⟨7, _⟩ => ⟨S512x2048, .f32⟩
  | .hbm, ⟨8, _⟩ => ⟨S128x2x2048, .f32⟩
  | .hbm, ⟨9, _⟩ => ⟨S128x4x2048, .f32⟩
  | .hbm, ⟨10, _⟩ => ⟨S512x2048, .f32⟩
  | .hbm, ⟨11, _⟩ => ⟨S512x2048, .bf16⟩
  | .hbm, ⟨12, _⟩ => ⟨S512x2048, .f32⟩
  | .hbm, ⟨13, _⟩ => ⟨S128x4x2048, .f32⟩
  | .hbm, ⟨14, _⟩ => ⟨S128x2x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S3x512, .f32⟩
  | .local _ .vmem, ⟨13, _⟩ => ⟨S3x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | _, _ => ⟨S512x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvSampleReferenceIdeal.lean ====
abbrev S512x18432 : Shape := ⟨2, ![512, 18432]⟩
abbrev S128x2x2048 : Shape := ⟨3, ![128, 2, 2048]⟩
abbrev S3x2048 : Shape := ⟨2, ![3, 2048]⟩
abbrev S512x2048 : Shape := ⟨2, ![512, 2048]⟩
abbrev S128x4x2048 : Shape := ⟨3, ![128, 4, 2048]⟩
abbrev S128x6x2048 : Shape := ⟨3, ![128, 6, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S512x18432, .f32⟩
  | .hbm, ⟨1, _⟩ => ⟨S128x2x2048, .f32⟩
  | .hbm, ⟨2, _⟩ => ⟨S3x2048, .f32⟩
  | .hbm, ⟨3, _⟩ => ⟨S512x2048, .f32⟩
  | .hbm, ⟨4, _⟩ => ⟨S128x4x2048, .f32⟩
  | .hbm, ⟨5, _⟩ => ⟨S512x2048, .f32⟩
  | .hbm, ⟨6, _⟩ => ⟨S128x4x2048, .f32⟩
  | .hbm, ⟨7, _⟩ => ⟨S512x2048, .f32⟩
  | .hbm, ⟨8, _⟩ => ⟨S128x4x2048, .f32⟩
  | .hbm, ⟨9, _⟩ => ⟨S512x2048, .f32⟩
  | .hbm, ⟨10, _⟩ => ⟨S128x4x2048, .f32⟩
  | .hbm, ⟨11, _⟩ => ⟨S128x4x2048, .f32⟩
  | .hbm, ⟨12, _⟩ => ⟨S128x6x2048, .f32⟩
  | .hbm, ⟨13, _⟩ => ⟨S1x2048, .f32⟩
  | .hbm, ⟨14, _⟩ => ⟨S2048, .f32⟩
  | .hbm, ⟨15, _⟩ => ⟨S128x4x2048, .f32⟩
  | .hbm, ⟨16, _⟩ => ⟨S1x1x2048, .f32⟩
  | .hbm, ⟨17, _⟩ => ⟨S128x4x2048, .f32⟩
  | .hbm, ⟨18, _⟩ => ⟨S128x4x2048, .f32⟩
  | .hbm, ⟨19, _⟩ => ⟨S1x2048, .f32⟩
  | .hbm, ⟨20, _⟩ => ⟨S2048, .f32⟩
  | .hbm, ⟨21, _⟩ => ⟨S128x4x2048, .f32⟩
  | .hbm, ⟨22, _⟩ => ⟨S1x1x2048, .f32⟩
  | .hbm, ⟨23, _⟩ => ⟨S128x4x2048, .f32⟩
  | .hbm, ⟨24, _⟩ => ⟨S128x4x2048, .f32⟩
  | .hbm, ⟨25, _⟩ => ⟨S128x4x2048, .f32⟩
  | .hbm, ⟨26, _⟩ => ⟨S1x2048, .f32⟩
  | .hbm, ⟨27, _⟩ => ⟨S2048, .f32⟩
  | .hbm, ⟨28, _⟩ => ⟨S128x4x2048, .f32⟩
  | .hbm, ⟨29, _⟩ => ⟨S1x1x2048, .f32⟩
  | .hbm, ⟨30, _⟩ => ⟨S128x4x2048, .f32⟩
  | .hbm, ⟨31, _⟩ => ⟨S128x4x2048, .f32⟩
  | .hbm, ⟨32, _⟩ => ⟨S128x4x2048, .f32⟩
  | .hbm, ⟨33, _⟩ => ⟨S128x4x2048, .f32⟩
  | .hbm, ⟨34, _⟩ => ⟨S128x4x2048, .f32⟩
  | .hbm, ⟨35, _⟩ => ⟨S128x4x2048, .f32⟩
  | .hbm, ⟨36, _⟩ => ⟨S_, .f32⟩
  | .hbm, ⟨37, _⟩ => ⟨S128x4x2048, .f32⟩
  | .hbm, ⟨38, _⟩ => ⟨S128x4x2048, .f32⟩
  | .hbm, ⟨39, _⟩ => ⟨S_, .f32⟩
  | .hbm, ⟨40, _⟩ => ⟨S128x4x2048, .f32⟩
  | .hbm, ⟨41, _⟩ => ⟨S128x4x2048, .f32⟩
  | .hbm, ⟨42, _⟩ => ⟨S128x4x2048, .f32⟩
  | .hbm, ⟨43, _⟩ => ⟨S128x4x2048, .f32⟩
  | .hbm, ⟨44, _⟩ => ⟨S512x2048, .f32⟩
  | .hbm, ⟨45, _⟩ => ⟨S512x2048, .bf16⟩
  | .hbm, ⟨46, _⟩ => ⟨S128x2x2048, .f32⟩
  | _, _ => ⟨S512x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== OutPrompt.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S4096x1024 : Shape := ⟨2, ![4096, 1024]⟩
abbrev S512x1024 : Shape := ⟨2, ![512, 1024]⟩
abbrev S64x4096 : Shape := ⟨2, ![64, 4096]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond5 (i : grid0.Coords) : BitVec 1 :=
  let arg1 : BitVec 32 := BitVec.ofNat 32 (i 1).val
  let c3_i32_9 : BitVec 32 := 3#32
  let v17 : BitVec 1 := Scalar.cmpi .eq arg1 c3_i32_9
  let v18 : BitVec 32 := Scalar.extui v17
  let c0_i32_10 : BitVec 32 := 0#32
  let v19 : BitVec 1 := Scalar.cmpi .ne v18 c0_i32_10
  v19

@[reducible] def k0_t1_loop : Scf.Loop 32 :=
  let c0_i32_11 : BitVec 32 := 0#32
  let c8_i32 : BitVec 32 := 8#32
  let v20 : BitVec 32 := Scalar.addi c0_i32_11 c8_i32
  let c1_i32_12 : BitVec 32 := 1#32
  ⟨c0_i32_11, v20, c1_i32_12⟩
def k0_mult1 (k0_t1 : Fin k0_t1_loop.trips) : BitVec 32 :=
  let c0_i32_11 : BitVec 32 := 0#32
  let c1_i32_12 : BitVec 32 := 1#32
  let arg7 : BitVec 32 := Scf.iv c0_i32_11 c1_i32_12 k0_t1
  let c64_i32 : BitVec 32 := 64#32
  let v21 : BitVec 32 := Scalar.muli arg7 c64_i32
  v21
def k0_off1 (k0_t1 : Fin k0_t1_loop.trips) : Fin 2 → Nat :=
  let c0_i32_11 : BitVec 32 := 0#32
  let c1_i32_12 : BitVec 32 := 1#32
  let arg7 : BitVec 32 := Scf.iv c0_i32_11 c1_i32_12 k0_t1
  let c64_i32 : BitVec 32 := 64#32
  let v21 : BitVec 32 := Scalar.muli arg7 c64_i32
  let v22 : BitVec 32 := v21
  let v23 : Index := Scalar.indexCast v22
  let c0_14 : Index := 0#32
  ![v23.toNat, 0]
def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== OutPromptReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096, .f32⟩
  | .hbm, ⟨4, _⟩ => ⟨S8192x4096, .f32⟩
  | .hbm, ⟨5, _⟩ => ⟨S4096x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutSample.lean ====
abbrev S512x4096 : Shape := ⟨2, ![512, 4096]⟩
abbrev S4096x4096 : Shape := ⟨2, ![4096, 4096]⟩
abbrev S4096 : Shape := ⟨1, ![4096]⟩
abbrev S1x4096 : Shape := ⟨2, ![1, 4096]⟩
abbrev S4096x256 : Shape := ⟨2, ![4096, 256]⟩
abbrev S512x256 : Shape := ⟨2, ![512, 256]⟩
abbrev S64x4096 : Shape := ⟨2, ![64, 4096]⟩
abbrev S64 : Shape := ⟨1, ![64]⟩
abbrev S64x1 : Shape := ⟨2, ![64, 1]⟩

abbrev nBuf : Space → Nat
  | .hbm => 7
  | .vmem => 9
  | .smem => 0
  | _ => 0

abbrev bufTy : (tb : Table) → Fin (tcTables nBuf tb) → BufTy
  | .hbm, ⟨0, _⟩ => ⟨S512x4096, .bf16⟩
  | .hbm, ⟨1, _⟩ => ⟨S4096x4096, .f32⟩
  | .hbm, ⟨2, _⟩ => ⟨S512x4096, .f32⟩
  | .hbm, ⟨3, _⟩ => ⟨S4096, .f32⟩
  | .hbm, ⟨4, _⟩ => ⟨S1x4096, .f32⟩
  | .hbm, ⟨5, _⟩ => ⟨S512x4096, .f32⟩
  | .hbm, ⟨6, _⟩ => ⟨S4096x4096, .bf16⟩
  | .local _ .vmem, ⟨0, _⟩ => ⟨S512x4096, .bf16⟩
  | .local _ .vmem, ⟨1, _⟩ => ⟨S4096x256, .f32⟩
  | .local _ .vmem, ⟨2, _⟩ => ⟨S4096x256, .f32⟩
  | .local _ .vmem, ⟨3, _⟩ => ⟨S512x256, .f32⟩
  | .local _ .vmem, ⟨4, _⟩ => ⟨S512x256, .f32⟩
  | .local _ .vmem, ⟨5, _⟩ => ⟨S1x4096, .f32⟩
  | .local _ .vmem, ⟨6, _⟩ => ⟨S512x4096, .f32⟩
  | .local _ .vmem, ⟨7, _⟩ => ⟨S4096x256, .bf16⟩
  | .local _ .vmem, ⟨8, _⟩ => ⟨S4096x256, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 16], ![false, false]⟩

def k0_cond17 (i : grid0.Coords) : BitVec 1 :=
  let arg1 : BitVec 32 := BitVec.ofNat 32 (i 1).val
  let c15_i32_25 : BitVec 32 := 15#32
  let v57 : BitVec 1 := Scalar.cmpi .eq arg1 c15_i32_25
  let v58 : BitVec 32 := Scalar.extui v57
  let c0_i32_26 : BitVec 32 := 0#32
  let v59 : BitVec 1 := Scalar.cmpi .ne v58 c0_i32_26
  v59

@[reducible] def k0_t1_loop : Scf.Loop 32 :=
  let c0_i32_27 : BitVec 32 := 0#32
  let c8_i32_28 : BitVec 32 := 8#32
  let v60 : BitVec 32 := Scalar.addi c0_i32_27 c8_i32_28
  let c1_i32_29 : BitVec 32 := 1#32
  ⟨c0_i32_27, v60, c1_i32_29⟩
def k0_mult1 (k0_t1 : Fin k0_t1_loop.trips) : BitVec 32 :=
  let c0_i32_27 : BitVec 32 := 0#32
  let c1_i32_29 : BitVec 32 := 1#32
  let arg8 : BitVec 32 := Scf.iv c0_i32_27 c1_i32_29 k0_t1
  let c64_i32 : BitVec 32 := 64#32
  let v61 : BitVec 32 := Scalar.muli arg8 c64_i32
  v61
def k0_off1 (k0_t1 : Fin k0_t1_loop.trips) : Fin 2 → Nat :=
  let c0_i32_27 : BitVec 32 := 0#32
  let c1_i32_29 : BitVec 32 := 1#32
  let arg8 : BitVec 32 := Scf.iv c0_i32_27 c1_i32_29 k0_t1
  let c64_i32 : BitVec 32 := 64#32
  let v61 : BitVec 32 := Scalar.muli arg8 c64_i32
  let v62 : BitVec 32 := v61
  let v63 : Index := Scalar.indexCast v62
  let c0_31 : Index := 0#32
  ![v63.toNat, 0]
def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_9 : BitVec 32 := 0#32
  let v11 : BitVec 1 := Scalar.cmpi .ne v10 c0_i32_9
  v11

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_10 : BitVec 32 := 0#32
  let v14 : BitVec 1 := Scalar.cmpi .ne v13 c0_i32_10
  v14

def k0_cond3 (i : grid0.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_11 : BitVec 32 := 0#32
  let v17 : BitVec 1 := Scalar.cmpi .ne v16 c0_i32_11
  v17

def k0_cond4 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_12 : BitVec 32 := 0#32
  let v20 : BitVec 1 := Scalar.cmpi .ne v19 c0_i32_12
  v20

def k0_cond5 (i : grid0.Coords) : BitVec 1 :=
  let arg1 : BitVec 32 := BitVec.ofNat 32 (i 1).val
  let c4_i32 : BitVec 32 := 4#32
  let v21 : BitVec 1 := Scalar.cmpi .eq arg1 c4_i32
  let v22 : BitVec 32 := Scalar.extui v21
  let c0_i32_13 : BitVec 32 := 0#32
  let v23 : BitVec 1 := Scalar.cmpi .ne v22 c0_i32_13
  v23

def k0_cond6 (i : grid0.Coords) : BitVec 1 :=
  let arg1 : BitVec 32 := BitVec.ofNat 32 (i 1).val
  let c5_i32 : BitVec 32 := 5#32
  let v24 : BitVec 1 := Scalar.cmpi .eq arg1 c5_i32
  let v25 : BitVec 32 := Scalar.extui v24
  let c0_i32_14 : BitVec 32 := 0#32
  let v26 : BitVec 1 := Scalar.cmpi .ne v25 c0_i32_14
  v26

def k0_cond7 (i : grid0.Coords) : BitVec 1 :=
  let arg1 : BitVec 32 := BitVec.ofNat 32 (i 1).val
  let c6_i32 : BitVec 32 := 6#32
  let v27 : BitVec 1 := Scalar.cmpi .eq arg1 c6_i32
  let v28 : BitVec 32 := Scalar.extui v27
  let c0_i32_15 : BitVec 32 := 0#32
  let v29 : BitVec 1 := Scalar.cmpi .ne v28 c0_i32_15
  v29

def k0_cond8 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_16 : BitVec 32 := 0#32
  let v32 : BitVec 1 := Scalar.cmpi .ne v31 c0_i32_16
  v32

def k0_cond9 (i : grid0.Coords) : BitVec 1 :=
  let arg1 : BitVec 32 := BitVec.ofNat 32 (i 1).val
  let c8_i32 : BitVec 32 := 8#32
  let v33 : BitVec 1 := Scalar.cmpi .eq arg1 c8_i32
  let v34 : BitVec 32 := Scalar.extui v33
  let c0_i32_17 : BitVec 32 := 0#32
  let v35 : BitVec 1 := Scalar.cmpi .ne v34 c0_i32_17
  v35

def k0_cond10 (i : grid0.Coords) : BitVec 1 :=
  let arg1 : BitVec 32 := BitVec.ofNat 32 (i 1).val
  let c9_i32 : BitVec 32 := 9#32
  let v36 : BitVec 1 := Scalar.cmpi .eq arg1 c9_i32
  let v37 : BitVec 32 := Scalar.extui v36
  let c0_i32_18 : BitVec 32 := 0#32
  let v38 : BitVec 1 := Scalar.cmpi .ne v37 c0_i32_18
  v38

def k0_cond11 (i : grid0.Coords) : BitVec 1 :=
  let arg1 : BitVec 32 := BitVec.ofNat 32 (i 1).val
  let c10_i32 : BitVec 32 := 10#32
  let v39 : BitVec 1 := Scalar.cmpi .eq arg1 c10_i32
  let v40 : BitVec 32 := Scalar.extui v39
  let c0_i32_19 : BitVec 32 := 0#32
  let v41 : BitVec 1 := Scalar.cmpi .ne v40 c0_i32_19
  v41

def k0_cond12 (i : grid0.Coords) : BitVec 1 :=
  let arg1 : BitVec 32 := BitVec.ofNat 32 (i 1).val
  let c11_i32 : BitVec 32 := 11#32
  let v42 : BitVec 1 := Scalar.cmpi .eq arg1 c11_i32
  let v43 : BitVec 32 := Scalar.extui v42
  let c0_i32_20 : BitVec 32 := 0#32
  let v44 : BitVec 1 := Scalar.cmpi .ne v43 c0_i32_20
  v44

def k0_cond13 (i : grid0.Coords) : BitVec 1 :=
  let arg1 : BitVec 32 := BitVec.ofNat 32 (i 1).val
  let c12_i32 : BitVec 32 := 12#32
  let v45 : BitVec 1 := Scalar.cmpi .eq arg1 c12_i32
  let v46 : BitVec 32 := Scalar.extui v45
  let c0_i32_21 : BitVec 32 := 0#32
  let v47 : BitVec 1 := Scalar.cmpi .ne v46 c0_i32_21
  v47

def k0_cond14 (i : grid0.Coords) : BitVec 1 :=
  let arg1 : BitVec 32 := BitVec.ofNat 32 (i 1).val
  let c13_i32 : BitVec 32 := 13#32
  let v48 : BitVec 1 := Scalar.cmpi .eq arg1 c13_i32
  let v49 : BitVec 32 := Scalar.extui v48
  let c0_i32_22 : BitVec 32 := 0#32
  let v50 : BitVec 1 := Scalar.cmpi .ne v49 c0_i32_22
  v50

def k0_cond15 (i : grid0.Coords) : BitVec 1 :=
  let arg1 : BitVec 32 := BitVec.ofNat 32 (i 1).val
  let c14_i32 : BitVec 32 := 14#32
  let v51 : BitVec 1 := Scalar.cmpi .eq arg1 c14_i32
  let v52 : BitVec 32 := Scalar.extui v51
  let c0_i32_23 : BitVec 32 := 0#32
  let v53 : BitVec 1 := Scalar.cmpi .ne v52 c0_i32_23
  v53

def k0_cond16 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_24 : BitVec 32 := 0#32
  let v56 : BitVec 1 := Scalar.cmpi .ne v55 c0_i32_24
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== OutSampleReferenceIdeal.lean ====
abbrev S512x4096 : Shape := ⟨2, ![512, 4096]⟩
abbrev S4096x4096 : Shape := ⟨2, ![4096, 4096]⟩
abbrev S4096 : Shape := ⟨1, ![4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x4096, .f32⟩
  | .hbm, ⟨2, _⟩ => ⟨S512x4096, .f32⟩
  | .hbm, ⟨3, _⟩ => ⟨S4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x4096, .f32⟩
  | .hbm, ⟨19, _⟩ => ⟨S512x4096, .f32⟩
  | .hbm, ⟨20, _⟩ => ⟨S1x4096, .f32⟩
  | .hbm, ⟨21, _⟩ => ⟨S512x4096, .f32⟩
  | .hbm, ⟨22, _⟩ => ⟨S512x4096, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.ISetup.lean ====
/- The launch of the sample attention's call: the host operations before it, the page table, the windows. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel's call -/

/-- The buffers of core `c` when the call is made: what the host operations before it leave. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

set_option maxHeartbeats 800000 in
/-- @main runs the host operations and then makes the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The argument buffers. -/
def isArg (b : Ref sig .tc) : Prop :=
  b = main_arg0 ∨ b = main_arg1 ∨ b = main_arg2 ∨ b = main_arg3 ∨ b = main_arg4 ∨ b = main_arg5 ∨ b = main_arg6 ∨ b = main_arg7
    ∨ b = main_arg8 ∨ b = main_arg9

set_option maxHeartbeats 3200000 in
/-- No host operation writes an argument: the call finds each as it was given. -/
theorem V_arg (c : Dev nD) (b : Ref sig .tc) (hb : isArg b) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases hb with rfl | rfl | rfl | rfl | rfl | rfl | rfl | rfl | rfl | rfl <;>
    · repeat' apply And.intro
      all_goals exact StableHlo.devRef_ne_of_ne (by decide)))

/-! ## The page table -/

/-- The page table's contents when the call is made. -/
def tbl : pre0.Contents (Elt F) := fun j => V m (0 : Dev nD) (pre0.ref j)
/-- The one device holds those. -/
theorem V_pre (c : Dev nD) (j : Fin 1) : V m c (pre0.ref j) = tbl m j := by
  obtain rfl : c = 0 := Subsingleton.elim _ _; rfl
/-- Every page the table names lies in the pool. -/
abbrev Ok : Prop := ok0 (F := F) (tbl m)
/-- The pipeline at the table's contents. -/
abbrev adm (hO : Ok m) : (pcfg0 (F := F)).Adm := ⟨tbl m, hO⟩
abbrev cfgM (hO : Ok m) : Pipeline.Cfg sig Λ₀ := cfg0 (adm m hO)

/-- The table as the body is handed it. -/
abbrev tbM : Memref sig .tc .smem S128x16 .i32 := Memref.whole main_arg0
abbrev htbM : tbM.IsWhole := Memref.isWhole_whole _
/-- The table held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The table's half is all the invariant says of tables. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- A memref held at some contents, of which nothing is said. -/
def held (c : Dev nD) {sp : Space} {S : Shape} {e : EltTy} (M : Memref sig .tc sp S e) : sProp 𝕄 :=
  iprop(∃ d, owns (c : Thread nD τ) M fullShare d)

/-- A buffer at any contents holds its memref. -/
theorem held_of (c : Dev nD) {sp : Space} {S : Shape} {e : EltTy} (M : Memref sig .tc sp S e) (f : M.view.ty.Contents (Elt F)) :
    (M.view.loc (c : Thread nD τ) ↦[M.view.set]{fullShare} f : sProp 𝕄) ⊢ held c M := by
  unfold held owns
  iintro H
  iexists _, f
  isplitr
  · ipureintro; rfl
  · iexact H

abbrev ms0 (hO : Ok m) (t : Fin (cfgM m hO).N) : Memref sig .tc .vmem S512x4096 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S4096x1024 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x64x128 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x64x128 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x2048x128 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x2048x128 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x2048x128 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S1x2048x128 .f32 := spec0_7.stage ((cfgM m hO).slots t 7)
abbrev hs7 (hO : Ok m) (t : Fin (cfgM m hO).N) : (ms7 m hO t).IsWhole := hstage0_7 (((cfgM m hO).slots t 7).cast nbuf0_7)
abbrev ms8 (hO : Ok m) (t : Fin (cfgM m hO).N) : Memref sig .tc .vmem S1x2048x128 .f32 := spec0_8.stage ((cfgM m hO).slots t 8)
abbrev hs8 (hO : Ok m) (t : Fin (cfgM m hO).N) : (ms8 m hO t).IsWhole := hstage0_8 (((cfgM m hO).slots t 8).cast nbuf0_8)
abbrev ms9 (hO : Ok m) (t : Fin (cfgM m hO).N) : Memref sig .tc .vmem S1x2048x128 .f32 := spec0_9.stage ((cfgM m hO).slots t 9)
abbrev hs9 (hO : Ok m) (t : Fin (cfgM m hO).N) : (ms9 m hO t).IsWhole := hstage0_9 (((cfgM m hO).slots t 9).cast nbuf0_9)
abbrev ms10 (hO : Ok m) (t : Fin (cfgM m hO).N) : Memref sig .tc .vmem S1x2048x128 .f32 := spec0_10.stage ((cfgM m hO).slots t 10)
abbrev hs10 (hO : Ok m) (t : Fin (cfgM m hO).N) : (ms10 m hO t).IsWhole := hstage0_10 (((cfgM m hO).slots t 10).cast nbuf0_10)
abbrev ms11 (hO : Ok m) (t : Fin (cfgM m hO).N) : Memref sig .tc .vmem S1x2048x128 .f32 := spec0_11.stage ((cfgM m hO).slots t 11)
abbrev hs11 (hO : Ok m) (t : Fin (cfgM m hO).N) : (ms11 m hO t).IsWhole := hstage0_11 (((cfgM m hO).slots t 11).cast nbuf0_11)
abbrev ms12 (hO : Ok m) (t : Fin (cfgM m hO).N) : Memref sig .tc .vmem S1x2048x128 .f32 := spec0_12.stage ((cfgM m hO).slots t 12)
abbrev hs12 (hO : Ok m) (t : Fin (cfgM m hO).N) : (ms12 m hO t).IsWhole := hstage0_12 (((cfgM m hO).slots t 12).cast nbuf0_12)
abbrev ms13 (hO : Ok m) (t : Fin (cfgM m hO).N) : Memref sig .tc .vmem S1x2048x128 .f32 := spec0_13.stage ((cfgM m hO).slots t 13)
abbrev hs13 (hO : Ok m) (t : Fin (cfgM m hO).N) : (ms13 m hO t).IsWhole := hstage0_13 (((cfgM m hO).slots t 13).cast nbuf0_13)
abbrev ms14 (hO : Ok m) (t : Fin (cfgM m hO).N) : Memref sig .tc .vmem S1x2048x128 .f32 := spec0_14.stage ((cfgM m hO).slots t 14)
abbrev hs14 (hO : Ok m) (t : Fin (cfgM m hO).N) : (ms14 m hO t).IsWhole := hstage0_14 (((cfgM m hO).slots t 14).cast nbuf0_14)
abbrev ms15 (hO : Ok m) (t : Fin (cfgM m hO).N) : Memref sig .tc .vmem S1x2048x128 .f32 := spec0_15.stage ((cfgM m hO).slots t 15)
abbrev hs15 (hO : Ok m) (t : Fin (cfgM m hO).N) : (ms15 m hO t).IsWhole := hstage0_15 (((cfgM m hO).slots t 15).cast nbuf0_15)
abbrev ms16 (hO : Ok m) (t : Fin (cfgM m hO).N) : Memref sig .tc .vmem S1x2048x128 .f32 := spec0_16.stage ((cfgM m hO).slots t 16)
abbrev hs16 (hO : Ok m) (t : Fin (cfgM m hO).N) : (ms16 m hO t).IsWhole := hstage0_16 (((cfgM m hO).slots t 16).cast nbuf0_16)
abbrev ms17 (hO : Ok m) (t : Fin (cfgM m hO).N) : Memref sig .tc .vmem S1x2048x128 .f32 := spec0_17.stage ((cfgM m hO).slots t 17)
abbrev hs17 (hO : Ok m) (t : Fin (cfgM m hO).N) : (ms17 m hO t).IsWhole := hstage0_17 (((cfgM m hO).slots t 17).cast nbuf0_17)
abbrev ms18 (hO : Ok m) (t : Fin (cfgM m hO).N) : Memref sig .tc .vmem S1x2048x128 .f32 := spec0_18.stage ((cfgM m hO).slots t 18)
abbrev hs18 (hO : Ok m) (t : Fin (cfgM m hO).N) : (ms18 m hO t).IsWhole := hstage0_18 (((cfgM m hO).slots t 18).cast nbuf0_18)
abbrev ms19 (hO : Ok m) (t : Fin (cfgM m hO).N) : Memref sig .tc .vmem S1x2048x128 .f32 := spec0_19.stage ((cfgM m hO).slots t 19)
abbrev hs19 (hO : Ok m) (t : Fin (cfgM m hO).N) : (ms19 m hO t).IsWhole := hstage0_19 (((cfgM m hO).slots t 19).cast nbuf0_19)
abbrev ms20 (hO : Ok m) (t : Fin (cfgM m hO).N) : Memref sig .tc .vmem S1x64x2048 .f32 := spec0_20.stage ((cfgM m hO).slots t 20)
abbrev hs20 (hO : Ok m) (t : Fin (cfgM m hO).N) : (ms20 m hO t).IsWhole := hstage0_20 (((cfgM m hO).slots t 20).cast nbuf0_20)
abbrev ms21 (hO : Ok m) (t : Fin (cfgM m hO).N) : Memref sig .tc .vmem S1x64x2048 .f32 := spec0_21.stage ((cfgM m hO).slots t 21)
abbrev hs21 (hO : Ok m) (t : Fin (cfgM m hO).N) : (ms21 m hO t).IsWhole := hstage0_21 (((cfgM m hO).slots t 21).cast nbuf0_21)
abbrev ms22 (hO : Ok m) (t : Fin (cfgM m hO).N) : Memref sig .tc .vmem S1x64x128 .bf16 := spec0_22.stage ((cfgM m hO).slots t 22)
abbrev hs22 (hO : Ok m) (t : Fin (cfgM m hO).N) : (ms22 m hO t).IsWhole := hstage0_22 (((cfgM m hO).slots t 22).cast nbuf0_22)
abbrev ms23 (hO : Ok m) (t : Fin (cfgM m hO).N) : Memref sig .tc .vmem S1x64x128 .bf16 := spec0_23.stage ((cfgM m hO).slots t 23)
abbrev hs23 (hO : Ok m) (t : Fin (cfgM m hO).N) : (ms23 m hO t).IsWhole := hstage0_23 (((cfgM m hO).slots t 23).cast nbuf0_23)
abbrev ms24 (hO : Ok m) (t : Fin (cfgM m hO).N) : Memref sig .tc .vmem S64x64 .f32 := spec0_24.stage ((cfgM m hO).slots t 24)
abbrev hs24 (hO : Ok m) (t : Fin (cfgM m hO).N) : (ms24 m hO t).IsWhole := hstage0_24 (((cfgM m hO).slots t 24).cast nbuf0_24)
abbrev ms25 (hO : Ok m) (t : Fin (cfgM m hO).N) : Memref sig .tc .vmem S8x2048 .f32 := spec0_25.stage ((cfgM m hO).slots t 25)
abbrev hs25 (hO : Ok m) (t : Fin (cfgM m hO).N) : (ms25 m hO t).IsWhole := hstage0_25 (((cfgM m hO).slots t 25).cast nbuf0_25)
abbrev ms26 (hO : Ok m) (t : Fin (cfgM m hO).N) : Memref sig .tc .vmem S8x2048 .f32 := spec0_26.stage ((cfgM m hO).slots t 26)
abbrev hs26 (hO : Ok m) (t : Fin (cfgM m hO).N) : (ms26 m hO t).IsWhole := hstage0_26 (((cfgM m hO).slots t 26).cast nbuf0_26)
abbrev ms27 (hO : Ok m) (t : Fin (cfgM m hO).N) : Memref sig .tc .vmem S512x1024 .bf16 := spec0_27.stage ((cfgM m hO).slots t 27)
abbrev hs27 (hO : Ok m) (t : Fin (cfgM m hO).N) : (ms27 m hO t).IsWhole := hstage0_27 (((cfgM m hO).slots t 27).cast nbuf0_27)

/-! The scratch buffers. -/

abbrev scM0 : Memref sig .tc .vmem S16x64x128 .f32 := Memref.whole cc0_scratch0
abbrev scM1 : Memref sig .tc .vmem S16x64x128 .f32 := Memref.whole cc0_scratch1
abbrev scM2 : Memref sig .tc .vmem S16x64x128 .f32 := Memref.whole cc0_scratch2
abbrev scM3 : Memref sig .tc .vmem S128x128 .f32 := Memref.whole cc0_scratch3

/-- The invariant with the scratch buffers one by one. -/
theorem PhiA_eq (c : Dev nD) :
    (Pipeline.ΦA spec0 c : sProp 𝕄)
      = iprop(iprop(held c scM0 ∗ held c scM1 ∗ held c scM2 ∗ held c scM3) ∗ (∃ r, prngReg c r)) := by
  unfold Pipeline.ΦA held; rw [scopedRest0_eq]; simp only [scM0, scM1, scM2, scM3, owns_whole]; try rfl

end Cert.KernelIdeal.Hand

end
-- ==== Proof.IOffsets.lean ====
/- The scratch offsets of a point, in closed form. -/
module

public import proofs.«01_k».proof.Proof.ISetup

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row of a page's scores within the scratch, from the scratch slot's word: two pages share a group of sixteen rows. -/
def pairRow (v54 : BitVec 32) : BitVec 32 :=
  Scalar.muli (Scalar.select (Scalar.andi
    (Scalar.cmpi .ne (Scalar.subi (Scalar.extui (Scalar.cmpi .sgt v54 0#32)) (Scalar.extui (Scalar.cmpi .slt v54 0#32)))
      (Scalar.subi (Scalar.extui (Scalar.cmpi .sgt (2#32 : BitVec 32) 0#32)) (Scalar.extui (Scalar.cmpi .slt (2#32 : BitVec 32) 0#32))))
    (Scalar.cmpi .ne (Scalar.remsi v54 2#32) 0#32)) (Scalar.subi (Scalar.divsi v54 2#32) 1#32) (Scalar.divsi v54 2#32)) 16#32

/-- Both offset chains come from one word, the first scratch slot of the point's half, a multiple of eight. -/
theorem off_word8 (i : grid0.Coords) : ∃ w : BitVec 32, (w = 0#32 ∨ w = 8#32) ∧ ∀ r : BitVec 32,
    k0_off2 i r = ![(w + r).toNat, 0, 0] ∧ k0_off3 i r = ![(pairRow (w + r)).toNat, 0] := by
  obtain ⟨v, hv⟩ : ∃ v : BitVec 32, ∀ r : BitVec 32,
    k0_off2 i r = ![(v * 8#32 + r).toNat, 0, 0] ∧ k0_off3 i r = ![(pairRow (v * 8#32 + r)).toNat, 0] := ⟨_, fun _ => ⟨rfl, rfl⟩⟩
  refine ⟨v * 8#32, ?_, hv⟩
  have h7 := k0_off2_inb i 7 0
  have h0 := k0_off2_inb i 0 0
  rw [show BitVec.ofNat 32 ((7 : Fin 8) : ℕ) = 7#32 from rfl, (hv 7#32).1] at h7
  rw [show BitVec.ofNat 32 ((0 : Fin 8) : ℕ) = 0#32 from rfl, (hv 0#32).1] at h0
  simp only [Matrix.cons_val_zero, BitVec.toNat_add, BitVec.toNat_mul, BitVec.toNat_ofNat] at h7 h0
  have : (v * 8#32).toNat = 0 ∨ (v * 8#32).toNat = 8 := by
    simp only [BitVec.toNat_mul, BitVec.toNat_ofNat]; omega
  rcases this with h | h
  · left; exact BitVec.eq_of_toNat_eq h
  · right; exact BitVec.eq_of_toNat_eq h

/-- Which half of its sequence's pages the point takes, read off its first scratch slot. -/
def half (i : grid0.Coords) : ℕ := k0_off2 i 0#32 0 / 8

/-- The offsets in closed form. -/
theorem off_closed (i : grid0.Coords) (r : Fin 8) :
    k0_off2 i (BitVec.ofNat 32 r.val) = ![8 * half i + r.val, 0, 0]
      ∧ k0_off3 i (BitVec.ofNat 32 r.val) = ![64 * half i + 16 * (r.val / 2), 0] := by
  obtain ⟨w, hw, h⟩ := off_word8 i
  unfold half
  rw [(h _).1, (h _).2, (h _).1]
  rcases hw with rfl | rfl <;> revert r <;> decide

instance (i : grid0.Coords) : ClosedOff (k0_off2 i 0#32) := ⟨![8 * half i + 0, 0, 0], (off_closed i 0).1⟩
instance (i : grid0.Coords) : ClosedOff (k0_off3 i 0#32) := ⟨![64 * half i + 0, 0], (off_closed i 0).2⟩
instance (i : grid0.Coords) : ClosedOff (k0_off2 i 1#32) := ⟨![8 * half i + 1, 0, 0], (off_closed i 1).1⟩
instance (i : grid0.Coords) : ClosedOff (k0_off3 i 1#32) := ⟨![64 * half i + 0, 0], (off_closed i 1).2⟩
instance (i : grid0.Coords) : ClosedOff (k0_off2 i 2#32) := ⟨![8 * half i + 2, 0, 0], (off_closed i 2).1⟩
instance (i : grid0.Coords) : ClosedOff (k0_off3 i 2#32) := ⟨![64 * half i + 16, 0], (off_closed i 2).2⟩
instance (i : grid0.Coords) : ClosedOff (k0_off2 i 3#32) := ⟨![8 * half i + 3, 0, 0], (off_closed i 3).1⟩
instance (i : grid0.Coords) : ClosedOff (k0_off3 i 3#32) := ⟨![64 * half i + 16, 0], (off_closed i 3).2⟩
instance (i : grid0.Coords) : ClosedOff (k0_off2 i 4#32) := ⟨![8 * half i + 4, 0, 0], (off_closed i 4).1⟩
instance (i : grid0.Coords) : ClosedOff (k0_off3 i 4#32) := ⟨![64 * half i + 32, 0], (off_closed i 4).2⟩
instance (i : grid0.Coords) : ClosedOff (k0_off2 i 5#32) := ⟨![8 * half i + 5, 0, 0], (off_closed i 5).1⟩
instance (i : grid0.Coords) : ClosedOff (k0_off3 i 5#32) := ⟨![64 * half i + 32, 0], (off_closed i 5).2⟩
instance (i : grid0.Coords) : ClosedOff (k0_off2 i 6#32) := ⟨![8 * half i + 6, 0, 0], (off_closed i 6).1⟩
instance (i : grid0.Coords) : ClosedOff (k0_off3 i 6#32) := ⟨![64 * half i + 48, 0], (off_closed i 6).2⟩
instance (i : grid0.Coords) : ClosedOff (k0_off2 i 7#32) := ⟨![8 * half i + 7, 0, 0], (off_closed i 7).1⟩
instance (i : grid0.Coords) : ClosedOff (k0_off3 i 7#32) := ⟨![64 * half i + 48, 0], (off_closed i 7).2⟩

end Cert.KernelIdeal.Hand

end
-- ==== Proof.IRestBlock.lean ====
/- The block of the rest projection that the body computes at a point. -/
module

public import proofs.«01_k».proof.Proof.IOffsets
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One block of the rest projection -/

/-- A column chunk of the block: the rows of the hidden states times 256 columns of the weights, rounded once. -/
def restChunk (x0 : Vec F S512x4096 .bf16) (w : Vec F S4096x256 .bf16) : Vec F S512x256 .bf16 := k0_pay102 x0 w

/-- The whole block of the hidden states. -/
abbrev wholeRows : Rect S512x4096 := Rect.unit (s := S512x4096) ![0, 0] S512x4096.size inb_S512x4096_S512x4096_0_0

/-- The block of the rest projection the body leaves: four column chunks beside each other. -/
def restBlk (x0 : Vec F S512x4096 .bf16) (x1 : Vec F S4096x1024 .bf16) : Vec F S512x1024 .bf16 :=
  View.canon (Val := Elt F) (s := S512x1024) (e := .bf16)
    [⟨Rect.unit (s := S512x1024) ![0, 768] S512x256.size inb_S512x1024_S512x256_0_768,
        restChunk (View.ld x0 wholeRows) (View.ld x1 (Rect.unit (s := S4096x1024) ![0, 768] S4096x256.size inb_S4096x1024_S4096x256_0_768))⟩,
     ⟨Rect.unit (s := S512x1024) ![0, 512] S512x256.size inb_S512x1024_S512x256_0_512,
        restChunk (View.ld x0 wholeRows) (View.ld x1 (Rect.unit (s := S4096x1024) ![0, 512] S4096x256.size inb_S4096x1024_S4096x256_0_512))⟩,
     ⟨Rect.unit (s := S512x1024) ![0, 256] S512x256.size inb_S512x1024_S512x256_0_256,
        restChunk (View.ld x0 wholeRows) (View.ld x1 (Rect.unit (s := S4096x1024) ![0, 256] S4096x256.size inb_S4096x1024_S4096x256_0_256))⟩,
     ⟨Rect.unit (s := S512x1024) ![0, 0] S512x256.size inb_S512x1024_S512x256_0_0,
        restChunk (View.ld x0 wholeRows) (View.ld x1 (Rect.unit (s := S4096x1024) ![0, 0] S4096x256.size inb_S4096x1024_S4096x256_0_0))⟩]

/-- The stores of the four chunks leave that block, whatever the buffer held. -/
theorem restBlk_of_writes (arg3 : Memref sig .tc .vmem S512x4096 .bf16) (harg3 : arg3.IsWhole) (arg4 : Memref sig .tc .vmem S4096x1024 .bf16)
    (harg4 : arg4.IsWhole) (arg30 : Memref sig .tc .vmem S512x1024 .bf16) (x0 : Vec F S512x4096 .bf16) (x1 : Vec F S4096x1024 .bf16)
    (f : arg30.view.ty.Contents (Elt F)) :
    arg30.view.read (Elt F) (arg30.view.writes (Elt F) f
      [⟨Rect.unit (s := S512x1024) ![0, 768] S512x256.size inb_S512x1024_S512x256_0_768, k0_pay163 (arg3.view.readAt (Elt F) wholeRows.toLoadRect (harg3.unread x0)) (arg4.view.readAt (Elt F) (Rect.unit (s := S4096x1024) ![0, 768] S4096x256.size inb_S4096x1024_S4096x256_0_768).toLoadRect (harg4.unread x1))⟩,⟨Rect.unit (s := S512x1024) ![0, 512] S512x256.size inb_S512x1024_S512x256_0_512, k0_pay141 (arg3.view.readAt (Elt F) wholeRows.toLoadRect (harg3.unread x0)) (arg4.view.readAt (Elt F) (Rect.unit (s := S4096x1024) ![0, 512] S4096x256.size inb_S4096x1024_S4096x256_0_512).toLoadRect (harg4.unread x1))⟩,⟨Rect.unit (s := S512x1024) ![0, 256] S512x256.size inb_S512x1024_S512x256_0_256, k0_pay122 (arg3.view.readAt (Elt F) wholeRows.toLoadRect (harg3.unread x0)) (arg4.view.readAt (Elt F) (Rect.unit (s := S4096x1024) ![0, 256] S4096x256.size inb_S4096x1024_S4096x256_0_256).toLoadRect (harg4.unread x1))⟩,⟨Rect.unit (s := S512x1024) ![0, 0] S512x256.size inb_S512x1024_S512x256_0_0, k0_pay102 (arg3.view.readAt (Elt F) wholeRows.toLoadRect (harg3.unread x0)) (arg4.view.readAt (Elt F) (Rect.unit (s := S4096x1024) ![0, 0] S4096x256.size inb_S4096x1024_S4096x256_0_0).toLoadRect (harg4.unread x1))⟩]) = restBlk x0 x1 := by
  refine (View.read_writes_eq_canon arg30.view f _ (View.cover_of_tiledL _ S512x256.size (by sl_kernel_rfl))).trans ?_
  have h3 : ∀ B, arg3.view.readAt (Elt F) B (harg3.unread x0) = fun x => x0 (B.idx x) := fun B => funext (harg3.readAt_unread x0 B)
  have h4 : ∀ B, arg4.view.readAt (Elt F) B (harg4.unread x1) = fun x => x1 (B.idx x) := fun B => funext (harg4.readAt_unread x1 B)
  simp only [h3, h4]
  rfl

end Cert.KernelIdeal.Hand

end
-- ==== Proof.IRunAt.lean ====
/- What the body's run states. -/
module

public import proofs.«01_k».proof.Proof.IRestBlock

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer of a thread, at some contents. -/
def heldC (c : Dev nD) {s : Shape} {e : EltTy} (M : Memref sig .tc .vmem s e) : sProp 𝕄 :=
  iprop(∃ f, M.view.loc (c : Thread nD τ) ↦[M.view.set]{fullShare} f)

/-- What the body does at a point: the hidden states' block and the weights' block stay, the rest projection's block is computed,
    everything else is held at some contents. -/
def RunAt (c : Dev nD) (i : grid0.Coords) : Prop :=
  ∀ (arg3 : Memref sig .tc .vmem S512x4096 .bf16) (harg3 : arg3.IsWhole) (arg4 : Memref sig .tc .vmem S4096x1024 .bf16) (harg4 : arg4.IsWhole) (arg5 : Memref sig .tc .vmem S1x64x128 .f32) (harg5 : arg5.IsWhole) (arg6 : Memref sig .tc .vmem S1x64x128 .bf16) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x2048x128 .f32) (harg12 : arg12.IsWhole) (arg13 : Memref sig .tc .vmem S1x2048x128 .f32) (harg13 : arg13.IsWhole) (arg14 : Memref sig .tc .vmem S1x2048x128 .f32) (harg14 : arg14.IsWhole) (arg15 : Memref sig .tc .vmem S1x2048x128 .f32) (harg15 : arg15.IsWhole) (arg16 : Memref sig .tc .vmem S1x2048x128 .f32) (harg16 : arg16.IsWhole) (arg17 : Memref sig .tc .vmem S1x2048x128 .f32) (harg17 : arg17.IsWhole) (arg18 : Memref sig .tc .vmem S1x2048x128 .f32) (harg18 : arg18.IsWhole) (arg19 : Memref sig .tc .vmem S1x2048x128 .f32) (harg19 : arg19.IsWhole) (arg20 : Memref sig .tc .vmem S1x2048x128 .f32) (harg20 : arg20.IsWhole) (arg21 : Memref sig .tc .vmem S1x2048x128 .f32) (harg21 : arg21.IsWhole) (arg22 : Memref sig .tc .vmem S1x2048x128 .f32) (harg22 : arg22.IsWhole) (arg23 : Memref sig .tc .vmem S1x64x2048 .f32) (harg23 : arg23.IsWhole) (arg24 : Memref sig .tc .vmem S1x64x2048 .f32) (harg24 : arg24.IsWhole) (arg25 : Memref sig .tc .vmem S1x64x128 .bf16) (harg25 : arg25.IsWhole) (arg26 : Memref sig .tc .vmem S1x64x128 .bf16) (harg26 : arg26.IsWhole) (arg27 : Memref sig .tc .vmem S64x64 .f32) (harg27 : arg27.IsWhole) (arg28 : Memref sig .tc .vmem S8x2048 .f32) (harg28 : arg28.IsWhole) (arg29 : Memref sig .tc .vmem S8x2048 .f32) (harg29 : arg29.IsWhole) (arg30 : Memref sig .tc .vmem S512x1024 .bf16) (harg30 : arg30.IsWhole) (arg31 : Memref sig .tc .vmem S16x64x128 .f32) (harg31 : arg31.IsWhole) (arg32 : Memref sig .tc .vmem S16x64x128 .f32) (harg32 : arg32.IsWhole) (arg33 : Memref sig .tc .vmem S16x64x128 .f32) (harg33 : arg33.IsWhole) (arg34 : Memref sig .tc .vmem S128x128 .f32) (harg34 : arg34.IsWhole)
    (x0 : Vec F S512x4096 .bf16) (x1 : Vec F S4096x1024 .bf16) (xt0 : TbBuf (F := F) c tbM) (E : Set ℕ) (K : PUnit → sProp 𝕄),
    iprop(heldC c arg30 ∗ (arg3.view.loc c ↦[arg3.view.set]{fullShare} harg3.unread x0) ∗ (arg4.view.loc c ↦[arg4.view.set]{fullShare} harg4.unread x1) ∗ heldC c arg5 ∗ heldC c arg6 ∗ heldC c arg7 ∗ heldC c arg8 ∗ heldC c arg9 ∗ heldC c arg10 ∗ heldC c arg11 ∗ heldC c arg12 ∗ heldC c arg13 ∗ heldC c arg14 ∗ heldC c arg15 ∗ heldC c arg16 ∗ heldC c arg17 ∗ heldC c arg18 ∗ heldC c arg19 ∗ heldC c arg20 ∗ heldC c arg21 ∗ heldC c arg22 ∗ heldC c arg23 ∗ heldC c arg24 ∗ heldC c arg25 ∗ heldC c arg26 ∗ heldC c arg27 ∗ heldC c arg28 ∗ heldC c arg29 ∗ heldC c arg31 ∗ heldC c arg32 ∗ heldC c arg33 ∗ heldC c arg34 ∗ tbPt c tbM xt0
        ∗ (iprop(owns (c : Thread nD τ) arg30 fullShare (restBlk x0 x1) ∗ (arg3.view.loc c ↦[arg3.view.set]{fullShare} harg3.unread x0) ∗ (arg4.view.loc c ↦[arg4.view.set]{fullShare} harg4.unread x1) ∗ heldC c arg5 ∗ heldC c arg6 ∗ heldC c arg7 ∗ heldC c arg8 ∗ heldC c arg9 ∗ heldC c arg10 ∗ heldC c arg11 ∗ heldC c arg12 ∗ heldC c arg13 ∗ heldC c arg14 ∗ heldC c arg15 ∗ heldC c arg16 ∗ heldC c arg17 ∗ heldC c arg18 ∗ heldC c arg19 ∗ heldC c arg20 ∗ heldC c arg21 ∗ heldC c arg22 ∗ heldC c arg23 ∗ heldC c arg24 ∗ heldC c arg25 ∗ heldC c arg26 ∗ heldC c arg27 ∗ heldC c arg28 ∗ heldC c arg29 ∗ heldC c arg31 ∗ heldC c arg32 ∗ heldC c arg33 ∗ heldC c arg34 ∗ tbPt c tbM xt0) -∗ K ⟨⟩))
      ⊢ wp frame (wpE (defs₀ (F := F)) Variants.none c none) E (cc0_attn_sample_and_proj i tbM htbM arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K

end Cert.KernelIdeal.Hand

end
-- ==== Proof.IRunNoPage.lean ====
/- The body's run: a point that takes no page. -/
module

public import proofs.«01_k».proof.Proof.IRunAt

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point that takes no page. -/
theorem run_no_page (c : Dev nD) (i : grid0.Coords) (hc0 : ¬ k0_cond1 i = 1#1) : RunAt (F := F) c i := by
  unfold RunAt
  intro arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 xt0 E K
  simp only [cc0_attn_sample_and_proj_eq_skeleton]; unfold cc0_attn_sample_and_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  simp only [heldC, owns]
  iintro ⟨⟨%f30, H30⟩, H3, H4, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f31, H31⟩, ⟨%f32, H32⟩, ⟨%f33, H33⟩, ⟨%f34, H34⟩, HT, Hk⟩
  sl_exec (disch := sl_exact hc0)
  sl_step
  iapply Hk
  isplitl [H30]
  · iexists _; isplitr; swap; · iexact H30
    ipureintro; exact restBlk_of_writes arg3 harg3 arg4 harg4 arg30 x0 x1 _
  sl_close

end Cert.KernelIdeal.Hand

end
-- ==== Proof.IRunFirstHalf.lean ====
/- The body's run: a point that takes its sequence's first pages, and starts the sequence. -/
module

public import proofs.«01_k».proof.Proof.IRunAt

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point that takes its sequence's first pages, and starts the sequence. -/
theorem run_first (c : Dev nD) (i : grid0.Coords) (hc0 : k0_cond1 i = 1#1) (hc1 : k0_cond2 i = 1#1) (hc2 : ¬ k0_cond3 i = 1#1) : RunAt (F := F) c i := by
  unfold RunAt
  intro arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 xt0 E K
  simp only [cc0_attn_sample_and_proj_eq_skeleton]; unfold cc0_attn_sample_and_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  simp only [heldC, owns]
  iintro ⟨⟨%f30, H30⟩, H3, H4, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f31, H31⟩, ⟨%f32, H32⟩, ⟨%f33, H33⟩, ⟨%f34, H34⟩, HT, Hk⟩
  sl_exec (disch := first | sl_exact hc0 | sl_exact hc1 | sl_exact hc2)
  sl_step
  iapply Hk
  isplitl [H30]
  · iexists _; isplitr; swap; · iexact H30
    ipureintro; exact restBlk_of_writes arg3 harg3 arg4 harg4 arg30 x0 x1 _
  sl_close

end Cert.KernelIdeal.Hand

end
-- ==== Proof.IRunLastHalf.lean ====
/- The body's run: a point that takes its sequence's last pages, and writes the sequence's row. -/
module

public import proofs.«01_k».proof.Proof.IRunAt

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point that takes its sequence's last pages, and writes the sequence's row. -/
theorem run_last (c : Dev nD) (i : grid0.Coords) (hc0 : k0_cond1 i = 1#1) (hc1 : ¬ k0_cond2 i = 1#1) (hc2 : k0_cond3 i = 1#1) : RunAt (F := F) c i := by
  unfold RunAt
  intro arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 xt0 E K
  simp only [cc0_attn_sample_and_proj_eq_skeleton]; unfold cc0_attn_sample_and_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  simp only [heldC, owns]
  iintro ⟨⟨%f30, H30⟩, H3, H4, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f31, H31⟩, ⟨%f32, H32⟩, ⟨%f33, H33⟩, ⟨%f34, H34⟩, HT, Hk⟩
  sl_exec (disch := first | sl_exact hc0 | sl_exact hc1 | sl_exact hc2)
  sl_step
  iapply Hk
  isplitl [H30]
  · iexists _; isplitr; swap; · iexact H30
    ipureintro; exact restBlk_of_writes arg3 harg3 arg4 harg4 arg30 x0 x1 _
  sl_close

end Cert.KernelIdeal.Hand

end
-- ==== Proof.IRunMidHalf.lean ====
/- The body's run: a point between. -/
module

public import proofs.«01_k».proof.Proof.IRunAt

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point between. -/
theorem run_mid (c : Dev nD) (i : grid0.Coords) (hc0 : k0_cond1 i = 1#1) (hc1 : ¬ k0_cond2 i = 1#1) (hc2 : ¬ k0_cond3 i = 1#1) : RunAt (F := F) c i := by
  unfold RunAt
  intro arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 xt0 E K
  simp only [cc0_attn_sample_and_proj_eq_skeleton]; unfold cc0_attn_sample_and_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  simp only [heldC, owns]
  iintro ⟨⟨%f30, H30⟩, H3, H4, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f31, H31⟩, ⟨%f32, H32⟩, ⟨%f33, H33⟩, ⟨%f34, H34⟩, HT, Hk⟩
  sl_exec (disch := first | sl_exact hc0 | sl_exact hc1 | sl_exact hc2)
  sl_step
  iapply Hk
  isplitl [H30]
  · iexists _; isplitr; swap; · iexact H30
    ipureintro; exact restBlk_of_writes arg3 harg3 arg4 harg4 arg30 x0 x1 _
  sl_close

end Cert.KernelIdeal.Hand

end
-- ==== Proof.IRunBothHalves.lean ====
/- The body's run: a point that both starts a sequence and ends it. -/
module

public import proofs.«01_k».proof.Proof.IRunAt

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point that both starts a sequence and ends it. -/
theorem run_both (c : Dev nD) (i : grid0.Coords) (hc0 : k0_cond1 i = 1#1) (hc1 : k0_cond2 i = 1#1) (hc2 : k0_cond3 i = 1#1) : RunAt (F := F) c i := by
  unfold RunAt
  intro arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 xt0 E K
  simp only [cc0_attn_sample_and_proj_eq_skeleton]; unfold cc0_attn_sample_and_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  simp only [heldC, owns]
  iintro ⟨⟨%f30, H30⟩, H3, H4, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f31, H31⟩, ⟨%f32, H32⟩, ⟨%f33, H33⟩, ⟨%f34, H34⟩, HT, Hk⟩
  sl_exec (disch := first | sl_exact hc0 | sl_exact hc1 | sl_exact hc2)
  sl_step
  iapply Hk
  isplitl [H30]
  · iexists _; isplitr; swap; · iexact H30
    ipureintro; exact restBlk_of_writes arg3 harg3 arg4 harg4 arg30 x0 x1 _
  sl_close

end Cert.KernelIdeal.Hand

end
-- ==== Proof.IRun.lean ====
/- The body's run at a point. -/
module

public import proofs.«01_k».proof.Proof.IRunNoPage
public import proofs.«01_k».proof.Proof.IRunFirstHalf
public import proofs.«01_k».proof.Proof.IRunLastHalf
public import proofs.«01_k».proof.Proof.IRunMidHalf
public import proofs.«01_k».proof.Proof.IRunBothHalves

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run, whichever phases of the attention the point takes. -/
theorem runAt (c : Dev nD) (i : grid0.Coords) : RunAt (F := F) c i := by
  by_cases hc0 : k0_cond1 i = 1#1
  · by_cases hc1 : k0_cond2 i = 1#1 <;> by_cases hc2 : k0_cond3 i = 1#1
    · exact run_both c i hc0 hc1 hc2
    · exact run_first c i hc0 hc1 hc2
    · exact run_last c i hc0 hc1 hc2
    · exact run_mid c i hc0 hc1 hc2
  · exact run_no_page c i hc0

set_option maxHeartbeats 8000000 in
/-- The body's run, over the windows as a launch states them. -/
theorem run (c : Dev nD) (i : grid0.Coords) (arg3 : Memref sig .tc .vmem S512x4096 .bf16) (harg3 : arg3.IsWhole) (arg4 : Memref sig .tc .vmem S4096x1024 .bf16) (harg4 : arg4.IsWhole) (arg5 : Memref sig .tc .vmem S1x64x128 .f32) (harg5 : arg5.IsWhole) (arg6 : Memref sig .tc .vmem S1x64x128 .bf16) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x2048x128 .f32) (harg12 : arg12.IsWhole) (arg13 : Memref sig .tc .vmem S1x2048x128 .f32) (harg13 : arg13.IsWhole) (arg14 : Memref sig .tc .vmem S1x2048x128 .f32) (harg14 : arg14.IsWhole) (arg15 : Memref sig .tc .vmem S1x2048x128 .f32) (harg15 : arg15.IsWhole) (arg16 : Memref sig .tc .vmem S1x2048x128 .f32) (harg16 : arg16.IsWhole) (arg17 : Memref sig .tc .vmem S1x2048x128 .f32) (harg17 : arg17.IsWhole) (arg18 : Memref sig .tc .vmem S1x2048x128 .f32) (harg18 : arg18.IsWhole) (arg19 : Memref sig .tc .vmem S1x2048x128 .f32) (harg19 : arg19.IsWhole) (arg20 : Memref sig .tc .vmem S1x2048x128 .f32) (harg20 : arg20.IsWhole) (arg21 : Memref sig .tc .vmem S1x2048x128 .f32) (harg21 : arg21.IsWhole) (arg22 : Memref sig .tc .vmem S1x2048x128 .f32) (harg22 : arg22.IsWhole) (arg23 : Memref sig .tc .vmem S1x64x2048 .f32) (harg23 : arg23.IsWhole) (arg24 : Memref sig .tc .vmem S1x64x2048 .f32) (harg24 : arg24.IsWhole) (arg25 : Memref sig .tc .vmem S1x64x128 .bf16) (harg25 : arg25.IsWhole) (arg26 : Memref sig .tc .vmem S1x64x128 .bf16) (harg26 : arg26.IsWhole) (arg27 : Memref sig .tc .vmem S64x64 .f32) (harg27 : arg27.IsWhole) (arg28 : Memref sig .tc .vmem S8x2048 .f32) (harg28 : arg28.IsWhole) (arg29 : Memref sig .tc .vmem S8x2048 .f32) (harg29 : arg29.IsWhole) (arg30 : Memref sig .tc .vmem S512x1024 .bf16) (harg30 : arg30.IsWhole) (arg31 : Memref sig .tc .vmem S16x64x128 .f32) (harg31 : arg31.IsWhole) (arg32 : Memref sig .tc .vmem S16x64x128 .f32) (harg32 : arg32.IsWhole) (arg33 : Memref sig .tc .vmem S16x64x128 .f32) (harg33 : arg33.IsWhole) (arg34 : Memref sig .tc .vmem S128x128 .f32) (harg34 : arg34.IsWhole)
    (x0 : Vec F S512x4096 .bf16) (x1 : Vec F S4096x1024 .bf16) (xt0 : TbBuf (F := F) c tbM) (E : Set ℕ) (K : PUnit → sProp 𝕄) :
    iprop(owns (c : Thread nD τ) arg3 fullShare x0 ∗ owns (c : Thread nD τ) arg4 fullShare x1 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20 ∗ held c arg21 ∗ held c arg22 ∗ held c arg23 ∗ held c arg24 ∗ held c arg25 ∗ held c arg26 ∗ held c arg27 ∗ held c arg28 ∗ held c arg29 ∗ held c arg30 ∗ held c arg31 ∗ held c arg32 ∗ held c arg33 ∗ held c arg34 ∗ tbPt c tbM xt0
        ∗ (iprop(owns (c : Thread nD τ) arg3 fullShare x0 ∗ owns (c : Thread nD τ) arg4 fullShare x1 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20 ∗ held c arg21 ∗ held c arg22 ∗ held c arg23 ∗ held c arg24 ∗ held c arg25 ∗ held c arg26 ∗ held c arg27 ∗ held c arg28 ∗ held c arg29 ∗ owns (c : Thread nD τ) arg30 fullShare (restBlk x0 x1) ∗ held c arg31 ∗ held c arg32 ∗ held c arg33 ∗ held c arg34 ∗ tbPt c tbM xt0) -∗ K ⟨⟩))
      ⊢ wp frame (wpE (defs₀ (F := F)) Variants.none c none) E (cc0_attn_sample_and_proj i tbM htbM arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  refine .trans ?_ (runAt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 xt0 E K)
  simp only [held, heldC, owns]
  iintro ⟨⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, HT, Hk⟩
  obtain rfl := harg3.eq_unread hf3; obtain rfl := harg4.eq_unread hf4
  isplitl [H30]; · iexists _; iexact H30
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H31]; · iexists _; iexact H31
  isplitl [H32]; · iexists _; iexact H32
  isplitl [H33]; · iexists _; iexact H33
  isplitl [H34]; · iexists _; iexact H34
  isplitl [HT]; · iexact HT
  iintro ⟨H30, H3, H4, ⟨%g5, H5⟩, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩, ⟨%g26, H26⟩, ⟨%g27, H27⟩, ⟨%g28, H28⟩, ⟨%g29, H29⟩, ⟨%g31, H31⟩, ⟨%g32, H32⟩, ⟨%g33, H33⟩, ⟨%g34, H34⟩, HT⟩
  iapply Hk
  isplitl [H3]
  · iexists _; isplitr; · ipureintro; exact harg3.read_unread _
    iexact H3
  isplitl [H4]
  · iexists _; isplitr; · ipureintro; exact harg4.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]; · iexact H30
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  isplitl [H34]
  · iexists _, _; isplitr; swap; · iexact H34
    ipureintro; rfl
  iexact HT

end Cert.KernelIdeal.Hand

end
-- ==== Proof.IFrame.lean ====
/- The call's frame. -/
module

public import proofs.«01_k».proof.Proof.IRun
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pipeline does, point by point -/

/-- The windows of which nothing is said after the body: all but the hidden states, the weights and the rest projection. -/
def forgets0 : Fin 28 → Bool := fun w => !(w.val == 0 || w.val == 1 || w.val == 27)

/-- The block of the rest projection that point `t` leaves. -/
def restAt (hO : Ok m) (c : Dev nD) (t : Fin (cfgM m hO).N) : Vec F S512x1024 .bf16 :=
  restBlk (iblk m hO c 0 t) (iblk m hO c 1 t)

/-- The pipeline on core `c`: the arrays as the call finds them, the blocks as each point leaves them. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, h⟩ => Pipeline.Dat.unnamed (cfg := cfgM m hO) ⟨2, h⟩ t
    | ⟨3, h⟩ => Pipeline.Dat.unnamed (cfg := cfgM m hO) ⟨3, h⟩ t
    | ⟨4, h⟩ => Pipeline.Dat.unnamed (cfg := cfgM m hO) ⟨4, h⟩ t
    | ⟨5, h⟩ => Pipeline.Dat.unnamed (cfg := cfgM m hO) ⟨5, h⟩ t
    | ⟨6, h⟩ => Pipeline.Dat.unnamed (cfg := cfgM m hO) ⟨6, h⟩ t
    | ⟨7, h⟩ => Pipeline.Dat.unnamed (cfg := cfgM m hO) ⟨7, h⟩ t
    | ⟨8, h⟩ => Pipeline.Dat.unnamed (cfg := cfgM m hO) ⟨8, h⟩ t
    | ⟨9, h⟩ => Pipeline.Dat.unnamed (cfg := cfgM m hO) ⟨9, h⟩ t
    | ⟨10, h⟩ => Pipeline.Dat.unnamed (cfg := cfgM m hO) ⟨10, h⟩ t
    | ⟨11, h⟩ => Pipeline.Dat.unnamed (cfg := cfgM m hO) ⟨11, h⟩ t
    | ⟨12, h⟩ => Pipeline.Dat.unnamed (cfg := cfgM m hO) ⟨12, h⟩ t
    | ⟨13, h⟩ => Pipeline.Dat.unnamed (cfg := cfgM m hO) ⟨13, h⟩ t
    | ⟨14, h⟩ => Pipeline.Dat.unnamed (cfg := cfgM m hO) ⟨14, h⟩ t
    | ⟨15, h⟩ => Pipeline.Dat.unnamed (cfg := cfgM m hO) ⟨15, h⟩ t
    | ⟨16, h⟩ => Pipeline.Dat.unnamed (cfg := cfgM m hO) ⟨16, h⟩ t
    | ⟨17, h⟩ => Pipeline.Dat.unnamed (cfg := cfgM m hO) ⟨17, h⟩ t
    | ⟨18, h⟩ => Pipeline.Dat.unnamed (cfg := cfgM m hO) ⟨18, h⟩ t
    | ⟨19, h⟩ => Pipeline.Dat.unnamed (cfg := cfgM m hO) ⟨19, h⟩ t
    | ⟨20, h⟩ => Pipeline.Dat.unnamed (cfg := cfgM m hO) ⟨20, h⟩ t
    | ⟨21, h⟩ => Pipeline.Dat.unnamed (cfg := cfgM m hO) ⟨21, h⟩ t
    | ⟨22, h⟩ => Pipeline.Dat.unnamed (cfg := cfgM m hO) ⟨22, h⟩ t
    | ⟨23, h⟩ => Pipeline.Dat.unnamed (cfg := cfgM m hO) ⟨23, h⟩ t
    | ⟨24, h⟩ => Pipeline.Dat.unnamed (cfg := cfgM m hO) ⟨24, h⟩ t
    | ⟨25, h⟩ => Pipeline.Dat.unnamed (cfg := cfgM m hO) ⟨25, h⟩ t
    | ⟨26, h⟩ => Pipeline.Dat.unnamed (cfg := cfgM m hO) ⟨26, h⟩ t
    | ⟨27, _⟩ => restAt m hO c t
    | ⟨_ + 28, h⟩ => absurd h (Nat.not_lt.2 (Nat.le_add_left _ _))
  Φ _ := iprop(Pipeline.ΦA spec0 c ∗ Pipeline.ΦT pre0 (tbl m) c)
  q w := Pipeline.shareOf spec0 w
  owed _ := 0

/-- The arrays are those the call finds. -/
theorem A_eq (hO : Ok m) (c : Dev nD) (w : Fin (cfgM m hO).W) : (dats m hO 0 c).A w = V m c (Pipeline.arrRef spec0 w) := by
  dsimp only [dats]

/-- The hidden states' buffer holds its block at every point. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by
      rw [show (dats m hO 0 c).after 0 t = iblk m hO c 0 t from by dsimp only [dats]; rfl]; unfold Dat.blockOf iblk; rw [A_eq]; try rfl) t d).trans
    (by unfold Dat.fetched Dat.blockOf iblk; rw [A_eq]; try rfl)
/-- The weights' buffer holds its block at every point. -/
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by
      rw [show (dats m hO 0 c).after 1 t = iblk m hO c 1 t from by dsimp only [dats]; rfl]; unfold Dat.blockOf iblk; rw [A_eq]; try rfl) t d).trans
    (by unfold Dat.fetched Dat.blockOf iblk; rw [A_eq]; try rfl)

/-- What window 0 is left at. -/
theorem leaves0 (hO : Ok m) (c : Dev nD) (t : Fin (cfgM m hO).N) :
    (dats m hO 0 c).leavesExact 0 t = owns (c : Thread nD τ) (ms0 m hO t) fullShare (iblk m hO c 0 t) := by
  unfold Dat.leavesExact
  rw [show (cfgM m hO).idle 0 ((cfgM m hO).grid.coords t) = false from rfl]
  dsimp only [dats]; rfl

/-- What window 1 is left at. -/
theorem leaves1 (hO : Ok m) (c : Dev nD) (t : Fin (cfgM m hO).N) :
    (dats m hO 0 c).leavesExact 1 t = owns (c : Thread nD τ) (ms1 m hO t) fullShare (iblk m hO c 1 t) := by
  unfold Dat.leavesExact
  rw [show (cfgM m hO).idle 1 ((cfgM m hO).grid.coords t) = false from rfl]
  dsimp only [dats]; rfl

/-- What window 27 is left at. -/
theorem leaves27 (hO : Ok m) (c : Dev nD) (t : Fin (cfgM m hO).N) :
    (dats m hO 0 c).leavesExact 27 t = owns (c : Thread nD τ) (ms27 m hO t) fullShare (restAt m hO c t) := by
  unfold Dat.leavesExact
  rw [show (cfgM m hO).idle 27 ((cfgM m hO).grid.coords t) = false from rfl]
  dsimp only [dats]; rfl

/-- The body at point `t`, on the buffers the pipeline hands it. -/
abbrev bodyAt (hO : Ok m) (t : Fin (cfgM m hO).N) : Prog (TpuEff nD τ sig (Elt F) Λ₀ .tc) PUnit :=
  cc0_attn_sample_and_proj (grid0.coords t) tbM htbM (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) (ms9 m hO t) (hs9 m hO t) (ms10 m hO t) (hs10 m hO t) (ms11 m hO t) (hs11 m hO t) (ms12 m hO t) (hs12 m hO t) (ms13 m hO t) (hs13 m hO t) (ms14 m hO t) (hs14 m hO t) (ms15 m hO t) (hs15 m hO t) (ms16 m hO t) (hs16 m hO t) (ms17 m hO t) (hs17 m hO t) (ms18 m hO t) (hs18 m hO t) (ms19 m hO t) (hs19 m hO t) (ms20 m hO t) (hs20 m hO t) (ms21 m hO t) (hs21 m hO t) (ms22 m hO t) (hs22 m hO t) (ms23 m hO t) (hs23 m hO t) (ms24 m hO t) (hs24 m hO t) (ms25 m hO t) (hs25 m hO t) (ms26 m hO t) (hs26 m hO t) (ms27 m hO t) (hs27 m hO t) scM0 (Memref.isWhole_whole _) scM1 (Memref.isWhole_whole _) scM2 (Memref.isWhole_whole _) scM3 (Memref.isWhole_whole _)

/-- What the body is called with, -/
def bodyPre (hO : Ok m) (c : Dev nD) (t : Fin (cfgM m hO).N) : sProp 𝕄 :=
  iprop((dats m hO 0 c).Φ t.castSucc ∗ (dats m hO 0 c).owesAt () t.castSucc ∗ (∃ d, owns (c : Thread nD τ) (ms0 m hO t) fullShare ((dats m hO 0 c).before 0 t d)) ∗ (∃ d, owns (c : Thread nD τ) (ms1 m hO t) fullShare ((dats m hO 0 c).before 1 t d)) ∗ held c (ms2 m hO t) ∗ held c (ms3 m hO t) ∗ held c (ms4 m hO t) ∗ held c (ms5 m hO t) ∗ held c (ms6 m hO t) ∗ held c (ms7 m hO t) ∗ held c (ms8 m hO t) ∗ held c (ms9 m hO t) ∗ held c (ms10 m hO t) ∗ held c (ms11 m hO t) ∗ held c (ms12 m hO t) ∗ held c (ms13 m hO t) ∗ held c (ms14 m hO t) ∗ held c (ms15 m hO t) ∗ held c (ms16 m hO t) ∗ held c (ms17 m hO t) ∗ held c (ms18 m hO t) ∗ held c (ms19 m hO t) ∗ held c (ms20 m hO t) ∗ held c (ms21 m hO t) ∗ held c (ms22 m hO t) ∗ held c (ms23 m hO t) ∗ held c (ms24 m hO t) ∗ held c (ms25 m hO t) ∗ held c (ms26 m hO t) ∗ (∃ d, owns (c : Thread nD τ) (ms27 m hO t) fullShare ((dats m hO 0 c).before 27 t d)))

/-- and what it returns. -/
def bodyPost (hO : Ok m) (c : Dev nD) (t : Fin (cfgM m hO).N) : sProp 𝕄 :=
  iprop((dats m hO 0 c).Φ t.succ ∗ (dats m hO 0 c).owesAt () t.succ ∗ (dats m hO 0 c).leavesExact 0 t ∗ (dats m hO 0 c).leavesExact 1 t ∗ held c (ms2 m hO t) ∗ held c (ms3 m hO t) ∗ held c (ms4 m hO t) ∗ held c (ms5 m hO t) ∗ held c (ms6 m hO t) ∗ held c (ms7 m hO t) ∗ held c (ms8 m hO t) ∗ held c (ms9 m hO t) ∗ held c (ms10 m hO t) ∗ held c (ms11 m hO t) ∗ held c (ms12 m hO t) ∗ held c (ms13 m hO t) ∗ held c (ms14 m hO t) ∗ held c (ms15 m hO t) ∗ held c (ms16 m hO t) ∗ held c (ms17 m hO t) ∗ held c (ms18 m hO t) ∗ held c (ms19 m hO t) ∗ held c (ms20 m hO t) ∗ held c (ms21 m hO t) ∗ held c (ms22 m hO t) ∗ held c (ms23 m hO t) ∗ held c (ms24 m hO t) ∗ held c (ms25 m hO t) ∗ held c (ms26 m hO t) ∗ (dats m hO 0 c).leavesExact 27 t)

/-- A memref at stated contents is held. -/
theorem held_owns (c : Dev nD) {sp : Space} {S : Shape} {e : EltTy} (M : Memref sig .tc sp S e) (d) :
    (owns (c : Thread nD τ) M fullShare d : sProp 𝕄) ⊢ held c M := by
  unfold held; iintro H; iexists _; iexact H

set_option maxHeartbeats 6400000 in
/-- The body at any point takes the one to the other. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  rw [leaves0, leaves1, leaves27]
  simp only [before0, before1]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT_eq, PhiA_eq]
  iintro ⟨⟨⟨⟨HS0, HS1, HS2, HS3⟩, Hg⟩, HT⟩, Ho, ⟨%d0, H0⟩, ⟨%d1, H1⟩, H2, H3, H4, H5, H6, H7, H8, H9, H10, H11, H12, H13, H14, H15, H16, H17, H18, H19, H20, H21, H22, H23, H24, H25, H26, ⟨%d27, H27⟩⟩
  iapply (run c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) (ms9 m hO t) (hs9 m hO t) (ms10 m hO t) (hs10 m hO t) (ms11 m hO t) (hs11 m hO t) (ms12 m hO t) (hs12 m hO t) (ms13 m hO t) (hs13 m hO t) (ms14 m hO t) (hs14 m hO t) (ms15 m hO t) (hs15 m hO t) (ms16 m hO t) (hs16 m hO t) (ms17 m hO t) (hs17 m hO t) (ms18 m hO t) (hs18 m hO t) (ms19 m hO t) (hs19 m hO t) (ms20 m hO t) (hs20 m hO t) (ms21 m hO t) (hs21 m hO t) (ms22 m hO t) (hs22 m hO t) (ms23 m hO t) (hs23 m hO t) (ms24 m hO t) (hs24 m hO t) (ms25 m hO t) (hs25 m hO t) (ms26 m hO t) (hs26 m hO t) (ms27 m hO t) (hs27 m hO t) scM0 (Memref.isWhole_whole _) scM1 (Memref.isWhole_whole _) scM2 (Memref.isWhole_whole _) scM3 (Memref.isWhole_whole _) (iblk m hO c 0 t) (iblk m hO c 1 t) (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iapply held_owns; iexact H27
  isplitl [HS0]; · iexact HS0
  isplitl [HS1]; · iexact HS1
  isplitl [HS2]; · iexact HS2
  isplitl [HS3]; · iexact HS3
  isplitl [HT]; · iexact HT
  iintro ⟨H0, H1, H2, H3, H4, H5, H6, H7, H8, H9, H10, H11, H12, H13, H14, H15, H16, H17, H18, H19, H20, H21, H22, H23, H24, H25, H26, H27, HS0, HS1, HS2, HS3, HT⟩
  isplitl [HS0 HS1 HS2 HS3 Hg HT]
  · isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

set_option maxHeartbeats 6400000 in
/-- The body table's row at point `t` is the body as spelt above. -/
theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 6400000 in
/-- The pipeline's demand on the body, at every point. -/
theorem body_obligation (hO : Ok m) (c : Dev nD) : BodyObligation (dats (F := F) m hO 0 c) (defs₀ (F := F)) Variants.none () Set.univ forgets0 := fun t => by
  rw [bigSep_W0, bigSep_W0, defs_row m hO]
  exact triple_restated (sound_body m hO c t) rfl .rfl fun _ => .rfl

/-! ## The run of the whole call -/

set_option maxHeartbeats 6400000 in
/-- What every final state is known to hold. -/
abbrev Post (hO : Ok m) (r : PUnit × MemSt nD τ sig (Elt F)) : Prop :=
  Pipeline.RDat.FramePost ((Pipeline.pin pcfgs fun _ => adm m hO) 0) (fun c => (dats m hO 0 c).toRForget forgets0) (V m) r

-- the library's implicit arguments are found by unifying conclusions, through plain definitions in a metavariable's type
set_option maxHeartbeats 6400000 in
set_option backward.isDefEq.respectTransparency.types false in
/-- Every execution ends, with the arrays as the pipeline leaves them and every semaphore at zero. -/
theorem run_main_quiescent (hO : Ok m) : θ_run defs (onTc (τ := τ) (main (F := F))) (s₀ m ρ) (fun r => Post m hO r ∧ r.2.sem = fun _ => 0) :=
  Pipeline.θ_run_frameP_forget_shared (Q' := _) pcfgs (fun _ => adm m hO) (dats m hO) (0 : Fin 1) launch₀0 defs₀ Variants.none forgets0 m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

set_option maxHeartbeats 6400000 in
/-- A final state has every argument as it was given. -/
theorem args_kept (hO : Ok m) (r : PUnit × MemSt nD τ sig (Elt F)) (h : Post m hO r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨((h c).2 main_arg0 (by decide : main_arg0 ∈ Pipeline.restRefs sig spec0)).trans (V_arg m c main_arg0 (by simp [isArg])),
    (Pipeline.RDat.FramePost.arr_in h c 0 rfl).trans ((A_eq m hO c 0).trans (V_arg m c main_arg1 (by simp [isArg]))),
    (Pipeline.RDat.FramePost.arr_in h c 1 rfl).trans ((A_eq m hO c 1).trans (V_arg m c main_arg2 (by simp [isArg]))),
    ((h c).2 main_arg3 (by decide : main_arg3 ∈ Pipeline.restRefs sig spec0)).trans (V_arg m c main_arg3 (by simp [isArg])),
    ((h c).2 main_arg4 (by decide : main_arg4 ∈ Pipeline.restRefs sig spec0)).trans (V_arg m c main_arg4 (by simp [isArg])),
    ((h c).2 main_arg5 (by decide : main_arg5 ∈ Pipeline.restRefs sig spec0)).trans (V_arg m c main_arg5 (by simp [isArg])),
    (Pipeline.RDat.FramePost.arr_in h c 25 rfl).trans ((A_eq m hO c 25).trans (V_arg m c main_arg6 (by simp [isArg]))),
    (Pipeline.RDat.FramePost.arr_in h c 11 rfl).trans ((A_eq m hO c 11).trans (V_arg m c main_arg7 (by simp [isArg]))),
    (Pipeline.RDat.FramePost.arr_in h c 19 rfl).trans ((A_eq m hO c 19).trans (V_arg m c main_arg8 (by simp [isArg]))),
    ((h c).2 main_arg9 (by decide : main_arg9 ∈ Pipeline.restRefs sig spec0)).trans (V_arg m c main_arg9 (by simp [isArg]))⟩

/-- The frame: every execution ends, with the arguments unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => args_kept m hO r h.1 c, h.2⟩) (run_main_quiescent m ρ hO)

end Cert.KernelIdeal.Hand

end
-- ==== Proof.IPageBound.lean ====
/- Page tables whose entries lie in the pool keep every block inside its array. -/
module

public import proofs.«01_k».proof.Defs
public import proofs.«01_k».proof.Proof.Gen.Pre_pages_in_pool
public import proofs.«01_k».proof.Proof.ISetup

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Page number `p` names a page of the pool when it is below 2560. -/
theorem page_fits (p : ℕ) (hp : p < 2560) : ∀ a : Fin 3, (![p, 0, 0] a + 1) * S1x2048x128.size a ≤ S2560x2048x128.size a
  | 0 => by show (p + 1) * 1 ≤ 2560; omega
  | 1 => by show (0 + 1) * 2048 ≤ 2048; omega
  | 2 => by show (0 + 1) * 128 ≤ 128; omega

/-- With every entry of the page table below 2560, every block the windows name lies inside its array. -/
theorem ok_of_bound {F : FTy → Type} [FloatOps F] (m : (ℓ : Loc nD τ sig) → Buf (Elt F) ℓ)
    (h : ∀ x : S128x16.Idx, BitVec.toNat (m (((0 : Dev nD) : Thread nD τ).loc main_arg0) x) < 2560) : Ok m := by
  have hb : ∀ x : S128x16.Idx, BitVec.toNat (tbl m 0 x) < 2560 := fun x => by
    have e : tbl m 0 = m (((0 : Dev nD) : Thread nD τ).loc main_arg0) := V_arg m 0 main_arg0 (by simp [isArg])
    rw [e]; exact h x
  refine ⟨?_, ?_, ?_, ?_, ?_, ?_, ?_, ?_, ?_, ?_, ?_, ?_, ?_, ?_, ?_, ?_⟩
  all_goals exact fun i => ⟨fun a => page_fits _ (hb _) a, .inl rfl⟩

/-- The precondition says of every entry of the page table that it is below 2560. -/
theorem bound_of_pre (m : (ℓ : Loc nD τ sig) → Buf (Elt Ideal) ℓ) (h : Cert.Pre_KernelIdeal m) (x : S128x16.Idx) :
    BitVec.toNat (m (((0 : Dev nD) : Thread nD τ).loc main_arg0) x) < 2560 := by
  have key : ∀ v : BitVec 32, IntOp.andi (IntOp.cmpi .sge v 0#32) (IntOp.cmpi .slt v 2560#32) = 1#1 → v.toNat < 2560 := by
    intro v e
    have hand : ∀ p q : Bool, IntOp.andi (BitVec.ofBool p) (BitVec.ofBool q) = BitVec.ofBool (p && q) := by decide
    have hone : ∀ p : Bool, (BitVec.ofBool p = 1#1) ↔ p = true := by decide
    simp only [IntOp.cmpi, hand, hone, Bool.and_eq_true, BitVec.sle_eq_decide, BitVec.slt_eq_decide,
      decide_eq_true_eq, BitVec.toInt_eq_toNat_cond, BitVec.toNat_ofNat, Nat.reducePow, Nat.reduceMod] at e
    omega
  exact key _ (congrFun (h 0) x)

/-- The precondition makes every block the windows name lie inside its array. -/
theorem ok_of_pre (m : (ℓ : Loc nD τ sig) → Buf (Elt Ideal) ℓ) (h : Cert.Pre_KernelIdeal m) : Ok m :=
  ok_of_bound m (bound_of_pre m h)

end Cert.KernelIdeal.Hand

end
-- ==== Proof.IRestValue.lean ====
/- What the rest projection's block holds, over the extended reals. -/
module

public import Idealize.ShloMosaic.Lib.Pipeline.ValueKit
public import proofs.«01_k».proof.Proof.IRestBlock

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- One column chunk of the rest projection is a product of its two operands. -/
theorem chunk_apply (a : FVec Ideal S512x4096 .bf16) (b : FVec Ideal S4096x256 .bf16) (j : S512x256.Idx) :
    restChunk (F := Ideal) a b j = ∑ k : Fin 4096, a (ix2 (j 0) k) * b (ix2 k (j 1)) := by
  pointwise [restChunk, k0_pay102]

set_option maxHeartbeats 1600000 in
/-- The block the body leaves is the product of the rows by all of the block's columns. -/
theorem restBlk_apply (x0 : FVec Ideal S512x4096 .bf16) (x1 : FVec Ideal S4096x1024 .bf16) (y : S512x1024.Idx) :
    restBlk (F := Ideal) x0 x1 y = ∑ k : Fin 4096, x0 (ix2 (y 0) k) * x1 (ix2 k (y 1)) := by
  unfold restBlk
  canon_tiles x h
  all_goals
    rw [chunk_apply]
    refine Fin.sum_fin_congr fun k => congrArg₂ (· * ·) (congrArg x0 (funext fun a => Fin.ext ?_)) (congrArg x1 (funext fun a => Fin.ext ?_))
  all_goals
    revert a
    refine Fin.forall_fin_two.mpr ⟨?_, ?_⟩
    all_goals (first | (simp [Rect.unit, wholeRows]; done) | (simp [Rect.unit, wholeRows]; omega))

end Cert.KernelIdeal.Hand

end
-- ==== Proof.IRestArray.lean ====
/- What the call's result array holds over the extended reals: the rest projection. -/
module

public import Idealize.ShloMosaic.Lib.Pipeline.ValueKit
public import proofs.«01_k».proof.Proof.Gen.ReferenceIdeal
public import proofs.«01_k».proof.Proof.IRestValue
public import proofs.«01_k».proof.Proof.IFrame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The reference's rest projection: the product of the normalised rows by the matrix of the rest columns. -/
abbrev REF (X : FVec Ideal S8192x4096 .bf16) (W : FVec Ideal S4096x18432 .bf16) : FVec Ideal S8192x18432 .bf16 :=
  truncf .bf16 (Host.dotGeneral (F := Ideal) Cert.ReferenceIdeal.dot_S8192x4096_S4096x18432_S8192x18432_1_0_0_1_n_n none
    (extf .f32 X Cert.ReferenceIdeal.Gen.bitsLt_bf16_f32) (extf .f32 W Cert.ReferenceIdeal.Gen.bitsLt_bf16_f32)) Cert.ReferenceIdeal.Gen.bitsLt_bf16_f32

/-- The reference's product, read at one element. -/
theorem ref_apply (X : FVec Ideal S8192x4096 .bf16) (W : FVec Ideal S4096x18432 .bf16) (j : S8192x18432.Idx) :
    REF X W j = ∑ k : Fin 4096, X (ix2 (j 0) k) * W (ix2 k (j 1)) := by
  pointwise [REF]

/-- Which block of the rows, of the columns and of the result a grid point names. -/
theorem blocks_at : ∀ t : Fin grid0.N, cc0_transform_0 (grid0.coords t) = ![t.val % 16, 0]
    ∧ cc0_transform_1 (grid0.coords t) = ![0, t.val / 16] ∧ cc0_transform_27 (grid0.coords t) = ![t.val % 16, t.val / 16] := by
  decide +kernel

theorem index0 (hO : Ok m) (t : Fin (cfgM m hO).N) : ((cfgM m hO).win 0).index t = ![t.val % 16, 0] := (blocks_at t).1
theorem index1 (hO : Ok m) (t : Fin (cfgM m hO).N) : ((cfgM m hO).win 1).index t = ![0, t.val / 16] := (blocks_at t).2.1
theorem index27 (hO : Ok m) (t : Fin (cfgM m hO).N) : ((cfgM m hO).win 27).index t = ![t.val % 16, t.val / 16] := (blocks_at t).2.2

/-- The result's block changes at every point, so every point writes it back. -/
theorem flush27 (hO : Ok m) (t : Fin (cfgM m hO).N) : ((cfgM m hO).win 27).flush t = true := by
  unfold Pipeline.Window.flush
  simp only [Bool.and_eq_true, Bool.or_eq_true, decide_eq_true_eq]
  refine ⟨rfl, ?_⟩
  by_cases h : t.val + 1 = (cfgM m hO).grid.N
  · exact .inl h
  · refine .inr ⟨lt_of_le_of_ne t.isLt h, fun e => ?_⟩
    rw [index27, index27] at e
    have e0 : (t.val + 1) % 16 = t.val % 16 := congrFun e 0
    omega

/-- The blocks written back fill the result. -/
theorem covers27 (hO : Ok m) : ((cfgM m hO).win 27).Covers := by
  refine ⟨fun a => by revert a; exact (Fin.forall_fin_two.mpr ⟨by show 0 < 512; omega, by show 0 < 1024; omega⟩), fun β => ?_⟩
  have h0 : (β (0 : Fin 2)).val < 16 := lt_of_lt_of_eq (β (0 : Fin 2)).isLt (by show (8192 + 512 - 1) / 512 = 16; omega)
  have h1 : (β (1 : Fin 2)).val < 18 := lt_of_lt_of_eq (β (1 : Fin 2)).isLt (by show (18432 + 1024 - 1) / 1024 = 18; omega)
  refine ⟨⟨(β (1 : Fin 2)).val * 16 + (β (0 : Fin 2)).val, by show _ < 288; omega⟩, flush27 m hO _, fun a => ⟨?_, .inl rfl⟩⟩
  rw [index27]
  revert a
  refine Fin.forall_fin_two.mpr ⟨?_, ?_⟩
  · show ((β (1 : Fin 2)).val * 16 + (β (0 : Fin 2)).val) % 16 = (β (0 : Fin 2)).val; omega
  · show ((β (1 : Fin 2)).val * 16 + (β (0 : Fin 2)).val) / 16 = (β (1 : Fin 2)).val; omega

set_option maxHeartbeats 1600000 in
/-- What the body leaves at point `t` is the reference's product at the block of the result that point writes. -/
theorem point (hO : Ok m) (c : Dev nD) (t : Fin (cfgM m hO).N) (y : S512x1024.Idx) (j : S8192x18432.Idx)
    (h0 : (j 0 : ℕ) = t.val % 16 * 512 + y 0) (h1 : (j 1 : ℕ) = t.val / 16 * 1024 + y 1) :
    restAt m hO c t y = REF (m ((c : Thread nD τ).loc main_arg1)) (m ((c : Thread nD τ).loc main_arg2)) j := by
  rw [ref_apply]
  refine (restBlk_apply _ _ y).trans (Fin.sum_fin_congr fun k => congrArg₂ (· * ·) ?_ ?_)
  · refine (congrFun (V_arg m c main_arg1 (by simp [isArg])) _).trans (congrArg (m ((c : Thread nD τ).loc main_arg1)) (funext fun a => Fin.ext ?_))
    revert a
    refine Fin.forall_fin_two.mpr ⟨?_, ?_⟩
    · blk_simp [index0 m hO t] <;> omega
    · blk_simp [index0 m hO t] <;> omega
  · refine (congrFun (V_arg m c main_arg2 (by simp [isArg])) _).trans (congrArg (m ((c : Thread nD τ).loc main_arg2)) (funext fun a => Fin.ext ?_))
    revert a
    refine Fin.forall_fin_two.mpr ⟨?_, ?_⟩
    · blk_simp [index1 m hO t] <;> omega
    · blk_simp [index1 m hO t] <;> omega

set_option maxHeartbeats 1600000 in
/-- The result array holds the reference's product when the call ends. -/
theorem other_final (hO : Ok m) (c : Dev nD) : (dats m hO 0 c).arrAt 27 (cfgM m hO).N
    = REF (m ((c : Thread nD τ).loc main_arg1)) (m ((c : Thread nD τ).loc main_arg2)) := by
  refine (dats m hO 0 c).arrAt_eq_of_covers 27 _ (covers27 m hO) fun t hf y => ?_
  refine (show _ = restAt m hO c t y from rfl).trans (point m hO c t y _ ?_ ?_)
  · blk_simp [index27 m hO t] <;> omega
  · blk_simp [index27 m hO t] <;> omega

/-- The call ends with the rest projection in its result, the arguments as given and every semaphore at zero. -/
theorem run_other (hO : Ok m) : θ_run defs (onTc (τ := τ) (main (F := Ideal))) ⟨m, fun _ => 0, ρ⟩ (fun r => (∀ c : Dev nD,
      r.2.mem ((c.tc : Thread nD τ).loc main_v81_1) = REF (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c =>
    ⟨((Dat.toRForget_arrAt_iff (dats m hO 0 c) (fgt := forgets0) (w := 27) rfl _ _).mp ((h.1 c).1 27)).trans (other_final m hO c),
      args_kept m hO r h.1 c⟩, h.2⟩) (run_main_quiescent m ρ hO)

end Cert.KernelIdeal.Hand

end
-- ==== Proof.ProjPrompt.lean ====
/- The projection of the prompt rows (queries, keys or values): the call is the product. -/
module

public import Idealize.ShloMosaic.Lib.Pipeline.ValueKit
public import Idealize.ShloMosaic.Init
public import Idealize.ShloMosaic.Adequacy
public import proofs.«01_k».proof.Defs
public import proofs.«01_k».proof.Proof.Gen.ProjPrompt
public import proofs.«01_k».proof.Proof.Gen.ProjPrompt.Frame
public import proofs.«01_k».proof.Proof.Gen.ProjPromptIdeal
public import proofs.«01_k».proof.Proof.Gen.ProjPromptIdeal.Frame
public import proofs.«01_k».proof.Proof.Gen.ProjPromptIdeal.Value
public import proofs.«01_k».proof.Proof.Gen.ProjPromptReferenceIdeal
public import proofs.«01_k».proof.Proof.Gen.ProjPromptReferenceIdeal.Run

@[expose] public section

set_option maxRecDepth 16384

noncomputable section

namespace Cert.ProjPromptReferenceIdeal.Value

open Cert.ProjPromptReferenceIdeal.Gen
open Idealize.ShloMosaic Idealize.ShloMosaic.TcCoe Idealize.ShloMosaic.Tactic Idealize.SL.Sem
open Idealize.ShloMosaic.Pipeline (Dat Cfg Window)

/-- The reference's product, of the call's two arguments. -/
abbrev REF (x0 : FVec Ideal S8192x4096 .bf16) (x1 : FVec Ideal S4096x2048 .bf16) : FVec Ideal S8192x2048 .f32 :=
  Host.dotGeneral dot_S8192x4096_S4096x2048_S8192x2048_1_0_0_1_n_n none (extf .f32 x0 bitsLt_bf16_f32) (extf .f32 x1 bitsLt_bf16_f32)

end Cert.ProjPromptReferenceIdeal.Value

namespace Cert.ProjPromptIdeal.Value

open Cert.ProjPromptIdeal Cert.ProjPromptIdeal.Gen
open Cert.ProjPromptReferenceIdeal.Value (REF)
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- Which block of each array a grid point names. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- At a grid point the body's product of its two blocks is the reference's product, at that block's place. -/
theorem point (c : Dev nD) (t : Fin cfg0.N) (y : S1024x1024.Idx) :
    k0_pay1 (iblk m c 0 t) (iblk m c 1 t) y
      = REF (m ((c.tc : Thread nD τ).loc main_arg0)) (m ((c.tc : Thread nD τ).loc main_arg1)) (((cfg0.win 2).blk t).view.emb y) := by
  pointwise [k0_pay1, REF]
  blk_point [iblk, V, idx t]

/-- The result's array holds the reference's value when the call ends. -/
theorem final (c : Dev nD) : (dats m 0 c).arrAt 2 (cfgs 0).N = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

end Cert.ProjPromptIdeal.Value

namespace Cert.ProjPromptClaims

open Idealize.ShloMosaic Idealize.SL.Sem

/-- The prompt projection: the reference runs to its end, its arguments unchanged; it declares no semaphore. -/
theorem reference_frame : Cert.quiescent_ProjPromptReferenceIdeal := fun m g _ =>
  (θ_run Cert.ProjPromptReferenceIdeal.defs _ _).mono (fun r h => ⟨fun c => (h c).2, sem_eq_zero_of_no_sems (by decide) r.2⟩)
    (Cert.ProjPromptReferenceIdeal.Value.run (F := Ideal) m g)

/-- The prompt projection: the call's result and the reference's are the same array over the extended reals. -/
theorem equal : Cert.algebraic_ProjPromptIdeal_ProjPromptReferenceIdeal := fun m g m' g' _ hargs =>
  ⟨fun c => Cert.ProjPromptReferenceIdeal.Value.REF (m ((c.tc : Thread Cert.ProjPromptIdeal.nD Cert.ProjPromptIdeal.τ).loc Cert.ProjPromptIdeal.main_arg0)) (m ((c.tc : Thread Cert.ProjPromptIdeal.nD Cert.ProjPromptIdeal.τ).loc Cert.ProjPromptIdeal.main_arg1)),
    (θ_run Cert.ProjPromptIdeal.defs _ _).mono
      (fun _ h c => ⟨(h c).1.trans (Cert.ProjPromptIdeal.Value.final m c), (h c).2⟩)
      (Cert.ProjPromptIdeal.Value.run_blocks m g),
    (θ_run Cert.ProjPromptReferenceIdeal.defs _ _).mono
      (fun _ h c => ⟨(h c).1.trans (by rw [(hargs c).1, (hargs c).2]), (h c).2⟩)
      (Cert.ProjPromptReferenceIdeal.Value.run (F := Ideal) m' g')⟩

end Cert.ProjPromptClaims

end
-- ==== Proof.KeysSample.lean ====
/- The keys of the sample rows: the call is the product. -/
module

public import Idealize.ShloMosaic.Lib.Pipeline.ValueKit
public import Idealize.ShloMosaic.Init
public import Idealize.ShloMosaic.Adequacy
public import proofs.«01_k».proof.Defs
public import proofs.«01_k».proof.Proof.Gen.KeysSample
public import proofs.«01_k».proof.Proof.Gen.KeysSample.Frame
public import proofs.«01_k».proof.Proof.Gen.KeysSampleIdeal
public import proofs.«01_k».proof.Proof.Gen.KeysSampleIdeal.Frame
public import proofs.«01_k».proof.Proof.Gen.KeysSampleIdeal.Value
public import proofs.«01_k».proof.Proof.Gen.KeysSampleReferenceIdeal
public import proofs.«01_k».proof.Proof.Gen.KeysSampleReferenceIdeal.Run

@[expose] public section

set_option maxRecDepth 16384

noncomputable section

namespace Cert.KeysSampleReferenceIdeal.Value

open Cert.KeysSampleReferenceIdeal.Gen
open Idealize.ShloMosaic Idealize.ShloMosaic.TcCoe Idealize.ShloMosaic.Tactic Idealize.SL.Sem
open Idealize.ShloMosaic.Pipeline (Dat Cfg Window)

/-- The reference's product, of the call's two arguments. -/
abbrev REF (x0 : FVec Ideal S512x4096 .bf16) (x1 : FVec Ideal S4096x24576 .f32) : FVec Ideal S512x2048 .f32 :=
  Host.dotGeneral dot_S512x4096_S4096x2048_S512x2048_1_0_0_1_n_n none (extf .f32 x0 bitsLt_bf16_f32) (extractStridedSlice S4096x2048 ![0, 2048] x1 slices_S4096x24576_S4096x2048_0_2048)

end Cert.KeysSampleReferenceIdeal.Value

namespace Cert.KeysSampleIdeal.Value

open Cert.KeysSampleIdeal Cert.KeysSampleIdeal.Gen
open Cert.KeysSampleReferenceIdeal.Value (REF)
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- Which block of each array a grid point names. -/
theorem idx : ∀ t : Fin cfg0.N, win0_0.index t = ![0, 0] ∧ win0_1.index t = ![0, 4 + t.val] ∧ win0_2.index t = ![0, t.val] :=
  (by decide +kernel : ∀ t : Fin grid0.N, _)

/-- At a grid point the body's product of the rows by its rounded column block is the reference's product, at that block's place. -/
theorem point (c : Dev nD) (t : Fin cfg0.N) (y : S512x512.Idx) :
    k0_pay2 (iblk m c 0 t) (k0_pay1 (iblk m c 1 t)) y
      = REF (m ((c.tc : Thread nD τ).loc main_arg0)) (m ((c.tc : Thread nD τ).loc main_arg1)) (((cfg0.win 2).blk t).view.emb y) := by
  pointwise [k0_pay2, k0_pay1, REF]
  blk_point [iblk, V, idx t]

/-- The result's array holds the reference's value when the call ends. -/
theorem final (c : Dev nD) : (dats m 0 c).arrAt 2 (cfgs 0).N = REF (m ((c.tc : Thread nD τ).loc main_arg0)) (m ((c.tc : Thread nD τ).loc main_arg1)) := by
  refine (dats m 0 c).arrAt_eq_of_covers 2 _ (by decide +kernel) fun t _ y => ?_
  blk_simp
  rw [after0_2]; unfold Gen.outsAt0
  frame_out
  exact point m c t y

end Cert.KeysSampleIdeal.Value

namespace Cert.KeysSampleClaims

open Idealize.ShloMosaic Idealize.SL.Sem

/-- The sample keys: the reference runs to its end, its arguments unchanged; it declares no semaphore. -/
theorem reference_frame : Cert.quiescent_KeysSampleReferenceIdeal := fun m g _ =>
  (θ_run Cert.KeysSampleReferenceIdeal.defs _ _).mono (fun r h => ⟨fun c => (h c).2, sem_eq_zero_of_no_sems (by decide) r.2⟩)
    (Cert.KeysSampleReferenceIdeal.Value.run (F := Ideal) m g)

/-- The sample keys: the call's result and the reference's are the same array over the extended reals. -/
theorem equal : Cert.algebraic_KeysSampleIdeal_KeysSampleReferenceIdeal := fun m g m' g' _ hargs =>
  ⟨fun c => Cert.KeysSampleReferenceIdeal.Value.REF (m ((c.tc : Thread Cert.KeysSampleIdeal.nD Cert.KeysSampleIdeal.τ).loc Cert.KeysSampleIdeal.main_arg0)) (m ((c.tc : Thread Cert.KeysSampleIdeal.nD Cert.KeysSampleIdeal.τ).loc Cert.KeysSampleIdeal.main_arg1)),
    (θ_run Cert.KeysSampleIdeal.defs _ _).mono
      (fun _ h c => ⟨(h c).1.trans (Cert.KeysSampleIdeal.Value.final m c), (h c).2.2⟩)
      (Cert.KeysSampleIdeal.Value.run_blocks m g),
    (θ_run Cert.KeysSampleReferenceIdeal.defs _ _).mono
      (fun _ h c => ⟨(h c).1.trans (by rw [(hargs c).1, (hargs c).2]), (h c).2⟩)
      (Cert.KeysSampleReferenceIdeal.Value.run (F := Ideal) m' g')⟩

end Cert.KeysSampleClaims

end
-- ==== Proof.ValuesSample.lean ====
/- The values of the sample rows: the call is the product. -/
module

public import Idealize.ShloMosaic.Lib.Pipeline.ValueKit
public import Idealize.ShloMosaic.Init
public import Idealize.ShloMosaic.Adequacy
public import proofs.«01_k».proof.Defs
public import proofs.«01_k».proof.Proof.Gen.ValuesSample
public import proofs.«01_k».proof.Proof.Gen.ValuesSample.Frame
public import proofs.«01_k».proof.Proof.Gen.ValuesSampleIdeal
public import proofs.«01_k».proof.Proof.Gen.ValuesSampleIdeal.Frame
public import proofs.«01_k».proof.Proof.Gen.ValuesSampleIdeal.Value
public import proofs.«01_k».proof.Proof.Gen.ValuesSampleReferenceIdeal
public import proofs.«01_k».proof.Proof.Gen.ValuesSampleReferenceIdeal.Run

@[expose] public section

set_option maxRecDepth 16384

noncomputable section

namespace Cert.ValuesSampleReferenceIdeal.Value

open Cert.ValuesSampleReferenceIdeal.Gen
open Idealize.ShloMosaic Idealize.ShloMosaic.TcCoe Idealize.ShloMosaic.Tactic Idealize.SL.Sem
open Idealize.ShloMosaic.Pipeline (Dat Cfg Window)

/-- The reference's product, of the call's two arguments. -/
abbrev REF (x0 : FVec Ideal S512x4096 .bf16) (x1 : FVec Ideal S4096x24576 .f32) : FVec Ideal S512x2048 .f32 :=
  Host.dotGeneral dot_S512x4096_S4096x2048_S512x2048_1_0_0_1_n_n none (extf .f32 x0 bitsLt_bf16_f32) (extractStridedSlice S4096x2048 ![0, 4096] x1 slices_S4096x24576_S4096x2048_0_4096)

end Cert.ValuesSampleReferenceIdeal.Value

namespace Cert.ValuesSampleIdeal.Value

open Cert.ValuesSampleIdeal Cert.ValuesSampleIdeal.Gen
open Cert.ValuesSampleReferenceIdeal.Value (REF)
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- Which block of each array a grid point names. -/
theorem idx : ∀ t : Fin cfg0.N, win0_0.index t = ![0, 0] ∧ win0_1.index t = ![0, 8 + t.val] ∧ win0_2.index t = ![0, t.val] :=
  (by decide +kernel : ∀ t : Fin grid0.N, _)

/-- At a grid point the body's product of the rows by its rounded column block is the reference's product, at that block's place. -/
theorem point (c : Dev nD) (t : Fin cfg0.N) (y : S512x512.Idx) :
    k0_pay2 (iblk m c 0 t) (k0_pay1 (iblk m c 1 t)) y
      = REF (m ((c.tc : Thread nD τ).loc main_arg0)) (m ((c.tc : Thread nD τ).loc main_arg1)) (((cfg0.win 2).blk t).view.emb y) := by
  pointwise [k0_pay2, k0_pay1, REF]
  blk_point [iblk, V, idx t]

/-- The result's array holds the reference's value when the call ends. -/
theorem final (c : Dev nD) : (dats m 0 c).arrAt 2 (cfgs 0).N = REF (m ((c.tc : Thread nD τ).loc main_arg0)) (m ((c.tc : Thread nD τ).loc main_arg1)) := by
  refine (dats m 0 c).arrAt_eq_of_covers 2 _ (by decide +kernel) fun t _ y => ?_
  blk_simp
  rw [after0_2]; unfold Gen.outsAt0
  frame_out
  exact point m c t y

end Cert.ValuesSampleIdeal.Value

namespace Cert.ValuesSampleClaims

open Idealize.ShloMosaic Idealize.SL.Sem

/-- The sample values: the reference runs to its end, its arguments unchanged; it declares no semaphore. -/
theorem reference_frame : Cert.quiescent_ValuesSampleReferenceIdeal := fun m g _ =>
  (θ_run Cert.ValuesSampleReferenceIdeal.defs _ _).mono (fun r h => ⟨fun c => (h c).2, sem_eq_zero_of_no_sems (by decide) r.2⟩)
    (Cert.ValuesSampleReferenceIdeal.Value.run (F := Ideal) m g)

/-- The sample values: the call's result and the reference's are the same array over the extended reals. -/
theorem equal : Cert.algebraic_ValuesSampleIdeal_ValuesSampleReferenceIdeal := fun m g m' g' _ hargs =>
  ⟨fun c => Cert.ValuesSampleReferenceIdeal.Value.REF (m ((c.tc : Thread Cert.ValuesSampleIdeal.nD Cert.ValuesSampleIdeal.τ).loc Cert.ValuesSampleIdeal.main_arg0)) (m ((c.tc : Thread Cert.ValuesSampleIdeal.nD Cert.ValuesSampleIdeal.τ).loc Cert.ValuesSampleIdeal.main_arg1)),
    (θ_run Cert.ValuesSampleIdeal.defs _ _).mono
      (fun _ h c => ⟨(h c).1.trans (Cert.ValuesSampleIdeal.Value.final m c), (h c).2.2⟩)
      (Cert.ValuesSampleIdeal.Value.run_blocks m g),
    (θ_run Cert.ValuesSampleReferenceIdeal.defs _ _).mono
      (fun _ h c => ⟨(h c).1.trans (by rw [(hargs c).1, (hargs c).2]), (h c).2⟩)
      (Cert.ValuesSampleReferenceIdeal.Value.run (F := Ideal) m' g')⟩

end Cert.ValuesSampleClaims

end
-- ==== Proof.MergePrompt.lean ====
/- The merge of the prompt rows: the call is the gated sum of the two products. -/
module

public import Idealize.ShloMosaic.Lib.Pipeline.ValueKit
public import Idealize.ShloMosaic.Init
public import Idealize.ShloMosaic.Adequacy
public import proofs.«01_k».proof.Defs
public import proofs.«01_k».proof.Proof.Gen.MergePrompt
public import proofs.«01_k».proof.Proof.Gen.MergePrompt.Frame
public import proofs.«01_k».proof.Proof.Gen.MergePromptIdeal
public import proofs.«01_k».proof.Proof.Gen.MergePromptIdeal.Frame
public import proofs.«01_k».proof.Proof.Gen.MergePromptIdeal.Value
public import proofs.«01_k».proof.Proof.Gen.MergePromptReferenceIdeal
public import proofs.«01_k».proof.Proof.Gen.MergePromptReferenceIdeal.Run

@[expose] public section

set_option maxRecDepth 16384

noncomputable section

namespace Cert.MergePromptReferenceIdeal.Value

open Cert.MergePromptReferenceIdeal.Gen
open Idealize.ShloMosaic Idealize.ShloMosaic.TcCoe Idealize.ShloMosaic.Tactic Idealize.SL.Sem
open Idealize.ShloMosaic.Pipeline (Dat Cfg Window)

/-- The reference's merge, of the call's five arguments. -/
abbrev REF (x0 : FVec Ideal S8192x2048 .bf16) (x1 : FVec Ideal S8192x2048 .bf16) (x2 : FVec Ideal S2048x4096 .bf16)
    (x3 : FVec Ideal S2048x4096 .bf16) (x4 : FVec Ideal S8192x18432 .bf16) : FVec Ideal S8192x4096 .bf16 :=
  truncf .bf16 (addf (mulf (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extf .f32 (extractStridedSlice S8192x4096 ![0, 10240] x4 slices_S8192x18432_S8192x4096_0_10240) bitsLt_bf16_f32))))) (Host.dotGeneral dot_S8192x2048_S2048x4096_S8192x4096_1_0_0_1_n_n none (extf .f32 x0 bitsLt_bf16_f32) (extf .f32 x2 bitsLt_bf16_f32))) (mulf (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extf .f32 (extractStridedSlice S8192x4096 ![0, 14336] x4 slices_S8192x18432_S8192x4096_0_14336) bitsLt_bf16_f32))))) (Host.dotGeneral dot_S8192x2048_S2048x4096_S8192x4096_1_0_0_1_n_n none (extf .f32 x1 bitsLt_bf16_f32) (extf .f32 x3 bitsLt_bf16_f32)))) bitsLt_bf16_f32

end Cert.MergePromptReferenceIdeal.Value

namespace Cert.MergePromptIdeal.Value

open Cert.MergePromptIdeal Cert.MergePromptIdeal.Gen
open Cert.MergePromptReferenceIdeal.Value (REF)
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- Which block of each array a grid point names. -/
theorem idx : ∀ t : Fin cfg0.N, win0_0.index t = ![t.val % 16, 0] ∧ win0_1.index t = ![t.val % 16, 0] ∧ win0_2.index t = ![0, t.val / 16]
    ∧ win0_3.index t = ![0, t.val / 16] ∧ win0_4.index t = ![t.val % 16, 10 + t.val / 16] ∧ win0_5.index t = ![t.val % 16, 14 + t.val / 16]
    ∧ win0_6.index t = ![t.val % 16, t.val / 16] :=
  (by decide +kernel : ∀ t : Fin grid0.N, _)

/-- At a grid point the body's gated sum of its blocks is the reference's merge, at that block's place. -/
theorem point (c : Dev nD) (t : Fin cfg0.N) (y : S512x1024.Idx) :
    k0_pay1 (iblk m c 0 t) (iblk m c 2 t) (iblk m c 1 t) (iblk m c 3 t) (iblk m c 4 t) (iblk m c 5 t) y
      = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (((cfg0.win 6).blk t).view.emb y) := by
  pointwise [k0_pay1, REF]
  simp only [Ideal.logistic]
  blk_point [iblk, V, idx t]

/-- The result's array holds the reference's value when the call ends. -/
theorem final (c : Dev nD) : (dats m 0 c).arrAt 6 (cfgs 0).N = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t _ y => ?_
  blk_simp
  rw [after0_6]
  frame_out
  exact point m c t y

end Cert.MergePromptIdeal.Value

namespace Cert.MergePromptClaims

open Idealize.ShloMosaic Idealize.SL.Sem

/-- The prompt merge: the reference runs to its end, its arguments unchanged; it declares no semaphore. -/
theorem reference_frame : Cert.quiescent_MergePromptReferenceIdeal := fun m g _ =>
  (θ_run Cert.MergePromptReferenceIdeal.defs _ _).mono (fun r h => ⟨fun c => (h c).2, sem_eq_zero_of_no_sems (by decide) r.2⟩)
    (Cert.MergePromptReferenceIdeal.Value.run (F := Ideal) m g)

/-- The prompt merge: the call's result and the reference's are the same array over the extended reals. -/
theorem equal : Cert.algebraic_MergePromptIdeal_MergePromptReferenceIdeal := fun m g m' g' _ hargs =>
  ⟨fun c => Cert.MergePromptReferenceIdeal.Value.REF (m ((c.tc : Thread Cert.MergePromptIdeal.nD Cert.MergePromptIdeal.τ).loc Cert.MergePromptIdeal.main_arg0)) (m ((c.tc : Thread Cert.MergePromptIdeal.nD Cert.MergePromptIdeal.τ).loc Cert.MergePromptIdeal.main_arg1)) (m ((c.tc : Thread Cert.MergePromptIdeal.nD Cert.MergePromptIdeal.τ).loc Cert.MergePromptIdeal.main_arg2)) (m ((c.tc : Thread Cert.MergePromptIdeal.nD Cert.MergePromptIdeal.τ).loc Cert.MergePromptIdeal.main_arg3)) (m ((c.tc : Thread Cert.MergePromptIdeal.nD Cert.MergePromptIdeal.τ).loc Cert.MergePromptIdeal.main_arg4)),
    (θ_run Cert.MergePromptIdeal.defs _ _).mono
      (fun _ h c => ⟨(h c).1.trans (Cert.MergePromptIdeal.Value.final m c), (h c).2⟩)
      (Cert.MergePromptIdeal.Value.run_blocks m g),
    (θ_run Cert.MergePromptReferenceIdeal.defs _ _).mono
      (fun _ h c => ⟨(h c).1.trans (by rw [(hargs c).1, (hargs c).2.1, (hargs c).2.2.1, (hargs c).2.2.2.1, (hargs c).2.2.2.2]), (h c).2⟩)
      (Cert.MergePromptReferenceIdeal.Value.run (F := Ideal) m' g')⟩

end Cert.MergePromptClaims

end
-- ==== Proof.ConvPrompt.lean ====
/- The short convolution of the prompt. -/
module

public import Idealize.ShloMosaic.Lib.Pipeline.ValueKit
public import Idealize.ShloMosaic.Init
public import Idealize.ShloMosaic.Adequacy
public import proofs.«01_k».proof.Defs
public import proofs.«01_k».proof.Proof.Gen.ConvPrompt
public import proofs.«01_k».proof.Proof.Gen.ConvPrompt.Frame
public import proofs.«01_k».proof.Proof.Gen.ConvPromptIdeal
public import proofs.«01_k».proof.Proof.Gen.ConvPromptIdeal.Frame
public import Idealize.ShloMosaic.Lib.Pipeline.Value
public import proofs.«01_k».proof.Proof.Gen.ConvPromptReferenceIdeal
public import proofs.«01_k».proof.Proof.Gen.ConvPromptReferenceIdeal.Run

@[expose] public section

set_option maxRecDepth 16384

noncomputable section

namespace Cert.ConvPromptReferenceIdeal.Value

open Cert.ConvPromptReferenceIdeal.Gen
open Idealize.ShloMosaic Idealize.ShloMosaic.TcCoe Idealize.ShloMosaic.Tactic Idealize.SL.Sem
open Idealize.ShloMosaic.Pipeline (Dat Cfg Window)

/-- The reference's gated convolution, of the call's two arguments. -/
abbrev REF (x0 : FVec Ideal S8192x18432 .bf16) (x1 : FVec Ideal S3x2048 .f32) : FVec Ideal S8192x2048 .bf16 :=
  truncf .bf16 (mulf (mulf (extf .f32 (extractStridedSlice S8192x2048 ![0, 2048] x0 slices_S8192x18432_S8192x2048_0_2048) bitsLt_bf16_f32) (addf (addf (mulf (broadcastInDim S8192x2048 ![0, 1] bcast_S1x2048_S8192x2048_0_1 (broadcastInDim S1x2048 ![1] bcast_S2048_S1x2048_1 (shapeCast _ (extractStridedSlice S1x2048 ![0, 0] x1 slices_S3x2048_S1x2048_0_0) shapeCasts_S1x2048_S2048))) (extractStridedSlice S8192x2048 ![0, 0] (concatenate S8194x2048 0 [⟨S2x2048, (broadcastInDim S2x2048 ![] bcast_S_S2x2048 (constant S_ .f32 0x00000000#32))⟩, ⟨S8192x2048, (mulf (extf .f32 (extractStridedSlice S8192x2048 ![0, 4096] x0 slices_S8192x18432_S8192x2048_0_4096) bitsLt_bf16_f32) (extf .f32 (extractStridedSlice S8192x2048 ![0, 6144] x0 slices_S8192x18432_S8192x2048_0_6144) bitsLt_bf16_f32))⟩] concatenates_S2x2048_S8192x2048_S8194x2048_d0) slices_S8194x2048_S8192x2048_0_0)) (mulf (broadcastInDim S8192x2048 ![0, 1] bcast_S1x2048_S8192x2048_0_1 (broadcastInDim S1x2048 ![1] bcast_S2048_S1x2048_1 (shapeCast _ (extractStridedSlice S1x2048 ![1, 0] x1 slices_S3x2048_S1x2048_1_0) shapeCasts_S1x2048_S2048))) (extractStridedSlice S8192x2048 ![1, 0] (concatenate S8194x2048 0 [⟨S2x2048, (broadcastInDim S2x2048 ![] bcast_S_S2x2048 (constant S_ .f32 0x00000000#32))⟩, ⟨S8192x2048, (mulf (extf .f32 (extractStridedSlice S8192x2048 ![0, 4096] x0 slices_S8192x18432_S8192x2048_0_4096) bitsLt_bf16_f32) (extf .f32 (extractStridedSlice S8192x2048 ![0, 6144] x0 slices_S8192x18432_S8192x2048_0_6144) bitsLt_bf16_f32))⟩] concatenates_S2x2048_S8192x2048_S8194x2048_d0) slices_S8194x2048_S8192x2048_1_0))) (mulf (broadcastInDim S8192x2048 ![0, 1] bcast_S1x2048_S8192x2048_0_1 (broadcastInDim S1x2048 ![1] bcast_S2048_S1x2048_1 (shapeCast _ (extractStridedSlice S1x2048 ![2, 0] x1 slices_S3x2048_S1x2048_2_0) shapeCasts_S1x2048_S2048))) (extractStridedSlice S8192x2048 ![2, 0] (concatenate S8194x2048 0 [⟨S2x2048, (broadcastInDim S2x2048 ![] bcast_S_S2x2048 (constant S_ .f32 0x00000000#32))⟩, ⟨S8192x2048, (mulf (extf .f32 (extractStridedSlice S8192x2048 ![0, 4096] x0 slices_S8192x18432_S8192x2048_0_4096) bitsLt_bf16_f32) (extf .f32 (extractStridedSlice S8192x2048 ![0, 6144] x0 slices_S8192x18432_S8192x2048_0_6144) bitsLt_bf16_f32))⟩] concatenates_S2x2048_S8192x2048_S8194x2048_d0) slices_S8194x2048_S8192x2048_2_0)))) (mulf (extf .f32 (extractStridedSlice S8192x2048 ![0, 8192] x0 slices_S8192x18432_S8192x2048_0_8192) bitsLt_bf16_f32) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extf .f32 (extractStridedSlice S8192x2048 ![0, 8192] x0 slices_S8192x18432_S8192x2048_0_8192) bitsLt_bf16_f32))))))) bitsLt_bf16_f32

/-- The reference's state after the last row. -/
abbrev STATE (x0 : FVec Ideal S8192x18432 .bf16) : FVec Ideal S2x2048 .f32 :=
  extractStridedSlice S2x2048 ![8192, 0] (concatenate S8194x2048 0 [⟨S2x2048, (broadcastInDim S2x2048 ![] bcast_S_S2x2048 (constant S_ .f32 0x00000000#32))⟩, ⟨S8192x2048, (mulf (extf .f32 (extractStridedSlice S8192x2048 ![0, 4096] x0 slices_S8192x18432_S8192x2048_0_4096) bitsLt_bf16_f32) (extf .f32 (extractStridedSlice S8192x2048 ![0, 6144] x0 slices_S8192x18432_S8192x2048_0_6144) bitsLt_bf16_f32))⟩] concatenates_S2x2048_S8192x2048_S8194x2048_d0) slices_S8194x2048_S2x2048_8192_0

end Cert.ConvPromptReferenceIdeal.Value

namespace Cert.ConvPromptIdeal.Value

open Cert.ConvPromptIdeal Cert.ConvPromptIdeal.Gen
open Cert.ConvPromptReferenceIdeal.Value (REF STATE)
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- Which block of each array a grid point names. -/
theorem idx : ∀ t : Fin cfg0.N, win0_0.index t = ![t.val % 16, 4 + t.val / 16] ∧ win0_1.index t = ![t.val % 16, 8 + t.val / 16]
    ∧ win0_2.index t = ![t.val % 16, 12 + t.val / 16] ∧ win0_3.index t = ![t.val % 16, 16 + t.val / 16]
    ∧ win0_4.index t = ![32 * (t.val % 16) - 1, 8 + t.val / 16] ∧ win0_5.index t = ![32 * (t.val % 16) - 1, 12 + t.val / 16]
    ∧ win0_6.index t = ![0, t.val / 16] ∧ win0_7.index t = ![t.val % 16, t.val / 16] ∧ win0_8.index t = ![0, t.val / 16] :=
  (by decide +kernel : ∀ t : Fin grid0.N, _)

/-- An entry of the rest array, its row and column as numbers; zero outside. -/
def rd (X : FVec Ideal S8192x18432 .bf16) (r k : ℕ) : EReal :=
  if h : r < 8192 ∧ k < 18432 then X (ix2 ⟨r, h.1⟩ ⟨k, h.2⟩) else 0

theorem rd_at (X : FVec Ideal S8192x18432 .bf16) (p : Fin 8192) (q : Fin 18432) : X (ix2 p q) = rd X p q := by
  rw [rd, dif_pos ⟨p.isLt, q.isLt⟩]

theorem lt64 (t : Fin cfg0.N) : t.val < 64 := t.isLt

theorem read0 (c : Dev nD) (t : Fin cfg0.N) (j : S512x512.Idx) :
    iblk m c 0 t j = rd (m ((c.tc : Thread nD τ).loc main_arg0)) (t.val % 16 * 512 + (j 0).val) (2048 + (t.val / 16 * 512 + (j 1).val)) := by
  have ht := lt64 t; have h0 : (j 0).val < 512 := (j 0).isLt; have h1 : (j 1).val < 512 := (j 1).isLt
  rw [rd, dif_pos ⟨by omega, by omega⟩]
  blk_point [iblk, V, idx t]

theorem read1 (c : Dev nD) (t : Fin cfg0.N) (j : S512x512.Idx) :
    iblk m c 1 t j = rd (m ((c.tc : Thread nD τ).loc main_arg0)) (t.val % 16 * 512 + (j 0).val) (4096 + (t.val / 16 * 512 + (j 1).val)) := by
  have ht := lt64 t; have h0 : (j 0).val < 512 := (j 0).isLt; have h1 : (j 1).val < 512 := (j 1).isLt
  rw [rd, dif_pos ⟨by omega, by omega⟩]
  blk_point [iblk, V, idx t]

theorem read2 (c : Dev nD) (t : Fin cfg0.N) (j : S512x512.Idx) :
    iblk m c 2 t j = rd (m ((c.tc : Thread nD τ).loc main_arg0)) (t.val % 16 * 512 + (j 0).val) (6144 + (t.val / 16 * 512 + (j 1).val)) := by
  have ht := lt64 t; have h0 : (j 0).val < 512 := (j 0).isLt; have h1 : (j 1).val < 512 := (j 1).isLt
  rw [rd, dif_pos ⟨by omega, by omega⟩]
  blk_point [iblk, V, idx t]

theorem read3 (c : Dev nD) (t : Fin cfg0.N) (j : S512x512.Idx) :
    iblk m c 3 t j = rd (m ((c.tc : Thread nD τ).loc main_arg0)) (t.val % 16 * 512 + (j 0).val) (8192 + (t.val / 16 * 512 + (j 1).val)) := by
  have ht := lt64 t; have h0 : (j 0).val < 512 := (j 0).isLt; have h1 : (j 1).val < 512 := (j 1).isLt
  rw [rd, dif_pos ⟨by omega, by omega⟩]
  blk_point [iblk, V, idx t]

theorem read4 (c : Dev nD) (t : Fin cfg0.N) (j : S16x512.Idx) :
    iblk m c 4 t j = rd (m ((c.tc : Thread nD τ).loc main_arg0)) ((32 * (t.val % 16) - 1) * 16 + (j 0).val) (4096 + (t.val / 16 * 512 + (j 1).val)) := by
  have ht := lt64 t; have h0 : (j 0).val < 16 := (j 0).isLt; have h1 : (j 1).val < 512 := (j 1).isLt
  rw [rd, dif_pos ⟨by omega, by omega⟩]
  blk_point [iblk, V, idx t]

theorem read5 (c : Dev nD) (t : Fin cfg0.N) (j : S16x512.Idx) :
    iblk m c 5 t j = rd (m ((c.tc : Thread nD τ).loc main_arg0)) ((32 * (t.val % 16) - 1) * 16 + (j 0).val) (6144 + (t.val / 16 * 512 + (j 1).val)) := by
  have ht := lt64 t; have h0 : (j 0).val < 16 := (j 0).isLt; have h1 : (j 1).val < 512 := (j 1).isLt
  rw [rd, dif_pos ⟨by omega, by omega⟩]
  blk_point [iblk, V, idx t]

theorem read6 (c : Dev nD) (t : Fin cfg0.N) (p : Fin 3) (q : Fin 512) (h : t.val / 16 * 512 + q.val < 2048) :
    iblk m c 6 t (ix2 p q) = (m ((c.tc : Thread nD τ).loc main_arg1)) (ix2 p ⟨t.val / 16 * 512 + q.val, h⟩) := by
  blk_point [iblk, V, idx t]

/-- A row counter compared with a number, as a choice on the number. -/
theorem pick (a k : ℕ) (ha : a < 512) (hk : k < 2) (x y : EReal) :
    Scalar.select (IntOp.cmpi CmpIPredicate.eq (BitVec.ofNat 32 a) (BitVec.ofNat 32 k)) x y = if a = k then x else y := by
  unfold Scalar.select IntOp.cmpi
  by_cases h : a = k
  · subst h; simp
  · have : BitVec.ofNat 32 a ≠ BitVec.ofNat 32 k := fun e => h (by
      have := congrArg BitVec.toNat e; simp only [BitVec.toNat_ofNat] at this; omega)
    rw [beq_eq_false_iff_ne.mpr this, if_neg h]; rfl

/-- The factor that clears the rows above the first block. -/
theorem mask : ∀ t : Fin grid0.N, (Scalar.extui (Scalar.cmpi CmpIPredicate.sgt (BitVec.ofNat 32 (grid0.coords t 1).val) 0#32) : BitVec 32).toInt
    = if t.val % 16 = 0 then 0 else 1 := by
  decide +kernel

theorem emb7 (t : Fin cfg0.N) (y : S512x512.Idx) : ((((View.whole main_v0_0).slice (win0_7.rect t)).emb y 0 : Fin _) : ℕ) = t.val % 16 * 512 + (y 0).val
    ∧ ((((View.whole main_v0_0).slice (win0_7.rect t)).emb y 1 : Fin _) : ℕ) = t.val / 16 * 512 + (y 1).val := by
  constructor <;> blk_simp [idx t]

/-- The factors two rows up, in the block or in the rows above it, are the products two rows up, zero before the first row. -/
theorem two_up (R : ℕ → EReal) (I a : ℕ) (ha : a < 512) :
    (if a = 0 then R ((32 * I - 1) * 16 + 14) * (((if I = 0 then 0 else 1 : ℤ) : ℝ) : EReal)
      else if a = 1 then R ((32 * I - 1) * 16 + 15) * (((if I = 0 then 0 else 1 : ℤ) : ℝ) : EReal)
      else R (I * 512 + (a + 512 - 2) % 512)) = if I * 512 + a < 2 then 0 else R (I * 512 + a - 2) := by
  by_cases hI : I = 0 <;> by_cases h0 : a = 0 <;> by_cases h1 : a = 1
  all_goals first | omega | skip
  all_goals simp only [hI, h0, h1, if_true, if_false, reduceIte, Int.cast_zero, Int.cast_one, EReal.coe_zero, EReal.coe_one, mul_zero, mul_one, one_ne_zero]
  all_goals first
    | (rw [if_pos (by omega)])
    | (rw [if_neg (by omega)]; exact congrArg R (by omega))

/-- The same one row up. -/
theorem one_up (R : ℕ → EReal) (I a : ℕ) (ha : a < 512) :
    (if a = 0 then R ((32 * I - 1) * 16 + 15) * (((if I = 0 then 0 else 1 : ℤ) : ℝ) : EReal)
      else R (I * 512 + (a + 512 - 1) % 512)) = if 1 + (I * 512 + a) < 2 then 0 else R (1 + (I * 512 + a) - 2) := by
  by_cases hI : I = 0 <;> by_cases h0 : a = 0
  all_goals simp only [hI, h0, if_true, if_false, reduceIte, Int.cast_zero, Int.cast_one, EReal.coe_zero, EReal.coe_one, mul_zero, mul_one]
  all_goals first
    | (rw [if_pos (by omega)])
    | (rw [if_neg (by omega)]; exact congrArg R (by omega))

set_option maxHeartbeats 1000000 in
/-- At a grid point the body's gated convolution of its blocks is the reference's, at that block's place. -/
theorem point7 (c : Dev nD) (t : Fin cfg0.N) (y : S512x512.Idx) :
    k0_pay1 (k0_pay3 (iblk m c 1 t) (iblk m c 2 t))
      (k0_pay6 (grid0.coords t) (iblk m c 1 t) (iblk m c 2 t) (iblk m c 4 t) (iblk m c 5 t))
      (k0_pay7 (grid0.coords t) (iblk m c 1 t) (iblk m c 2 t) (iblk m c 4 t) (iblk m c 5 t) (View.ld (iblk m c 6 t) r0_2))
      (k0_pay8 (View.ld (iblk m c 6 t) r0_3)) (View.ld (iblk m c 6 t) r0_4) (iblk m c 3 t) (iblk m c 0 t) y
      = REF (m ((c.tc : Thread nD τ).loc main_arg0)) (m ((c.tc : Thread nD τ).loc main_arg1)) (((View.whole main_v0_0).slice (win0_7.rect t)).emb y) := by
  have ht := lt64 t
  have h0 : (y 0).val < 512 := (y 0).isLt
  have h1 : (y 1).val < 512 := (y 1).isLt
  have hr : t.val % 16 * 512 + (y 0).val < 8192 := by omega
  have hc : t.val / 16 * 512 + (y 1).val < 2048 := by omega
  have e : ((View.whole main_v0_0).slice (win0_7.rect t)).emb y
      = ix2 ⟨t.val % 16 * 512 + (y 0).val, hr⟩ ⟨t.val / 16 * 512 + (y 1).val, hc⟩ := by
    funext a; refine Fin.ext ?_; fin_cases a
    · exact (emb7 t y).1
    · exact (emb7 t y).2
  rw [e]
  pointwise [k0_pay1, k0_pay3, k0_pay4, k0_pay5, k0_pay6, k0_pay7, k0_pay8, k0_pay9, REF]
  rw [pick _ 0 h0 (by omega), pick _ 1 h0 (by omega), pick _ 0 h0 (by omega), mask t]
  simp only [read0, read1, read2, read3, read4, read5, read6 m c t _ (y 1) hc, Ideal.logistic, rd_at (m ((c.tc : Thread nD τ).loc main_arg0)), ix2_0, ix2_1]
  refine congrArg₂ (· * ·) (congrArg₂ (· * ·) rfl (congrArg₂ (· + ·)
    (congrArg₂ (· + ·) (congrArg₂ (· * ·) rfl ?_) (congrArg₂ (· * ·) rfl ?_)) rfl)) rfl
  · exact two_up (fun r => rd (m ((c.tc : Thread nD τ).loc main_arg0)) r (4096 + (t.val / 16 * 512 + (y 1).val)) * rd (m ((c.tc : Thread nD τ).loc main_arg0)) r (6144 + (t.val / 16 * 512 + (y 1).val))) _ _ h0
  · exact one_up (fun r => rd (m ((c.tc : Thread nD τ).loc main_arg0)) r (4096 + (t.val / 16 * 512 + (y 1).val)) * rd (m ((c.tc : Thread nD τ).loc main_arg0)) r (6144 + (t.val / 16 * 512 + (y 1).val))) _ _ h0

/-- The first result holds the reference's gated convolution when the call ends. -/
theorem final7 (c : Dev nD) : (dats m 0 c).arrAt 7 (cfgs 0).N = REF (m ((c.tc : Thread nD τ).loc main_arg0)) (m ((c.tc : Thread nD τ).loc main_arg1)) := by
  refine (dats m 0 c).arrAt_eq_of_covers 7 _ (by decide +kernel) fun t _ y => ?_
  blk_simp
  rw [after0_7]
  unfold_out out0_7
  frame_out
  exact point7 m c t y

/-- The last eight rows of the products. -/
def LAST (X : FVec Ideal S8192x18432 .bf16) : FVec Ideal S8x2048 .f32 := fun j =>
  rd X (8184 + (j 0).val) (4096 + (j 1).val) * rd X (8184 + (j 0).val) (6144 + (j 1).val)

/-- The second result's block is written back after the last block of rows. -/
theorem flush8 : ∀ t : Fin grid0.N, win0_8.flush t = true → t.val % 16 = 15 := by decide +kernel

theorem emb8 (t : Fin cfg0.N) (y : S8x512.Idx) : ((((View.whole main_v0_1).slice (win0_8.rect t)).emb y 0 : Fin _) : ℕ) = (y 0).val
    ∧ ((((View.whole main_v0_1).slice (win0_8.rect t)).emb y 1 : Fin _) : ℕ) = t.val / 16 * 512 + (y 1).val := by
  constructor <;> blk_simp [idx t]

/-- After the last block of rows the body leaves the last eight rows of the products. -/
theorem point8 (c : Dev nD) (t : Fin cfg0.N) (hf : t.val % 16 = 15) (y : S8x512.Idx) :
    k0_pay2 (k0_pay3 (iblk m c 1 t) (iblk m c 2 t)) y = LAST (m ((c.tc : Thread nD τ).loc main_arg0)) (((View.whole main_v0_1).slice (win0_8.rect t)).emb y) := by
  unfold LAST
  rw [(emb8 t y).1, (emb8 t y).2]
  pointwise [k0_pay2, k0_pay3]
  simp only [read1, read2, ix2_0, ix2_1, hf]
  refine congrArg₂ (· * ·) (congrArg₂ _ ?_ rfl) (congrArg₂ _ ?_ rfl) <;> show 15 * 512 + (504 + (y 0).val) = 8184 + (y 0).val <;> omega

theorem final8 (c : Dev nD) : (dats m 0 c).arrAt 8 (cfgs 0).N = LAST (m ((c.tc : Thread nD τ).loc main_arg0)) := by
  refine (dats m 0 c).arrAt_eq_of_covers 8 _ (by decide +kernel) fun t hf y => ?_
  blk_simp
  rw [after0_8]
  unfold_out out0_8
  frame_out
  exact point8 m c t (flush8 t hf) y

/-- The host's slice after the call reads the call's second result. -/
theorem after_slice (c : Dev nD) : Pipeline.afterTail₀ cfgs (dats m) 0 (V0 m) [hostOps1] c main_v1
    = extractStridedSlice S2x2048 ![6, 0] ((dats m 0 c).arrAt 8 (cfgs 0).N) slices_S8x2048_S2x2048_6_0 := by
  unfold Pipeline.afterTail₀
  simp only [hostOps1, List.flatten_cons, List.flatten_nil, List.append_nil]
  after_results
  exact congrArg (extractStridedSlice S2x2048 ![6, 0] · slices_S8x2048_S2x2048_6_0)
    ((dats m 0 c).withArrays_arrAt sharedIn0 (V0 m c) (A_eq m c) 8)

/-- The last two of the eight rows are the reference's state. -/
theorem state_eq (X : FVec Ideal S8192x18432 .bf16) :
    (extractStridedSlice S2x2048 ![6, 0] (LAST X) slices_S8x2048_S2x2048_6_0 : FVec Ideal S2x2048 .f32) = STATE X := by
  funext j
  have h0 : (j 0).val < 2 := (j 0).isLt
  pointwise [STATE, LAST]
  simp only [rd_at X, ix2_0, ix2_1]
  rw [dif_neg (by omega), show 8184 + (6 + (j 0).val) = 8192 + (j 0).val - 2 by omega]

/-- What the two results hold when the program ends, its arguments unchanged. -/
theorem run_results : θ_run defs (onTc (τ := τ) (main (F := Ideal))) ⟨m, fun _ => 0, ρ⟩ fun r => ∀ c : Dev nD,
      r.2.mem ((c.tc : Thread nD τ).loc main_v0_0) = REF (m ((c.tc : Thread nD τ).loc main_arg0)) (m ((c.tc : Thread nD τ).loc main_arg1))
      ∧ r.2.mem ((c.tc : Thread nD τ).loc main_v1) = STATE (m ((c.tc : Thread nD τ).loc main_arg0))
      ∧ r.2.mem ((c.tc : Thread nD τ).loc main_arg0) = (m ((c.tc : Thread nD τ).loc main_arg0))
      ∧ r.2.mem ((c.tc : Thread nD τ).loc main_arg1) = (m ((c.tc : Thread nD τ).loc main_arg1)) :=
  (θ_run defs _ _).mono (fun _ h c => ⟨((h.1 c).1 7).trans (final7 m c),
      ((h.1 c).2 main_v1 (Pipeline.mem_restRefs_of main_v1 (by decide) (by decide))).trans
        ((after_slice m c).trans ((congrArg (extractStridedSlice S2x2048 ![6, 0] · slices_S8x2048_S2x2048_6_0) (final8 m c)).trans (state_eq _))),
      h.2 c⟩)
    (θ_run_and (run_main m ρ) (unchanged m ρ))

end Cert.ConvPromptIdeal.Value

namespace Cert.ConvPromptClaims

open Idealize.ShloMosaic Idealize.SL.Sem

/-- The prompt convolution: the reference runs to its end, its arguments unchanged; it declares no semaphore. -/
theorem reference_frame : Cert.quiescent_ConvPromptReferenceIdeal := fun m g _ =>
  (θ_run Cert.ConvPromptReferenceIdeal.defs _ _).mono (fun r h => ⟨fun c => (h c).2.2, sem_eq_zero_of_no_sems (by decide) r.2⟩)
    (Cert.ConvPromptReferenceIdeal.Value.run (F := Ideal) m g)

/-- The prompt convolution: the results and the reference's are the same arrays over the extended reals. -/
theorem equal : Cert.algebraic_ConvPromptIdeal_ConvPromptReferenceIdeal := fun m g m' g' _ hargs =>
  ⟨fun c => Cert.ConvPromptReferenceIdeal.Value.REF (m ((c.tc : Thread Cert.ConvPromptIdeal.nD Cert.ConvPromptIdeal.τ).loc Cert.ConvPromptIdeal.main_arg0)) (m ((c.tc : Thread Cert.ConvPromptIdeal.nD Cert.ConvPromptIdeal.τ).loc Cert.ConvPromptIdeal.main_arg1)),
    fun c => Cert.ConvPromptReferenceIdeal.Value.STATE (m ((c.tc : Thread Cert.ConvPromptIdeal.nD Cert.ConvPromptIdeal.τ).loc Cert.ConvPromptIdeal.main_arg0)),
    Cert.ConvPromptIdeal.Value.run_results m g,
    (θ_run Cert.ConvPromptReferenceIdeal.defs _ _).mono
      (fun _ h c => ⟨(h c).1.trans (by rw [(hargs c).1, (hargs c).2]), (h c).2.1.trans (by rw [(hargs c).1]), (h c).2.2⟩)
      (Cert.ConvPromptReferenceIdeal.Value.run (F := Ideal) m' g')⟩

end Cert.ConvPromptClaims

end
-- ==== Proof.ConvSample.lean ====
/- The short convolution of the samples. -/
module

public import Idealize.ShloMosaic.Lib.Pipeline.ValueKit
public import Idealize.ShloMosaic.Init
public import Idealize.ShloMosaic.Adequacy
public import proofs.«01_k».proof.Defs
public import proofs.«01_k».proof.Proof.Gen.ConvSample
public import proofs.«01_k».proof.Proof.Gen.ConvSample.Frame
public import proofs.«01_k».proof.Proof.Gen.ConvSampleIdeal
public import proofs.«01_k».proof.Proof.Gen.ConvSampleIdeal.Frame
public import Idealize.ShloMosaic.Lib.Pipeline.Value
public import proofs.«01_k».proof.Proof.Gen.ConvSampleReferenceIdeal
public import proofs.«01_k».proof.Proof.Gen.ConvSampleReferenceIdeal.Run

@[expose] public section

set_option maxRecDepth 16384

noncomputable section

namespace Cert.ConvSampleReferenceIdeal.Value

open Cert.ConvSampleReferenceIdeal.Gen
open Idealize.ShloMosaic Idealize.ShloMosaic.TcCoe Idealize.ShloMosaic.Tactic Idealize.SL.Sem
open Idealize.ShloMosaic.Pipeline (Dat Cfg Window)

/-- The reference's gated convolution, of the call's three arguments. -/
abbrev REF (x0 : FVec Ideal S512x18432 .f32) (x1 : FVec Ideal S128x2x2048 .f32) (x2 : FVec Ideal S3x2048 .f32) : FVec Ideal S512x2048 .bf16 :=
  truncf .bf16 (shapeCast _ (mulf (mulf (shapeCast _ (extractStridedSlice S512x2048 ![0, 2048] x0 slices_S512x18432_S512x2048_0_2048) shapeCasts_S512x2048_S128x4x2048) (addf (addf (mulf (broadcastInDim S128x4x2048 ![0, 1, 2] bcast_S1x1x2048_S128x4x2048_0_1_2 (broadcastInDim S1x1x2048 ![2] bcast_S2048_S1x1x2048_2 (shapeCast _ (extractStridedSlice S1x2048 ![0, 0] x2 slices_S3x2048_S1x2048_0_0) shapeCasts_S1x2048_S2048))) (extractStridedSlice S128x4x2048 ![0, 0, 0] (concatenate S128x6x2048 1 [⟨S128x2x2048, x1⟩, ⟨S128x4x2048, (mulf (shapeCast _ (extractStridedSlice S512x2048 ![0, 4096] x0 slices_S512x18432_S512x2048_0_4096) shapeCasts_S512x2048_S128x4x2048) (shapeCast _ (extractStridedSlice S512x2048 ![0, 6144] x0 slices_S512x18432_S512x2048_0_6144) shapeCasts_S512x2048_S128x4x2048))⟩] concatenates_S128x2x2048_S128x4x2048_S128x6x2048_d1) slices_S128x6x2048_S128x4x2048_0_0_0)) (mulf (broadcastInDim S128x4x2048 ![0, 1, 2] bcast_S1x1x2048_S128x4x2048_0_1_2 (broadcastInDim S1x1x2048 ![2] bcast_S2048_S1x1x2048_2 (shapeCast _ (extractStridedSlice S1x2048 ![1, 0] x2 slices_S3x2048_S1x2048_1_0) shapeCasts_S1x2048_S2048))) (extractStridedSlice S128x4x2048 ![0, 1, 0] (concatenate S128x6x2048 1 [⟨S128x2x2048, x1⟩, ⟨S128x4x2048, (mulf (shapeCast _ (extractStridedSlice S512x2048 ![0, 4096] x0 slices_S512x18432_S512x2048_0_4096) shapeCasts_S512x2048_S128x4x2048) (shapeCast _ (extractStridedSlice S512x2048 ![0, 6144] x0 slices_S512x18432_S512x2048_0_6144) shapeCasts_S512x2048_S128x4x2048))⟩] concatenates_S128x2x2048_S128x4x2048_S128x6x2048_d1) slices_S128x6x2048_S128x4x2048_0_1_0))) (mulf (broadcastInDim S128x4x2048 ![0, 1, 2] bcast_S1x1x2048_S128x4x2048_0_1_2 (broadcastInDim S1x1x2048 ![2] bcast_S2048_S1x1x2048_2 (shapeCast _ (extractStridedSlice S1x2048 ![2, 0] x2 slices_S3x2048_S1x2048_2_0) shapeCasts_S1x2048_S2048))) (extractStridedSlice S128x4x2048 ![0, 2, 0] (concatenate S128x6x2048 1 [⟨S128x2x2048, x1⟩, ⟨S128x4x2048, (mulf (shapeCast _ (extractStridedSlice S512x2048 ![0, 4096] x0 slices_S512x18432_S512x2048_0_4096) shapeCasts_S512x2048_S128x4x2048) (shapeCast _ (extractStridedSlice S512x2048 ![0, 6144] x0 slices_S512x18432_S512x2048_0_6144) shapeCasts_S512x2048_S128x4x2048))⟩] concatenates_S128x2x2048_S128x4x2048_S128x6x2048_d1) slices_S128x6x2048_S128x4x2048_0_2_0)))) (mulf (shapeCast _ (extractStridedSlice S512x2048 ![0, 8192] x0 slices_S512x18432_S512x2048_0_8192) shapeCasts_S512x2048_S128x4x2048) (Host.divf (broadcastInDim S128x4x2048 ![] bcast_S_S128x4x2048 (constant S_ .f32 0x3F800000#32)) (addf (broadcastInDim S128x4x2048 ![] bcast_S_S128x4x2048 (constant S_ .f32 0x3F800000#32)) (Host.exp (Host.negf (shapeCast _ (extractStridedSlice S512x2048 ![0, 8192] x0 slices_S512x18432_S512x2048_0_8192) shapeCasts_S512x2048_S128x4x2048))))))) shapeCasts_S128x4x2048_S512x2048) bitsLt_bf16_f32

/-- The reference's states after the last token. -/
abbrev STATE (x0 : FVec Ideal S512x18432 .f32) (x1 : FVec Ideal S128x2x2048 .f32) : FVec Ideal S128x2x2048 .f32 :=
  extractStridedSlice S128x2x2048 ![0, 4, 0] (concatenate S128x6x2048 1 [⟨S128x2x2048, x1⟩, ⟨S128x4x2048, (mulf (shapeCast _ (extractStridedSlice S512x2048 ![0, 4096] x0 slices_S512x18432_S512x2048_0_4096) shapeCasts_S512x2048_S128x4x2048) (shapeCast _ (extractStridedSlice S512x2048 ![0, 6144] x0 slices_S512x18432_S512x2048_0_6144) shapeCasts_S512x2048_S128x4x2048))⟩] concatenates_S128x2x2048_S128x4x2048_S128x6x2048_d1) slices_S128x6x2048_S128x2x2048_0_4_0

end Cert.ConvSampleReferenceIdeal.Value

namespace Cert.ConvSampleIdeal.Value

open Cert.ConvSampleIdeal Cert.ConvSampleIdeal.Gen
open Cert.ConvSampleReferenceIdeal.Value (REF STATE)
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- Which block of each array a grid point names. -/
theorem idx : ∀ t : Fin cfg0.N, win0_0.index t = ![0, 4 + t.val] ∧ win0_1.index t = ![0, 8 + t.val]
    ∧ win0_2.index t = ![0, 12 + t.val] ∧ win0_3.index t = ![0, 16 + t.val]
    ∧ win0_4.index t = ![0, t.val] ∧ win0_5.index t = ![0, t.val]
    ∧ win0_6.index t = ![0, t.val] ∧ win0_7.index t = ![0, t.val] ∧ win0_8.index t = ![0, t.val] :=
  (by decide +kernel : ∀ t : Fin grid0.N, _)

/-- An entry of the rest array, its row and column as numbers; zero outside. -/
def rd (X : FVec Ideal S512x18432 .f32) (r k : ℕ) : EReal :=
  if h : r < 512 ∧ k < 18432 then X (ix2 ⟨r, h.1⟩ ⟨k, h.2⟩) else 0

theorem rd_at (X : FVec Ideal S512x18432 .f32) (p : Fin 512) (q : Fin 18432) : X (ix2 p q) = rd X p q := by
  rw [rd, dif_pos ⟨p.isLt, q.isLt⟩]

/-- An entry of the states carried in, its place as numbers; zero outside. -/
def sd (X : FVec Ideal S128x2x2048 .f32) (q e k : ℕ) : EReal :=
  if h : q < 128 ∧ e < 2 ∧ k < 2048 then X (ix3 ⟨q, h.1⟩ ⟨e, h.2.1⟩ ⟨k, h.2.2⟩) else 0

theorem sd_at (X : FVec Ideal S128x2x2048 .f32) (p : Fin 128) (e : Fin 2) (q : Fin 2048) : X (ix3 p e q) = sd X p e q := by
  rw [sd, dif_pos ⟨p.isLt, e.isLt, q.isLt⟩]

theorem lt4 (t : Fin cfg0.N) : t.val < 4 := t.isLt

theorem read0 (c : Dev nD) (t : Fin cfg0.N) (j : S512x512.Idx) :
    iblk m c 0 t j = rd (m ((c.tc : Thread nD τ).loc main_arg0)) (j 0).val (2048 + (t.val * 512 + (j 1).val)) := by
  have ht := lt4 t; have h0 : (j 0).val < 512 := (j 0).isLt; have h1 : (j 1).val < 512 := (j 1).isLt
  rw [rd, dif_pos ⟨by omega, by omega⟩, ← V_main_arg0 m c]
  blk_point [iblk, idx t]

theorem read1 (c : Dev nD) (t : Fin cfg0.N) (j : S512x512.Idx) :
    iblk m c 1 t j = rd (m ((c.tc : Thread nD τ).loc main_arg0)) (j 0).val (4096 + (t.val * 512 + (j 1).val)) := by
  have ht := lt4 t; have h0 : (j 0).val < 512 := (j 0).isLt; have h1 : (j 1).val < 512 := (j 1).isLt
  rw [rd, dif_pos ⟨by omega, by omega⟩, ← V_main_arg0 m c]
  blk_point [iblk, idx t]

theorem read2 (c : Dev nD) (t : Fin cfg0.N) (j : S512x512.Idx) :
    iblk m c 2 t j = rd (m ((c.tc : Thread nD τ).loc main_arg0)) (j 0).val (6144 + (t.val * 512 + (j 1).val)) := by
  have ht := lt4 t; have h0 : (j 0).val < 512 := (j 0).isLt; have h1 : (j 1).val < 512 := (j 1).isLt
  rw [rd, dif_pos ⟨by omega, by omega⟩, ← V_main_arg0 m c]
  blk_point [iblk, idx t]

theorem read3 (c : Dev nD) (t : Fin cfg0.N) (j : S512x512.Idx) :
    iblk m c 3 t j = rd (m ((c.tc : Thread nD τ).loc main_arg0)) (j 0).val (8192 + (t.val * 512 + (j 1).val)) := by
  have ht := lt4 t; have h0 : (j 0).val < 512 := (j 0).isLt; have h1 : (j 1).val < 512 := (j 1).isLt
  rw [rd, dif_pos ⟨by omega, by omega⟩, ← V_main_arg0 m c]
  blk_point [iblk, idx t]

theorem blk4 (c : Dev nD) (t : Fin cfg0.N) (j : S512x512.Idx) (h : t.val * 512 + (j 1).val < 2048) :
    iblk m c 4 t j = V m c main_v3 (ix2 ⟨(j 0).val, (j 0).isLt⟩ ⟨t.val * 512 + (j 1).val, h⟩) := by
  blk_point [iblk, idx t]

theorem blk5 (c : Dev nD) (t : Fin cfg0.N) (j : S512x512.Idx) (h : t.val * 512 + (j 1).val < 2048) :
    iblk m c 5 t j = V m c main_v6 (ix2 ⟨(j 0).val, (j 0).isLt⟩ ⟨t.val * 512 + (j 1).val, h⟩) := by
  blk_point [iblk, idx t]

/-- The carried entries one token up, as the host lays them out. -/
theorem s1 (c : Dev nD) : V m c main_v3 = shapeCast S512x2048 (concatenate S128x4x2048 1 [⟨S128x1x2048, extractStridedSlice S128x1x2048 ![0, 1, 0] (m ((c.tc : Thread nD τ).loc main_arg1)) slices_S128x2x2048_S128x1x2048_0_1_0⟩, ⟨S128x3x2048, broadcastInDim S128x3x2048 ![] bcast_S_S128x3x2048 (constant (F := Ideal) S_ .f32 0x00000000#32)⟩] concatenates_S128x1x2048_S128x3x2048_S128x4x2048_d1) shapeCasts_S128x4x2048_S512x2048 := by
  unfold V V0
  simp only [hostOps0, List.flatten_cons, List.flatten_nil, List.append_nil]
  after_results
  first | done | rfl

/-- The carried entries two tokens up, as the host lays them out. -/
theorem s2 (c : Dev nD) : V m c main_v6 = shapeCast S512x2048 (concatenate S128x4x2048 1 [⟨S128x2x2048, (m ((c.tc : Thread nD τ).loc main_arg1))⟩, ⟨S128x2x2048, extractStridedSlice S128x2x2048 ![0, 1, 0] (broadcastInDim S128x3x2048 ![] bcast_S_S128x3x2048 (constant (F := Ideal) S_ .f32 0x00000000#32)) slices_S128x3x2048_S128x2x2048_0_1_0⟩] concatenates_S128x2x2048_S128x2x2048_S128x4x2048_d1) shapeCasts_S128x4x2048_S512x2048 := by
  unfold V V0
  simp only [hostOps0, List.flatten_cons, List.flatten_nil, List.append_nil]
  after_results
  first | done | rfl

/-- The first array the host lays out: before a sample's first token its second carried entry. -/
theorem read4 (c : Dev nD) (t : Fin cfg0.N) (j : S512x512.Idx) (hj : (j 0).val % 4 = 0) :
    iblk m c 4 t j = sd (m ((c.tc : Thread nD τ).loc main_arg1)) ((j 0).val / 4) 1 (t.val * 512 + (j 1).val) := by
  have ht := lt4 t; have h0 : (j 0).val < 512 := (j 0).isLt; have h1 : (j 1).val < 512 := (j 1).isLt
  rw [blk4 m c t j (by omega), s1]
  pointwise
  simp only [sd_at (m ((c.tc : Thread nD τ).loc main_arg1))]
  rw [dif_pos (by omega), show 1 + (j 0).val % 4 = 1 by omega]

/-- The second array the host lays out: beside a sample's first two tokens its two carried entries. -/
theorem read5 (c : Dev nD) (t : Fin cfg0.N) (j : S512x512.Idx) (hj : (j 0).val % 4 < 2) :
    iblk m c 5 t j = sd (m ((c.tc : Thread nD τ).loc main_arg1)) ((j 0).val / 4) ((j 0).val % 4) (t.val * 512 + (j 1).val) := by
  have ht := lt4 t; have h0 : (j 0).val < 512 := (j 0).isLt; have h1 : (j 1).val < 512 := (j 1).isLt
  rw [blk5 m c t j (by omega), s2]
  pointwise
  simp only [sd_at (m ((c.tc : Thread nD τ).loc main_arg1))]
  rw [dif_pos (by omega)]

theorem read6 (c : Dev nD) (t : Fin cfg0.N) (p : Fin 3) (q : Fin 512) (h : t.val * 512 + q.val < 2048) :
    iblk m c 6 t (ix2 p q) = (m ((c.tc : Thread nD τ).loc main_arg2)) (ix2 p ⟨t.val * 512 + q.val, h⟩) := by
  rw [← V_main_arg2 m c]
  blk_point [iblk, idx t]

/-- The row's place within its sample, as the body counts it. -/
theorem row4 (y : S512x512.Idx) : k0_pay3 y = BitVec.ofNat 32 ((y 0).val % 4) := by
  have all : ∀ a : Fin 512, k0_pay3 (ix2 a 0) = BitVec.ofNat 32 (a.val % 4) := by
    intro a
    pointwise [k0_pay3]
    revert a
    decide +kernel
  exact all (y 0)

/-- A choice by the body's row counter is a choice by the row's place within its sample. -/
theorem pick1 (y : S512x512.Idx) (u v : EReal) :
    Scalar.select (IntOp.cmpi CmpIPredicate.sge (k0_pay3 y) 1#32) u v = if 1 ≤ (y 0).val % 4 then u else v := by
  rw [row4 y]
  have h := Nat.mod_lt (y 0).val (show 4 > 0 by decide)
  unfold Scalar.select IntOp.cmpi
  generalize (y 0).val % 4 = a at h
  interval_cases a <;> rfl

theorem pick2 (y : S512x512.Idx) (u v : EReal) :
    Scalar.select (IntOp.cmpi CmpIPredicate.sge (k0_pay3 y) 2#32) u v = if 2 ≤ (y 0).val % 4 then u else v := by
  rw [row4 y]
  have h := Nat.mod_lt (y 0).val (show 4 > 0 by decide)
  unfold Scalar.select IntOp.cmpi
  generalize (y 0).val % 4 = a at h
  interval_cases a <;> rfl

theorem emb7 (t : Fin cfg0.N) (y : S512x512.Idx) : ((((View.whole main_v7_0).slice (win0_7.rect t)).emb y 0 : Fin _) : ℕ) = (y 0).val
    ∧ ((((View.whole main_v7_0).slice (win0_7.rect t)).emb y 1 : Fin _) : ℕ) = t.val * 512 + (y 1).val := by
  constructor <;> blk_simp [idx t]

/-- Two tokens up: within the sample a product, before it a carried entry. -/
theorem two_up (R : ℕ → EReal) (x s : EReal) (a : ℕ) (ha : a < 512) (hx : a % 4 < 2 → x = s) :
    (if 2 ≤ a % 4 then R ((a + 512 - 2) % 512) else x) = if a % 4 < 2 then s else R (a / 4 * 4 + (a % 4 - 2)) := by
  by_cases h : a % 4 < 2
  · rw [if_neg (by omega), if_pos h, hx h]
  · rw [if_pos (by omega), if_neg h, show (a + 512 - 2) % 512 = a / 4 * 4 + (a % 4 - 2) by omega]

/-- The same one token up. -/
theorem one_up (R S : ℕ → EReal) (x : EReal) (a : ℕ) (ha : a < 512) (hx : a % 4 = 0 → x = S 1) :
    (if 1 ≤ a % 4 then R ((a + 512 - 1) % 512) else x) = if 1 + a % 4 < 2 then S (1 + a % 4) else R (a / 4 * 4 + (1 + a % 4 - 2)) := by
  by_cases h : 1 + a % 4 < 2
  · rw [if_neg (by omega), if_pos h, hx (by omega), show 1 + a % 4 = 1 by omega]
  · rw [if_pos (by omega), if_neg h, show (a + 512 - 1) % 512 = a / 4 * 4 + (1 + a % 4 - 2) by omega]

set_option maxHeartbeats 1000000 in
/-- At a grid point the body's gated convolution of its blocks is the reference's, at that block's place. -/
theorem point7 (c : Dev nD) (t : Fin cfg0.N) (y : S512x512.Idx) :
    k0_pay1 (k0_pay2 (iblk m c 1 t) (iblk m c 2 t)) (k0_pay4 (iblk m c 1 t) (iblk m c 2 t) (iblk m c 4 t))
      (k0_pay5 (iblk m c 1 t) (iblk m c 2 t) (iblk m c 5 t) (View.ld (iblk m c 6 t) r0_1))
      (k0_pay6 (View.ld (iblk m c 6 t) r0_2)) (View.ld (iblk m c 6 t) r0_3) (iblk m c 3 t) (iblk m c 0 t) y
      = REF (m ((c.tc : Thread nD τ).loc main_arg0)) (m ((c.tc : Thread nD τ).loc main_arg1)) (m ((c.tc : Thread nD τ).loc main_arg2)) (((View.whole main_v7_0).slice (win0_7.rect t)).emb y) := by
  have ht := lt4 t
  have h0 : (y 0).val < 512 := (y 0).isLt
  have h1 : (y 1).val < 512 := (y 1).isLt
  have hc : t.val * 512 + (y 1).val < 2048 := by omega
  have e : ((View.whole main_v7_0).slice (win0_7.rect t)).emb y
      = ix2 ⟨(y 0).val, h0⟩ ⟨t.val * 512 + (y 1).val, hc⟩ := by
    funext a; refine Fin.ext ?_; fin_cases a
    · exact (emb7 t y).1
    · exact (emb7 t y).2
  rw [e]
  pointwise [k0_pay1, k0_pay2, k0_pay4, k0_pay5, k0_pay6, REF]
  simp only [pick2 y, pick1 y]
  have ry : ∀ q : Fin 18432, (m ((c.tc : Thread nD τ).loc main_arg0)) (ix2 (y 0) q) = rd (m ((c.tc : Thread nD τ).loc main_arg0)) (y 0).val q := fun q => rd_at _ _ q
  simp only [read0, read1, read2, read3, read6 m c t _ (y 1) hc, Ideal.logistic, ry, rd_at (m ((c.tc : Thread nD τ).loc main_arg0)), sd_at (m ((c.tc : Thread nD τ).loc main_arg1)), ix2_0, ix2_1]
  refine congrArg₂ (· * ·) (congrArg₂ (· * ·) rfl (congrArg₂ (· + ·)
    (congrArg₂ (· + ·) (congrArg₂ (· * ·) rfl ?_) (congrArg₂ (· * ·) rfl ?_)) rfl)) rfl
  · exact two_up (fun r => rd (m ((c.tc : Thread nD τ).loc main_arg0)) r (4096 + (t.val * 512 + (y 1).val)) * rd (m ((c.tc : Thread nD τ).loc main_arg0)) r (6144 + (t.val * 512 + (y 1).val))) _ _ _ h0 (read5 m c t y)
  · exact one_up (fun r => rd (m ((c.tc : Thread nD τ).loc main_arg0)) r (4096 + (t.val * 512 + (y 1).val)) * rd (m ((c.tc : Thread nD τ).loc main_arg0)) r (6144 + (t.val * 512 + (y 1).val))) (sd (m ((c.tc : Thread nD τ).loc main_arg1)) ((y 0).val / 4) · (t.val * 512 + (y 1).val)) _ _ h0 (read4 m c t y)

/-- The first result holds the reference's gated convolution when the call ends. -/
theorem final7 (c : Dev nD) : (dats m 0 c).arrAt 7 (cfgs 0).N = REF (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  blk_simp
  rw [after0_7]
  unfold_out out0_7
  frame_out
  exact point7 m c t y

/-- The products, row by row. -/
def PROD (X : FVec Ideal S512x18432 .f32) : FVec Ideal S512x2048 .f32 := fun j =>
  rd X (j 0).val (4096 + (j 1).val) * rd X (j 0).val (6144 + (j 1).val)

theorem emb8 (t : Fin cfg0.N) (y : S512x512.Idx) : ((((View.whole main_v7_1).slice (win0_8.rect t)).emb y 0 : Fin _) : ℕ) = (y 0).val
    ∧ ((((View.whole main_v7_1).slice (win0_8.rect t)).emb y 1 : Fin _) : ℕ) = t.val * 512 + (y 1).val := by
  constructor <;> blk_simp [idx t]

/-- At a grid point the body leaves its block of the products. -/
theorem point8 (c : Dev nD) (t : Fin cfg0.N) (y : S512x512.Idx) :
    k0_pay2 (iblk m c 1 t) (iblk m c 2 t) y = PROD (m ((c.tc : Thread nD τ).loc main_arg0)) (((View.whole main_v7_1).slice (win0_8.rect t)).emb y) := by
  unfold PROD
  rw [(emb8 t y).1, (emb8 t y).2]
  pointwise [k0_pay2]
  simp only [read1, read2]

theorem final8 (c : Dev nD) : (dats m 0 c).arrAt 8 (cfgs 0).N = PROD (m ((c.tc : Thread nD τ).loc main_arg0)) := by
  refine (dats m 0 c).arrAt_eq_of_covers 8 _ (by decide +kernel) fun t _ y => ?_
  blk_simp
  rw [after0_8]
  unfold_out out0_8
  frame_out
  exact point8 m c t y

/-- The last two tokens of each sample of an array. -/
abbrev tail2 (U : FVec Ideal S512x2048 .f32) : FVec Ideal S128x2x2048 .f32 :=
  extractStridedSlice S128x2x2048 ![0, 2, 0] (shapeCast S128x4x2048 U shapeCasts_S512x2048_S128x4x2048) slices_S128x4x2048_S128x2x2048_0_2_0

/-- The host's reshape and slice after the call read the call's second result. -/
theorem after_slice (c : Dev nD) : Pipeline.afterTail₀ cfgs (dats m) 0 (V0 m) [hostOps1] c main_v9
    = tail2 ((dats m 0 c).arrAt 8 (cfgs 0).N) := by
  unfold Pipeline.afterTail₀
  simp only [hostOps1, List.flatten_cons, List.flatten_nil, List.append_nil]
  after_results
  exact congrArg tail2 ((dats m 0 c).withArrays_arrAt sharedIn0 (V0 m c) (A_eq m c) 8)

/-- The last two tokens' products are the reference's states. -/
theorem state_eq (X : FVec Ideal S512x18432 .f32) (S : FVec Ideal S128x2x2048 .f32) : tail2 (PROD X) = STATE X S := by
  funext j
  have h0 : (j 0).val < 128 := (j 0).isLt
  have h1 : (j 1).val < 2 := (j 1).isLt
  pointwise [STATE, PROD, tail2]
  simp only [rd_at X, ix2_0, ix2_1]
  rw [dif_neg (by omega), show 4 + (j 1).val - 2 = 2 + (j 1).val by omega]

/-- What the two results hold when the program ends, its arguments unchanged. -/
theorem run_results : θ_run defs (onTc (τ := τ) (main (F := Ideal))) ⟨m, fun _ => 0, ρ⟩ fun r => ∀ c : Dev nD,
      r.2.mem ((c.tc : Thread nD τ).loc main_v7_0) = REF (m ((c.tc : Thread nD τ).loc main_arg0)) (m ((c.tc : Thread nD τ).loc main_arg1)) (m ((c.tc : Thread nD τ).loc main_arg2))
      ∧ r.2.mem ((c.tc : Thread nD τ).loc main_v9) = STATE (m ((c.tc : Thread nD τ).loc main_arg0)) (m ((c.tc : Thread nD τ).loc main_arg1))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) :=
  (θ_run defs _ _).mono (fun _ h c => ⟨((h.1 c).1 7).trans (final7 m c),
      ((h.1 c).2 main_v9 (Pipeline.mem_restRefs_of main_v9 (by decide) (by decide))).trans
        ((after_slice m c).trans ((congrArg tail2 (final8 m c)).trans (state_eq _ _))),
      h.2 c⟩)
    (θ_run_and (run_main m ρ) (unchanged m ρ))

end Cert.ConvSampleIdeal.Value

namespace Cert.ConvSampleClaims

open Idealize.ShloMosaic Idealize.SL.Sem

/-- The sample convolution: the reference runs to its end, its arguments unchanged; it declares no semaphore. -/
theorem reference_frame : Cert.quiescent_ConvSampleReferenceIdeal := fun m g _ =>
  (θ_run Cert.ConvSampleReferenceIdeal.defs _ _).mono (fun r h => ⟨fun c => (h c).2.2, sem_eq_zero_of_no_sems (by decide) r.2⟩)
    (Cert.ConvSampleReferenceIdeal.Value.run (F := Ideal) m g)

/-- The sample convolution: the results and the reference's are the same arrays over the extended reals. -/
theorem equal : Cert.algebraic_ConvSampleIdeal_ConvSampleReferenceIdeal := fun m g m' g' _ hargs =>
  ⟨fun c => Cert.ConvSampleReferenceIdeal.Value.REF (m ((c.tc : Thread Cert.ConvSampleIdeal.nD Cert.ConvSampleIdeal.τ).loc Cert.ConvSampleIdeal.main_arg0)) (m ((c.tc : Thread Cert.ConvSampleIdeal.nD Cert.ConvSampleIdeal.τ).loc Cert.ConvSampleIdeal.main_arg1)) (m ((c.tc : Thread Cert.ConvSampleIdeal.nD Cert.ConvSampleIdeal.τ).loc Cert.ConvSampleIdeal.main_arg2)),
    fun c => Cert.ConvSampleReferenceIdeal.Value.STATE (m ((c.tc : Thread Cert.ConvSampleIdeal.nD Cert.ConvSampleIdeal.τ).loc Cert.ConvSampleIdeal.main_arg0)) (m ((c.tc : Thread Cert.ConvSampleIdeal.nD Cert.ConvSampleIdeal.τ).loc Cert.ConvSampleIdeal.main_arg1)),
    Cert.ConvSampleIdeal.Value.run_results m g,
    (θ_run Cert.ConvSampleReferenceIdeal.defs _ _).mono
      (fun _ h c => ⟨(h c).1.trans (by rw [(hargs c).1, (hargs c).2.1, (hargs c).2.2]), (h c).2.1.trans (by rw [(hargs c).1, (hargs c).2.1]), (h c).2.2⟩)
      (Cert.ConvSampleReferenceIdeal.Value.run (F := Ideal) m' g')⟩

end Cert.ConvSampleClaims

end
-- ==== Proof.OutPromptTile.lean ====
/- The prompt's output projection: what the body writes into its block of rows. -/
module

public import proofs.«01_k».proof.Proof.Gen.OutPromptIdeal.Frame
public import proofs.«01_k».proof.Proof.Gen.OutPromptIdeal.Loops
public import Idealize.ShloMosaic.Lib.WritesUnit
public import Idealize.ShloMosaic.Lib.Pipeline.ValueKit
public import Idealize.ShloMosaic.Lib.WholeRead

@[expose] public section

set_option maxRecDepth 16384

noncomputable section

namespace Cert.OutPromptIdeal.Hand

open Cert.OutPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A tile of columns, and the rows normalised -/

/-- The block with the 1024 columns of tile `j` replaced by `w`. -/
def putTile (j : ℕ) (w : Vec F S512x1024 .f32) (Y : Vec F S512x4096 .f32) : Vec F S512x4096 .f32 := fun y =>
  if h : 1024 * j ≤ (y 1).val ∧ (y 1).val < 1024 * j + 1024 then w (ix2 (y 0) ⟨(y 1).val - 1024 * j, by omega⟩) else Y y

/-- The 64 rows of the block from row `64 k` on. -/
def rowsOf (k : ℕ) (hk : k < 8) (Y : Vec F S512x4096 .f32) : Vec F S64x4096 .f32 := fun x =>
  Y (ix2 ⟨64 * k + (x 0).val, by have := (x 0).isLt; change _ < 64 at this; change _ < 512; omega⟩ (x 1))

/-- The block with every row normalised, 64 rows at a time. -/
def normed (g : Vec F S1x4096 .f32) (Y : Vec F S512x4096 .f32) : Vec F S512x4096 .f32 := fun y =>
  k0_pay2 (rowsOf ((y 0).val / 64) (by have := (y 0).isLt; change _ < 512 at this; omega) Y) g
    (ix2 ⟨(y 0).val % 64, Nat.mod_lt _ (by omega)⟩ (y 1))

/-- Where the loop's trip reads and writes: rows `64 k`. -/
theorem off_eq (k : Fin k0_t1_loop.trips) : k0_off1 k = ![64 * k.val, 0] := by
  have h_c0 : Affine.IsInt 0#32 (0) := Affine.ofNat _ (by omega)
  have h_c1 : Affine.IsInt 1#32 (1) := Affine.ofNat _ (by omega)
  have r : k.val < 8 := Nat.lt_of_lt_of_le k.isLt k0_t1_abs.2.1
  have h7 : Affine.IsInt _ ((k.val : Int)) := Affine.iv h_c0 h_c1 k.val (by omega)
  have h64 : Affine.IsInt 64#32 (64) := Affine.ofNat _ (by omega)
  have h21 : Affine.IsInt _ (64 * (k.val : Int)) := Affine.muli h7 h64 (by omega)
  have h23 := Affine.indexCast h21
  unfold k0_off1
  rw [← Affine.nat_eq h23 (64 * k.val) (by push_cast; rfl)]

/-- The loop runs eight trips. -/
theorem trips_eq : k0_t1_loop.trips = 8 := by decide

/-! ## The row loop -/

section Loop

variable (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (h5 : k0_cond5 i = 1#1)
variable (g : Vec F S1x4096 .f32)

/-- What one trip writes: its 64 rows, normalised. -/
theorem tripL_eq (k : Fin k0_t1_loop.trips) (f : BufTy.Contents (Elt F) arg6.view.ty) :
    tripL_k0_t1 (F := F) Variants.none c none i arg2 harg2 arg3 harg3 arg4 harg4 arg5 harg5 arg6 harg6 h5 (harg5.unread g) k f
      = [⟨Rect.unit (s := S512x4096) (k0_off1 k) S64x4096.size (k0_off1_inb i k h5),
          k0_pay2 (arg6.view.readAt (Elt F) (Rect.unit (s := S512x4096) (k0_off1 k) S64x4096.size (k0_off1_inb i k h5)).toLoadRect f)
            (arg5.view.readAt (Elt F) (Rect.unit (s := S1x4096) ![0, 0] S1x4096.size inb_S1x4096_S1x4096_0_0).toLoadRect (harg5.unread g))⟩] := by
  unfold tripL_k0_t1 trip_k0_t1
  rfl

/-- The rows a trip reads are those of the block, when the earlier trips left them alone. -/
theorem readAt_rows (k : Fin k0_t1_loop.trips) (hk : k.val < 8) (Y : Vec F S512x4096 .f32) (f : BufTy.Contents (Elt F) arg6.view.ty)
    (hf : ∀ y : S512x4096.Idx, 64 * k.val ≤ (y 0).val → arg6.view.read (Elt F) f y = Y y) :
    arg6.view.readAt (Elt F) (Rect.unit (s := S512x4096) (k0_off1 k) S64x4096.size (k0_off1_inb i k h5)).toLoadRect f = rowsOf k.val hk Y := by
  have o0 : k0_off1 k (0 : Fin 2) = 64 * k.val := by rw [off_eq]; rfl
  have o1 : k0_off1 k (1 : Fin 2) = 0 := by rw [off_eq]; rfl
  have e : ∀ x : S64x4096.Idx, (Rect.unit (s := S512x4096) (k0_off1 k) S64x4096.size (k0_off1_inb i k h5)).toLoadRect.idx x
      = ix2 (⟨64 * k.val + (x 0).val, by have := (x 0).isLt; change _ < 64 at this; change _ < 512; omega⟩ : Fin 512) (x 1) := fun x => by
    funext a; apply Fin.ext
    match a with
    | ⟨0, _⟩ => show k0_off1 k (0 : Fin 2) + 1 * (x 0).val = 64 * k.val + (x 0).val; rw [o0]; omega
    | ⟨1, _⟩ => show k0_off1 k (1 : Fin 2) + 1 * (x 1).val = (x 1).val; rw [o1]; omega
  funext x
  exact (congrArg (arg6.view.read (Elt F) f) (e x)).trans (hf _ (Nat.le_add_right _ _))

/-- The gain's buffer read whole. -/
theorem readAt_gain :
    arg5.view.readAt (Elt F) (Rect.unit (s := S1x4096) ![0, 0] S1x4096.size inb_S1x4096_S1x4096_0_0).toLoadRect (harg5.unread g) = g := by
  funext x
  rw [harg5.readAt_unread g]
  congr 1
  funext a; apply Fin.ext
  match a with
  | ⟨0, _⟩ => show 0 + 1 * (x 0).val = (x 0).val; omega
  | ⟨1, _⟩ => show 0 + 1 * (x 1).val = (x 1).val; omega

/-- After `n` trips the first `64 n` rows are normalised and the others are as the loop found them. -/
theorem read_trips (Y : Vec F S512x4096 .f32) (G : BufTy.Contents (Elt F) arg6.view.ty) (hG : arg6.view.read (Elt F) G = Y) (n : ℕ) (hn : n ≤ 8)
    (y : S512x4096.Idx) :
    arg6.view.read (Elt F) (arg6.view.writes (Elt F) G
        (pb_k0_t1 (F := F) Variants.none c none i arg2 harg2 arg3 harg3 arg4 harg4 arg5 harg5 arg6 harg6 h5 (harg5.unread g) G n)) y
      = if (y 0).val < 64 * n then normed g Y y else Y y := by
  induction n generalizing y with
  | zero => rw [if_neg (by omega), pb_k0_t1.eq_1, ← hG]; rfl
  | succ n ih =>
    have hk : n < k0_t1_loop.trips := by rw [trips_eq]; omega
    have s := pb_k0_t1_succ (F := F) Variants.none c none i arg2 harg2 arg3 harg3 arg4 harg4 arg5 harg5 arg6 harg6 h5 (harg5.unread g) G ⟨n, hk⟩
    simp only at s
    rw [s, tripL_eq, List.singleton_append]
    rw [View.read_writes_cons_rows (d := S512x4096.size) arg6.view G (o := 64 * n) (W := 64) (k0_off1_inb i ⟨n, hk⟩ h5) _ _ y (off_eq ⟨n, hk⟩) rfl rfl]
    by_cases h : 64 * n ≤ (y 0).val ∧ (y 0).val < 64 * n + 64
    · rw [dif_pos h, if_pos (by omega)]
      rw [readAt_gain, readAt_rows i arg6 h5 ⟨n, hk⟩ (show n < 8 by omega) Y _ fun y' hy' => by rw [ih (by omega) y', if_neg (by change 64 * n ≤ _ at hy'; omega)]]
      have e : n = (y 0).val / 64 := by omega
      unfold normed
      subst e
      congr 1
      funext a; apply Fin.ext
      match a with
      | ⟨0, _⟩ => show (y 0).val - 64 * ((y 0).val / 64) = (y 0).val % 64; omega
      | ⟨1, _⟩ => show (y 1).val - 0 = (y 1).val; omega
    · rw [dif_neg h, ih (by omega) y]
      by_cases h' : (y 0).val < 64 * n
      · rw [if_pos h', if_pos (by omega)]
      · rw [if_neg h', if_neg (by omega)]

/-- After the whole loop every row is normalised. -/
theorem read_loop (Y : Vec F S512x4096 .f32) (G : BufTy.Contents (Elt F) arg6.view.ty) (hG : arg6.view.read (Elt F) G = Y) :
    arg6.view.read (Elt F) (arg6.view.writes (Elt F) G
        (pb_k0_t1 (F := F) Variants.none c none i arg2 harg2 arg3 harg3 arg4 harg4 arg5 harg5 arg6 harg6 h5 (harg5.unread g) G k0_t1_loop.trips)) = normed g Y := by
  funext y
  rw [trips_eq, read_trips c i arg2 harg2 arg3 harg3 arg4 harg4 arg5 harg5 arg6 harg6 h5 g Y G hG 8 (le_refl 8) y, if_pos (by have := (y 0).isLt; change _ < 512 at this; omega)]

end Loop

end Cert.OutPromptIdeal.Hand

end
-- ==== Proof.OutPromptBody.lean ====
/- The prompt's output projection: the body at one point. -/
module

public import proofs.«01_k».proof.Proof.OutPromptTile

@[expose] public section

set_option maxRecDepth 16384

noncomputable section

namespace Cert.OutPromptIdeal.Hand

open Cert.OutPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer read whole. -/
theorem readAt_all {s : Shape} {e : EltTy} (M : Memref sig .tc .vmem s e) (h : M.IsWhole) (X : Vec F s e) (off : Fin s.rank → ℕ)
    (inb : ∀ a, off a + s.size a ≤ s.size a) :
    M.view.readAt (Elt F) (Rect.unit (s := s) off s.size inb).toLoadRect (h.unread X) = X := by
  funext x
  rw [h.readAt_unread X]
  congr 1
  funext a; apply Fin.ext
  show off a + 1 * (x a).val = (x a).val
  have := inb a
  omega

/-- One store of 1024 columns replaces those columns. -/
theorem read_put (M : Memref sig .tc .vmem S512x4096 .f32) (f : M.view.ty.Contents (Elt F)) (j : ℕ) (off : Fin 2 → ℕ)
    (inb : ∀ a, off a + S512x1024.size a ≤ S512x4096.size a) (hoff : off = ![0, 1024 * j]) (w : Vec F S512x1024 .f32) :
    M.view.read (Elt F) (M.view.writes (Elt F) f [⟨Rect.unit (s := S512x4096) off S512x1024.size inb, w⟩])
      = putTile j w (M.view.read (Elt F) f) := by
  funext y
  unfold putTile
  have h0 := (y 0).isLt
  change _ < 512 at h0
  by_cases h : 1024 * j ≤ (y 1).val ∧ (y 1).val < 1024 * j + 1024
  · rw [dif_pos h]
    exact View.read_writes_cons_unit_of_mem M.view f inb w [] y _ hoff (Fin.forall_fin_two.mpr
      ⟨(Nat.zero_add _).symm, by show (y 1).val = 1024 * j + ((y 1).val - 1024 * j); omega⟩)
  · rw [dif_neg h]
    exact View.read_writes_cons_unit_of_not_mem M.view f inb w [] y hoff (1 : Fin 2)
      (by show (y 1).val < 1024 * j ∨ 1024 * j + 1024 ≤ (y 1).val; omega)

/-- The body at a point: the inputs stay, and the block of rows goes from `Y` to `X`. -/
def RunAt (c : Dev nD) (i : grid0.Coords) (X : Vec F S512x4096 .bf16 → Vec F S4096x1024 .bf16 → Vec F S512x1024 .f32 → Vec F S1x4096 .f32 →
    Vec F S512x4096 .f32 → Vec F S512x4096 .f32) : Prop :=
  ∀ (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole)
    (x0 : Vec F S512x4096 .bf16) (x1 : Vec F S4096x1024 .bf16) (x2 : Vec F S512x1024 .f32) (x3 : Vec F S1x4096 .f32) (Y : Vec F S512x4096 .f32)
    (E : Set ℕ) (K : PUnit → sProp 𝕄),
    iprop((arg2.view.loc c ↦[arg2.view.set]{fullShare} harg2.unread x0) ∗ (arg3.view.loc c ↦[arg3.view.set]{fullShare} harg3.unread x1)
        ∗ (arg4.view.loc c ↦[arg4.view.set]{fullShare} harg4.unread x2) ∗ (arg5.view.loc c ↦[arg5.view.set]{fullShare} harg5.unread x3)
        ∗ (arg6.view.loc c ↦[arg6.view.set]{fullShare} harg6.unread Y)
        ∗ (iprop((arg2.view.loc c ↦[arg2.view.set]{fullShare} harg2.unread x0) ∗ (arg3.view.loc c ↦[arg3.view.set]{fullShare} harg3.unread x1)
        ∗ (arg4.view.loc c ↦[arg4.view.set]{fullShare} harg4.unread x2) ∗ (arg5.view.loc c ↦[arg5.view.set]{fullShare} harg5.unread x3)
        ∗ owns (c : Thread nD τ) arg6 fullShare (X x0 x1 x2 x3 Y)) -∗ K ⟨⟩))
      ⊢ wp frame (wpE (defs₀ (F := F)) Variants.none c none) E (cc0_out_proj i arg2 harg2 arg3 harg3 arg4 harg4 arg5 harg5 arg6 harg6) K

set_option maxHeartbeats 8000000 in
/-- The first of a row block's four points. -/
theorem run_first (c : Dev nD) (i : grid0.Coords) (h1 : k0_cond1 i = 1#1) (h2 : ¬ k0_cond2 i = 1#1) (h3 : ¬ k0_cond3 i = 1#1) (h4 : ¬ k0_cond4 i = 1#1) (h5 : ¬ k0_cond5 i = 1#1) :
    RunAt (F := F) c i (fun x0 x1 x2 _ Y => putTile 0 (k0_pay1 x2 x0 x1) Y) := by
  unfold RunAt
  intro arg2 harg2 arg3 harg3 arg4 harg4 arg5 harg5 arg6 harg6 x0 x1 x2 x3 Y E K
  simp only [cc0_out_proj_eq_skeleton]; unfold cc0_out_proj_skel
  simp only [owns]
  iintro ⟨H2, H3, H4, H5, H6, Hk⟩
  sl_exec (disch := first | sl_exact h1 | sl_exact h2 | sl_exact h3 | sl_exact h4 | sl_exact h5)
  sl_step
  iapply Hk
  isplitl [H2]; · iexact H2
  isplitl [H3]; · iexact H3
  isplitl [H4]; · iexact H4
  isplitl [H5]; · iexact H5
  iexists _; isplitr; swap; · iexact H6
  ipureintro
  rw [read_put arg6 _ 0 _ _ rfl, harg6.read_unread, readAt_all, readAt_all, readAt_all]

set_option maxHeartbeats 8000000 in
/-- The second of a row block's four points. -/
theorem run_second (c : Dev nD) (i : grid0.Coords) (h1 : ¬ k0_cond1 i = 1#1) (h2 : k0_cond2 i = 1#1) (h3 : ¬ k0_cond3 i = 1#1) (h4 : ¬ k0_cond4 i = 1#1) (h5 : ¬ k0_cond5 i = 1#1) :
    RunAt (F := F) c i (fun x0 x1 x2 _ Y => putTile 1 (k0_pay1 x2 x0 x1) Y) := by
  unfold RunAt
  intro arg2 harg2 arg3 harg3 arg4 harg4 arg5 harg5 arg6 harg6 x0 x1 x2 x3 Y E K
  simp only [cc0_out_proj_eq_skeleton]; unfold cc0_out_proj_skel
  simp only [owns]
  iintro ⟨H2, H3, H4, H5, H6, Hk⟩
  sl_exec (disch := first | sl_exact h1 | sl_exact h2 | sl_exact h3 | sl_exact h4 | sl_exact h5)
  sl_step
  iapply Hk
  isplitl [H2]; · iexact H2
  isplitl [H3]; · iexact H3
  isplitl [H4]; · iexact H4
  isplitl [H5]; · iexact H5
  iexists _; isplitr; swap; · iexact H6
  ipureintro
  rw [read_put arg6 _ 1 _ _ rfl, harg6.read_unread, readAt_all, readAt_all, readAt_all]

set_option maxHeartbeats 8000000 in
/-- The third of a row block's four points. -/
theorem run_third (c : Dev nD) (i : grid0.Coords) (h1 : ¬ k0_cond1 i = 1#1) (h2 : ¬ k0_cond2 i = 1#1) (h3 : k0_cond3 i = 1#1) (h4 : ¬ k0_cond4 i = 1#1) (h5 : ¬ k0_cond5 i = 1#1) :
    RunAt (F := F) c i (fun x0 x1 x2 _ Y => putTile 2 (k0_pay1 x2 x0 x1) Y) := by
  unfold RunAt
  intro arg2 harg2 arg3 harg3 arg4 harg4 arg5 harg5 arg6 harg6 x0 x1 x2 x3 Y E K
  simp only [cc0_out_proj_eq_skeleton]; unfold cc0_out_proj_skel
  simp only [owns]
  iintro ⟨H2, H3, H4, H5, H6, Hk⟩
  sl_exec (disch := first | sl_exact h1 | sl_exact h2 | sl_exact h3 | sl_exact h4 | sl_exact h5)
  sl_step
  iapply Hk
  isplitl [H2]; · iexact H2
  isplitl [H3]; · iexact H3
  isplitl [H4]; · iexact H4
  isplitl [H5]; · iexact H5
  iexists _; isplitr; swap; · iexact H6
  ipureintro
  rw [read_put arg6 _ 2 _ _ rfl, harg6.read_unread, readAt_all, readAt_all, readAt_all]

set_option maxHeartbeats 8000000 in
/-- The last of a row block's four points. -/
theorem run_last (c : Dev nD) (i : grid0.Coords) (h1 : ¬ k0_cond1 i = 1#1) (h2 : ¬ k0_cond2 i = 1#1) (h3 : ¬ k0_cond3 i = 1#1) (h4 : k0_cond4 i = 1#1) (h5 : k0_cond5 i = 1#1) :
    RunAt (F := F) c i (fun x0 x1 x2 g Y => normed g (putTile 3 (k0_pay1 x2 x0 x1) Y)) := by
  unfold RunAt
  intro arg2 harg2 arg3 harg3 arg4 harg4 arg5 harg5 arg6 harg6 x0 x1 x2 x3 Y E K
  simp only [cc0_out_proj_eq_skeleton]; unfold cc0_out_proj_skel
  simp only [owns]
  iintro ⟨H2, H3, H4, H5, H6, Hk⟩
  sl_exec (disch := first | sl_exact h1 | sl_exact h2 | sl_exact h3 | sl_exact h4 | sl_exact h5)
  sl_step
  iapply Hk
  isplitl [H2]; · iexact H2
  isplitl [H3]; · iexact H3
  isplitl [H4]; · iexact H4
  isplitl [H5]; · iexact H5
  iexists _; isplitr; swap; · iexact H6
  ipureintro
  rw [View.writes_append]
  refine read_loop c i arg2 harg2 arg3 harg3 arg4 harg4 arg5 harg5 arg6 harg6 h5 x3 _ _ ?_
  rw [read_put arg6 _ 3 _ _ rfl, harg6.read_unread, readAt_all, readAt_all, readAt_all]

end Cert.OutPromptIdeal.Hand

end
-- ==== Proof.OutPromptFrame.lean ====
/- The prompt's output projection: what the pipeline leaves, point by point, and the frame. -/
module

public import proofs.«01_k».proof.Proof.OutPromptBody
public import Idealize.ShloMosaic.Lib.Pipeline.DatRel
public import Idealize.ShloMosaic.Lib.Pipeline.ArrRel
public import Idealize.ShloMosaic.Lib.Claim

@[expose] public section

set_option maxRecDepth 16384

noncomputable section

namespace Cert.OutPromptIdeal.Hand

open Cert.OutPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of the arguments, and the projected rows -/

/-- The block of the merged rows at a point. -/
abbrev mergedAt (c : Dev nD) (t : Fin cfg0.N) : Vec F S512x4096 .bf16 := iblk m c 0 t
/-- The block of the matrix at a point. -/
abbrev weightAt (c : Dev nD) (t : Fin cfg0.N) : Vec F S4096x1024 .bf16 := iblk m c 1 t
/-- The block of the layer's input at a point. -/
abbrev inputAt (c : Dev nD) (t : Fin cfg0.N) : Vec F S512x1024 .f32 := iblk m c 2 t
/-- The gain at a point. -/
abbrev gainAt (c : Dev nD) (t : Fin cfg0.N) : Vec F S1x4096 .f32 := iblk m c 3 t

/-- The point of a number. -/
def ptOf (n : ℕ) : Fin cfg0.N := ⟨n % 64, Nat.mod_lt _ (by omega)⟩

/-- A block of rows before it is normalised: the columns of each tile as that tile's point projects them. -/
def zrow (c : Dev nD) (r : ℕ) : Vec F S512x4096 .f32 := fun y =>
  k0_pay1 (inputAt m c (ptOf (4 * r + (y 1).val / 1024))) (mergedAt m c (ptOf (4 * r + (y 1).val / 1024)))
    (weightAt m c (ptOf (4 * r + (y 1).val / 1024))) (ix2 (y 0) ⟨(y 1).val % 1024, Nat.mod_lt _ (by omega)⟩)

/-- What the result's block holds after point `t`: the tiles so far, and after a row block's last point its rows normalised. -/
def Done (c : Dev nD) (t : Fin cfg0.N) (X : Vec F S512x4096 .f32) : Prop :=
  if t.val % 4 = 3 then X = normed (gainAt m c t) (zrow m c (t.val / 4))
  else ∀ y, (y 1).val < 1024 * (t.val % 4 + 1) → X y = zrow m c (t.val / 4) y

/-- One tile more. -/
theorem put_zrow (c : Dev nD) (t : Fin cfg0.N) (j : ℕ) (hj : t.val % 4 = j) (Y : Vec F S512x4096 .f32)
    (hY : ∀ y, (y 1).val < 1024 * j → Y y = zrow m c (t.val / 4) y) (y : S512x4096.Idx) (hy : (y 1).val < 1024 * (j + 1)) :
    putTile j (k0_pay1 (inputAt m c t) (mergedAt m c t) (weightAt m c t)) Y y = zrow m c (t.val / 4) y := by
  unfold putTile
  by_cases h : 1024 * j ≤ (y 1).val ∧ (y 1).val < 1024 * j + 1024
  · rw [dif_pos h]
    unfold zrow
    have ht : t.val < 64 := t.isLt
    have e : ptOf (4 * (t.val / 4) + (y 1).val / 1024) = t := Fin.ext (by show (4 * (t.val / 4) + (y 1).val / 1024) % 64 = t.val; omega)
    rw [e]
    congr 1
    have e2 : (y 1).val - 1024 * j = (y 1).val % 1024 := by omega
    simp only [e2]
  · rw [dif_neg h]
    exact hY y (by omega)

/-! ## The proof data -/

/-- The pipeline on core `c`: the arrays as the call finds them, each input's block left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨_ + 5, h⟩ => absurd h (Nat.not_lt.2 (Nat.le_add_left _ _))
  Φ _ := Pipeline.ΦA spec0 c
  q _ := fullShare
  owed _ := 0

/-- The window whose contents are known by a predicate: the result's. -/
def byPred : Fin cfg0.W → Bool := fun w => w.val == 4

/-- That predicate. -/
def Rl (c : Dev nD) (w : Fin cfg0.W) (t : Fin cfg0.N) : ((cfg0.win w).block.Idx → Elt F (cfg0.win w).elt) → Prop :=
  match w with
  | ⟨4, _⟩ => fun X => Done m c t X
  | _ => fun _ => True

/-- The proof data, the result's window known by the predicate. -/
abbrev rdat (c : Dev nD) := (dats m 0 c).toRRel byPred (Rl m c)

/-- The arrays are those the call finds. -/
theorem A_eq (c : Dev nD) (w : Fin cfg0.W) : (dats m 0 c).A w = V m c (Pipeline.arrRef spec0 w) := by
  dsimp only [dats]

/-- Input 0's buffer holds its block at every point. -/
theorem before0 (c : Dev nD) (t : Fin cfg0.N) (d) : (dats m 0 c).before 0 t d = iblk m c 0 t :=
  before0_0_of m (dats m 0 c) (A_eq m c 0) (fun _ => rfl) t d
/-- Input 1's buffer holds its block at every point. -/
theorem before1 (c : Dev nD) (t : Fin cfg0.N) (d) : (dats m 0 c).before 1 t d = iblk m c 1 t :=
  before0_1_of m (dats m 0 c) (A_eq m c 1) (fun _ => rfl) t d
/-- Input 2's buffer holds its block at every point. -/
theorem before2 (c : Dev nD) (t : Fin cfg0.N) (d) : (dats m 0 c).before 2 t d = iblk m c 2 t :=
  before0_2_of m (dats m 0 c) (A_eq m c 2) (fun _ => rfl) t d
/-- Input 3's buffer holds its block at every point. -/
theorem before3 (c : Dev nD) (t : Fin cfg0.N) (d) : (dats m 0 c).before 3 t d = iblk m c 3 t :=
  before0_3_of m (dats m 0 c) (A_eq m c 3) (fun _ => rfl) t d

/-- What a point that is not its row block's first finds in the result's buffer: what the point before left there. -/
theorem found (c : Dev nD) (t : Fin cfg0.N) (Y : Vec F S512x4096 .f32) (hF : (rdat m c).Finds 4 t Y) (h : t.val % 4 ≠ 0) (y : S512x4096.Idx)
    (hy : (y 1).val < 1024 * (t.val % 4)) : Y y = zrow m c (t.val / 4) y := by
  have ht : t.val ≠ 0 := by omega
  rcases ((rdat m c).finds_of_pos (w := 4) (t := t) rfl ht Y).mp hF with hf | hl
  · have := (flush0_4 _).mp hf
    simp only at this
    omega
  · have hD : Done m c ⟨t.val - 1, Nat.lt_of_le_of_lt (Nat.sub_le _ _) t.isLt⟩ Y :=
      (dats m 0 c).toRRel_leaves (fgt := byPred) (Rl := Rl m c) (w := 4) rfl hl
    unfold Done at hD
    rw [if_neg (by show ¬ (t.val - 1) % 4 = 3; omega)] at hD
    have e := hD y (by show (y 1).val < 1024 * ((t.val - 1) % 4 + 1); omega)
    rw [e]
    have e4 : (t.val - 1) / 4 = t.val / 4 := by omega
    show zrow m c ((t.val - 1) / 4) y = _
    rw [e4]

/-- Which of the body's branches a point takes. -/
theorem conds : ∀ t : Fin grid0.N,
    (t.val % 4 = 0 ∧ k0_cond1 (grid0.coords t) = 1#1 ∧ ¬ k0_cond2 (grid0.coords t) = 1#1 ∧ ¬ k0_cond3 (grid0.coords t) = 1#1 ∧ ¬ k0_cond4 (grid0.coords t) = 1#1 ∧ ¬ k0_cond5 (grid0.coords t) = 1#1)
    ∨ (t.val % 4 = 1 ∧ ¬ k0_cond1 (grid0.coords t) = 1#1 ∧ k0_cond2 (grid0.coords t) = 1#1 ∧ ¬ k0_cond3 (grid0.coords t) = 1#1 ∧ ¬ k0_cond4 (grid0.coords t) = 1#1 ∧ ¬ k0_cond5 (grid0.coords t) = 1#1)
    ∨ (t.val % 4 = 2 ∧ ¬ k0_cond1 (grid0.coords t) = 1#1 ∧ ¬ k0_cond2 (grid0.coords t) = 1#1 ∧ k0_cond3 (grid0.coords t) = 1#1 ∧ ¬ k0_cond4 (grid0.coords t) = 1#1 ∧ ¬ k0_cond5 (grid0.coords t) = 1#1)
    ∨ (t.val % 4 = 3 ∧ ¬ k0_cond1 (grid0.coords t) = 1#1 ∧ ¬ k0_cond2 (grid0.coords t) = 1#1 ∧ ¬ k0_cond3 (grid0.coords t) = 1#1 ∧ k0_cond4 (grid0.coords t) = 1#1 ∧ k0_cond5 (grid0.coords t) = 1#1) := by
  decide +kernel

/-- At every point the body takes the block it finds to one that meets the predicate. -/
theorem point_run (c : Dev nD) (t : Fin cfg0.N) : ∃ X, RunAt (F := F) c (grid0.coords t) X
    ∧ ∀ Y : Vec F S512x4096 .f32, (rdat m c).Finds 4 t Y →
        Done m c t (X (mergedAt m c t) (weightAt m c t) (inputAt m c t) (gainAt m c t) Y) := by
  rcases conds t with ⟨h, h1, h2, h3, h4, h5⟩ | ⟨h, h1, h2, h3, h4, h5⟩ | ⟨h, h1, h2, h3, h4, h5⟩ | ⟨h, h1, h2, h3, h4, h5⟩
  · refine ⟨_, run_first c _ h1 h2 h3 h4 h5, fun Y hF => ?_⟩
    unfold Done
    rw [if_neg (by omega), h]
    exact put_zrow m c t 0 h Y fun y hy => absurd hy (by omega)
  · refine ⟨_, run_second c _ h1 h2 h3 h4 h5, fun Y hF => ?_⟩
    unfold Done
    rw [if_neg (by omega), h]
    exact put_zrow m c t 1 h Y fun y hy => found m c t Y hF (by omega) y (by rw [h]; exact hy)
  · refine ⟨_, run_third c _ h1 h2 h3 h4 h5, fun Y hF => ?_⟩
    unfold Done
    rw [if_neg (by omega), h]
    exact put_zrow m c t 2 h Y fun y hy => found m c t Y hF (by omega) y (by rw [h]; exact hy)
  · refine ⟨_, run_last c _ h1 h2 h3 h4 h5, fun Y hF => ?_⟩
    unfold Done
    rw [if_pos h]
    refine congrArg (normed (gainAt m c t)) (funext fun y => ?_)
    exact put_zrow m c t 3 h Y (fun y hy => found m c t Y hF (by omega) y (by rw [h]; exact hy)) y
      (by have := (y 1).isLt; change _ < 4096 at this; omega)

/-! ## The body at every point -/

set_option maxHeartbeats 3200000 in
/-- The body's run, over the windows as a launch states them. -/
theorem run_owns (c : Dev nD) (i : grid0.Coords) {X} (h : RunAt (F := F) c i X) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole)
    (x0 : Vec F S512x4096 .bf16) (x1 : Vec F S4096x1024 .bf16) (x2 : Vec F S512x1024 .f32) (x3 : Vec F S1x4096 .f32) (Y : Vec F S512x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare Y
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (X x0 x1 x2 x3 Y)) -∗ K ⟨⟩))
      ⊢ wp frame (wpE (defs₀ (F := F)) Variants.none c none) E (cc0_out_proj i arg2 harg2 arg3 harg3 arg4 harg4 arg5 harg5 arg6 harg6) K := by
  refine .trans ?_ (h arg2 harg2 arg3 harg3 arg4 harg4 arg5 harg5 arg6 harg6 x0 x1 x2 x3 Y E K)
  simp only [owns]
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  isplitl [H2]; · iexact H2
  isplitl [H3]; · iexact H3
  isplitl [H4]; · iexact H4
  isplitl [H5]; · iexact H5
  isplitl [H6]; · iexact H6
  iintro ⟨H2, H3, H4, H5, H6⟩
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  iexact H6

/-- What the body is called with, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d))
    ∗ (∃ d, owns (c : Thread nD τ) (st0_1 t) fullShare ((dats m 0 c).before 1 t d)) ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare (iblk m c 0 t)
    ∗ owns (c : Thread nD τ) (st0_1 t) fullShare (iblk m c 1 t) ∗ owns (c : Thread nD τ) (st0_2 t) fullShare (iblk m c 2 t)
    ∗ owns (c : Thread nD τ) (st0_3 t) fullShare (iblk m c 3 t)
    ∗ (∃ X, ⌜Rl m c 4 t X⌝ ∗ owns (c : Thread nD τ) (st0_4 t) fullShare X))

set_option maxHeartbeats 3200000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  obtain ⟨X, hrun, hX⟩ := point_run m c t
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%Y, %hY, H4⟩⟩
  iapply (run_owns c (grid0.coords t) hrun _ _ _ _ _ _ _ _ _ _ (iblk m c 0 t) (iblk m c 1 t) (iblk m c 2 t) (iblk m c 3 t) Y _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists _; isplitr; swap; · iexact H4
  ipureintro; exact hX Y hY

/-- The body table's row at point `t` is the body as spelt there. -/
theorem defs_row (t : Fin cfg0.N) : defs₀ (F := F) .tc cfg0.body (cfg0.bodyArgs t (cfg0.slots t)) = bodyAt0 t := by
  unfold defs₀; rw [Defs.onTc_tc]

set_option maxHeartbeats 3200000 in
/-- The pipeline's demand on the body, at every point. -/
theorem body_obligation (c : Dev nD) : Pipeline.BodyObligationRel (dats (F := F) m 0 c) (defs₀ (F := F)) Variants.none () Set.univ byPred (Rl m c) := fun t => by
  rw [bigSep_W0, bigSep_W0, defs_row]
  exact triple_restated (sound_body m c t) rfl .rfl fun _ => .rfl

/-! ## The run of the whole call -/

set_option backward.isDefEq.respectTransparency.types false in
set_option maxHeartbeats 3200000 in
/-- Every execution ends, each array at contents the proof data allow, every semaphore at zero. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun _ w => by show ite _ _ _ = _; split <;> rfl)
    (howed := fun _ _ => rfl) (V := V m) (hmain := hmain m Variants.none) (hA := A_eq m) (hΦ := fun _ _ => rfl)

/-- The arguments end as they were. -/
theorem args_kept (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    ((h c).2 main_arg3 (Pipeline.mem_restRefs_of main_arg3 (by decide) (by decide))).trans (V_main_arg3 m c)⟩

/-- The frame: every execution ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m r h.1 c, h.2⟩) (run_main_quiescent m ρ)

end Cert.OutPromptIdeal.Hand

end
-- ==== Proof.OutPrompt.lean ====
/- The prompt's output projection: the value. -/
module

public import Idealize.ShloMosaic.Lib.Pipeline.ValueKit
public import Idealize.ShloMosaic.Init
public import Idealize.ShloMosaic.Adequacy
public import proofs.«01_k».proof.Defs
public import proofs.«01_k».proof.Proof.OutPromptFrame
public import proofs.«01_k».proof.Proof.Gen.OutPromptReferenceIdeal
public import proofs.«01_k».proof.Proof.Gen.OutPromptReferenceIdeal.Run

@[expose] public section

set_option maxRecDepth 16384

noncomputable section

namespace Cert.OutPromptReferenceIdeal.Value

open Cert.OutPromptReferenceIdeal Cert.OutPromptReferenceIdeal.Gen
open Idealize.ShloMosaic Idealize.ShloMosaic.TcCoe Idealize.ShloMosaic.Tactic Idealize.SL.Sem

/-- The reference's result: the layer's input plus the projected rows, each row normalised and scaled by the gain. -/
abbrev REF (x0 : FVec Ideal S8192x4096 .bf16) (x1 : FVec Ideal S4096x4096 .bf16) (x2 : FVec Ideal S8192x4096 .f32)
    (x3 : FVec Ideal S4096 .f32) : FVec Ideal S8192x4096 .f32 :=
  mulf (mulf (addf x2 (Host.dotGeneral dot_S8192x4096_S4096x4096_S8192x4096_1_0_0_1_n_n none (extf .f32 x0 bitsLt_bf16_f32) (extf .f32 x1 bitsLt_bf16_f32))) (broadcastInDim S8192x4096 ![0, 1] bcast_S8192x1_S8192x4096_0_1 (Host.rsqrt (addf (Host.divf (broadcastInDim S8192x1 ![0] bcast_S8192_S8192x1_0 (Host.reduceAdd (mulf (addf x2 (Host.dotGeneral dot_S8192x4096_S4096x4096_S8192x4096_1_0_0_1_n_n none (extf .f32 x0 bitsLt_bf16_f32) (extf .f32 x1 bitsLt_bf16_f32))) (addf x2 (Host.dotGeneral dot_S8192x4096_S4096x4096_S8192x4096_1_0_0_1_n_n none (extf .f32 x0 bitsLt_bf16_f32) (extf .f32 x1 bitsLt_bf16_f32)))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 x3))

/-- A row before it is normalised, at one element. -/
def zref (x0 : FVec Ideal S8192x4096 .bf16) (x1 : FVec Ideal S4096x4096 .bf16) (x2 : FVec Ideal S8192x4096 .f32) (j : S8192x4096.Idx) : EReal :=
  x2 j + ∑ k : Fin 4096, x0 (ix2 (j 0) k) * x1 (ix2 k (j 1))

/-- One element `a` of a row `z`, normalised by the row's mean square and scaled by `g`. -/
def nrm (z : Fin 4096 → EReal) (a g : EReal) : EReal :=
  a * Ideal.rsqrt (Ideal.div (∑ k, z k * z k) (Ideal.ofBits FTy.f32 0x45800000#32) + Ideal.ofBits FTy.f32 0x358637BD#32) * g

/-- The reference's result at one element. -/
theorem ref_apply (x0 : FVec Ideal S8192x4096 .bf16) (x1 : FVec Ideal S4096x4096 .bf16) (x2 : FVec Ideal S8192x4096 .f32)
    (x3 : FVec Ideal S4096 .f32) (j : S8192x4096.Idx) :
    REF x0 x1 x2 x3 j = nrm (fun k => zref x0 x1 x2 (ix2 (j 0) k)) (zref x0 x1 x2 j) (x3 (ix1 (j 1))) := by
  unfold nrm zref
  pointwise [REF]
  first | done | rfl

end Cert.OutPromptReferenceIdeal.Value

namespace Cert.OutPromptIdeal.Hand

open Cert.OutPromptIdeal Cert.OutPromptIdeal.Gen
open Cert.OutPromptReferenceIdeal.Value (REF zref nrm ref_apply)
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- One trip's rows at one element. -/
theorem pay2_apply (R : Vec Ideal S64x4096 .f32) (g : Vec Ideal S1x4096 .f32) (x : S64x4096.Idx) :
    k0_pay2 R g x = nrm (fun k => R (ix2 (x 0) k)) (R x) (g (ix2 0 (x 1))) := by
  unfold nrm
  pointwise [k0_pay2]
  first | done | rfl

/-- One tile at one element. -/
theorem pay1_apply (X : Vec Ideal S512x1024 .f32) (M : Vec Ideal S512x4096 .bf16) (W : Vec Ideal S4096x1024 .bf16) (x : S512x1024.Idx) :
    k0_pay1 X M W x = X x + ∑ k : Fin 4096, M (ix2 (x 0) k) * W (ix2 k (x 1)) := by
  pointwise [k0_pay1]

/-- A normalised block of rows at one element. -/
theorem normed_apply (g : Vec Ideal S1x4096 .f32) (Y : Vec Ideal S512x4096 .f32) (y : S512x4096.Idx) :
    normed g Y y = nrm (fun k => Y (ix2 (y 0) k)) (Y y) (g (ix2 0 (y 1))) := by
  refine (pay2_apply _ _ _).trans ?_
  have e : ∀ k : Fin 4096, rowsOf ((y 0).val / 64) (by have := (y 0).isLt; change _ < 512 at this; omega) Y (ix2 ⟨(y 0).val % 64, Nat.mod_lt _ (by omega)⟩ k) = Y (ix2 (y 0) k) := fun k => by
    unfold rowsOf
    refine congrArg Y (funext fun a => Fin.ext ?_)
    revert a; rw [Fin.forall_fin_two]; refine ⟨?_, rfl⟩
    show 64 * ((y 0).val / 64) + (y 0).val % 64 = (y 0).val
    omega
  have e1 := e (y 1)
  exact congrArg₂ (fun z a => nrm z a (g (ix2 0 (y 1)))) (funext e) (e1.trans (congrArg Y (eq_ix2 y).symm))

/-- Which block of each array a grid point names. -/
theorem idx : ∀ t : Fin cfg0.N, win0_0.index t = ![t.val / 4, 0] ∧ win0_1.index t = ![0, t.val % 4] ∧ win0_2.index t = ![t.val / 4, t.val % 4]
    ∧ win0_3.index t = ![0, 0] ∧ win0_4.index t = ![t.val / 4, 0] :=
  (by decide +kernel : ∀ t : Fin grid0.N, _)

/-- The merged rows' block at one element. -/
theorem block0 (c : Dev nD) (t : Fin cfg0.N) (i : Fin 512) (k : Fin 4096) (h : t.val / 4 * 512 + i.val < 8192) :
    iblk m c 0 t (ix2 i k) = V m c main_arg0 (ix2 ⟨t.val / 4 * 512 + i.val, h⟩ k) := by
  blk_point [iblk, idx t]

/-- The matrix's block at one element. -/
theorem block1 (c : Dev nD) (t : Fin cfg0.N) (k : Fin 4096) (q : Fin 1024) (h : t.val % 4 * 1024 + q.val < 4096) :
    iblk m c 1 t (ix2 k q) = V m c main_arg1 (ix2 k ⟨t.val % 4 * 1024 + q.val, h⟩) := by
  blk_point [iblk, idx t]

/-- The layer's input's block at one element. -/
theorem block2 (c : Dev nD) (t : Fin cfg0.N) (x : S512x1024.Idx) (h : t.val / 4 * 512 + (x 0).val < 8192) (h' : t.val % 4 * 1024 + (x 1).val < 4096) :
    iblk m c 2 t x = V m c main_arg2 (ix2 ⟨t.val / 4 * 512 + (x 0).val, h⟩ ⟨t.val % 4 * 1024 + (x 1).val, h'⟩) := by
  blk_point [iblk, idx t]

/-- The gain's block at one element. -/
theorem block3 (c : Dev nD) (t : Fin cfg0.N) (q : Fin 4096) : iblk m c 3 t (ix2 0 q) = V m c main_v0 (ix2 0 q) := by
  blk_point [iblk, idx t]

/-- A point's tile at one element: the reference's row before it is normalised, at the tile's place. -/
theorem point (c : Dev nD) (t : Fin cfg0.N) (x : S512x1024.Idx) (j : S8192x4096.Idx) (h0 : (j 0).val = t.val / 4 * 512 + (x 0).val)
    (h1 : (j 1).val = t.val % 4 * 1024 + (x 1).val) :
    k0_pay1 (inputAt m c t) (mergedAt m c t) (weightAt m c t) x = zref (m ((c.tc : Thread nD τ).loc main_arg0)) (m ((c.tc : Thread nD τ).loc main_arg1))
      (m ((c.tc : Thread nD τ).loc main_arg2)) j := by
  have l0 : (j 0).val < 8192 := (j 0).isLt
  have l1 : (j 1).val < 4096 := (j 1).isLt
  have e0 : j 0 = (⟨t.val / 4 * 512 + (x 0).val, by omega⟩ : Fin 8192) := Fin.ext h0
  have e1 : j 1 = (⟨t.val % 4 * 1024 + (x 1).val, by omega⟩ : Fin 4096) := Fin.ext h1
  rw [pay1_apply]
  unfold zref
  refine congrArg₂ (· + ·) ?_ (Finset.sum_congr rfl fun k _ => congrArg₂ (· * ·) ?_ ?_)
  · refine (block2 m c t x (by omega) (by omega)).trans ((congrFun (V_main_arg2 m c) _).trans (congrArg (m ((c.tc : Thread nD τ).loc main_arg2)) ?_))
    exact (congrArg₂ ix2 e0.symm e1.symm).trans (eq_ix2 j).symm
  · exact (block0 m c t (x 0) k (by change _ + (x 0).val < _; omega)).trans ((congrFun (V_main_arg0 m c) _).trans
      (congrArg (fun p => m ((c.tc : Thread nD τ).loc main_arg0) (ix2 p k)) e0.symm))
  · exact (block1 m c t k (x 1) (by change _ + (x 1).val < _; omega)).trans ((congrFun (V_main_arg1 m c) _).trans
      (congrArg (fun p => m ((c.tc : Thread nD τ).loc main_arg1) (ix2 k p)) e1.symm))

/-- A block of rows before it is normalised, at one element. -/
theorem zrow_apply (c : Dev nD) (r : ℕ) (hr : r < 16) (y : S512x4096.Idx) (j : S8192x4096.Idx) (h0 : (j 0).val = r * 512 + (y 0).val)
    (h1 : (j 1).val = (y 1).val) :
    zrow m c r y = zref (m ((c.tc : Thread nD τ).loc main_arg0)) (m ((c.tc : Thread nD τ).loc main_arg1)) (m ((c.tc : Thread nD τ).loc main_arg2)) j := by
  have h2 : (y 1).val < 4096 := (y 1).isLt
  have e : (ptOf (4 * r + (y 1).val / 1024)).val = 4 * r + (y 1).val / 1024 := by
    show (4 * r + (y 1).val / 1024) % 64 = _; omega
  refine point m c _ _ j ?_ ?_
  · rw [e, h0, show (4 * r + (y 1).val / 1024) / 4 = r by omega]; rfl
  · rw [e, h1, show (4 * r + (y 1).val / 1024) % 4 = (y 1).val / 1024 by omega]
    show (y 1).val = (y 1).val / 1024 * 1024 + (y 1).val % 1024
    omega

/-- The gain as the host lays it out. -/
theorem gain_laid (c : Dev nD) : V m c main_v0 = shapeCast S1x4096 (m ((c.tc : Thread nD τ).loc main_arg3)) shapeCasts_S4096_S1x4096 := by
  unfold V
  simp only [hostOps0, List.flatten_cons, List.flatten_nil, List.append_nil]
  after_results
  first | done | rfl

/-- A vector laid out as one row, at one element. -/
theorem laid_apply (g : FVec Ideal S4096 .f32) (q : Fin 4096) : shapeCast S1x4096 g shapeCasts_S4096_S1x4096 (ix2 0 q) = g (ix1 q) := by
  pointwise

/-- The gain at one element. -/
theorem gain_apply (c : Dev nD) (t : Fin cfg0.N) (q : Fin 4096) : gainAt m c t (ix2 0 q) = m ((c.tc : Thread nD τ).loc main_arg3) (ix1 q) := by
  exact (block3 m c t q).trans ((congrFun (gain_laid m c) _).trans (laid_apply _ q))

/-- A normalised block of rows is the reference's, at the block's place. -/
theorem rows_eq (c : Dev nD) (t : Fin cfg0.N) (y : S512x4096.Idx) (j : S8192x4096.Idx) (h0 : (j 0).val = t.val / 4 * 512 + (y 0).val)
    (h1 : (j 1).val = (y 1).val) :
    normed (gainAt m c t) (zrow m c (t.val / 4)) y = REF (m ((c.tc : Thread nD τ).loc main_arg0)) (m ((c.tc : Thread nD τ).loc main_arg1))
      (m ((c.tc : Thread nD τ).loc main_arg2)) (m ((c.tc : Thread nD τ).loc main_arg3)) j := by
  have ht : t.val < 64 := t.isLt
  have e1 : y 1 = j 1 := Fin.ext h1.symm
  refine (normed_apply _ _ y).trans ?_
  rw [ref_apply, zrow_apply m c _ (by omega) y j h0 h1]
  refine (congrArg (nrm _ _) (gain_apply m c t (y 1))).trans ?_
  have e : (fun k => zrow m c (t.val / 4) (ix2 (y 0) k)) = fun k => zref (m ((c.tc : Thread nD τ).loc main_arg0)) (m ((c.tc : Thread nD τ).loc main_arg1))
      (m ((c.tc : Thread nD τ).loc main_arg2)) (ix2 (j 0) k) := funext fun k => zrow_apply m c _ (by omega) _ _ h0 rfl
  rw [e]
  exact congrArg (fun q => nrm _ _ (m ((c.tc : Thread nD τ).loc main_arg3) (ix1 q))) e1

/-- The result's array at the end is the reference's result. -/
theorem final (c : Dev nD) (r : PUnit × MemSt nD τ sig (Elt Ideal)) (h : Pipeline.RDat.FramePost cfg0 (rdat m) (V m) r) :
    r.2.mem ((c.tc : Thread nD τ).loc main_v1) = REF (m ((c.tc : Thread nD τ).loc main_arg0)) (m ((c.tc : Thread nD τ).loc main_arg1))
      (m ((c.tc : Thread nD τ).loc main_arg2)) (m ((c.tc : Thread nD τ).loc main_arg3)) := by
  obtain ⟨after, hL, hA⟩ := Pipeline.RDat.FramePost.exists_exact h c
  refine (hA 4).trans ?_
  refine ((rdat m c).withAfter after).arrAt_eq_of_covers 4 _ (by decide +kernel) fun t hf y => ?_
  have h3 : t.val % 4 = 3 := (flush0_4 t).mp hf
  have hD : Done m c t (after 4 t) := (dats m 0 c).toRRel_leaves (fgt := byPred) (Rl := Rl m c) (w := 4) rfl (hL 4 t hf)
  unfold Done at hD
  rw [if_pos h3] at hD
  refine (congrFun hD y).trans (rows_eq m c t y _ ?_ ?_) <;> blk_simp [idx t]

/-- Every execution ends with the reference's result, the arguments as they were. -/
theorem run_results : θ_run defs (onTc (τ := τ) (main (F := Ideal))) ⟨m, fun _ => 0, ρ⟩ (fun r => ∀ c : Dev nD,
      r.2.mem ((c.tc : Thread nD τ).loc main_v1) = REF (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨final m c r h.1, args_kept m r h.1 c⟩) (run_main_quiescent m ρ)

end Cert.OutPromptIdeal.Hand

namespace Cert.OutPromptClaims

open Idealize.ShloMosaic Idealize.SL.Sem

/-- The prompt's output projection: the reference runs to its end, its arguments unchanged; it declares no semaphore. -/
theorem reference_frame : Cert.quiescent_OutPromptReferenceIdeal := fun m g _ =>
  (θ_run Cert.OutPromptReferenceIdeal.defs _ _).mono (fun r h => ⟨fun c => (h c).2, sem_eq_zero_of_no_sems (by decide) r.2⟩)
    (Cert.OutPromptReferenceIdeal.Value.run (F := Ideal) m g)

/-- The prompt's output projection: the result and the reference's are the same array over the extended reals. -/
theorem equal : Cert.algebraic_OutPromptIdeal_OutPromptReferenceIdeal := fun m g m' g' _ hargs =>
  ⟨fun c => Cert.OutPromptReferenceIdeal.Value.REF (m ((c.tc : Thread Cert.OutPromptIdeal.nD Cert.OutPromptIdeal.τ).loc Cert.OutPromptIdeal.main_arg0)) (m ((c.tc : Thread Cert.OutPromptIdeal.nD Cert.OutPromptIdeal.τ).loc Cert.OutPromptIdeal.main_arg1)) (m ((c.tc : Thread Cert.OutPromptIdeal.nD Cert.OutPromptIdeal.τ).loc Cert.OutPromptIdeal.main_arg2)) (m ((c.tc : Thread Cert.OutPromptIdeal.nD Cert.OutPromptIdeal.τ).loc Cert.OutPromptIdeal.main_arg3)),
    Cert.OutPromptIdeal.Hand.run_results m g,
    (θ_run Cert.OutPromptReferenceIdeal.defs _ _).mono
      (fun _ h c => ⟨(h c).1.trans (by rw [(hargs c).1, (hargs c).2.1, (hargs c).2.2.1, (hargs c).2.2.2]), (h c).2⟩)
      (Cert.OutPromptReferenceIdeal.Value.run (F := Ideal) m' g')⟩

end Cert.OutPromptClaims

end
-- ==== Proof.OutPromptFloat.lean ====
/- The prompt's output projection: the frame over every float semantics. -/
module

public import proofs.«01_k».proof.Proof.Gen.OutPrompt.Frame
public import proofs.«01_k».proof.Proof.Gen.OutPrompt.Loops
public import Idealize.ShloMosaic.Lib.Claim

@[expose] public section

set_option maxRecDepth 16384

noncomputable section

namespace Cert.OutPrompt.Hand

open Cert.OutPrompt.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each of the body's branches is taken or not; the last two together. -/
theorem branches : ∀ t : Fin grid0.N,
    (k0_cond1 (grid0.coords t) = 1#1 ∧ ¬ k0_cond2 (grid0.coords t) = 1#1 ∧ ¬ k0_cond3 (grid0.coords t) = 1#1 ∧ ¬ k0_cond4 (grid0.coords t) = 1#1 ∧ ¬ k0_cond5 (grid0.coords t) = 1#1)
    ∨ (¬ k0_cond1 (grid0.coords t) = 1#1 ∧ k0_cond2 (grid0.coords t) = 1#1 ∧ ¬ k0_cond3 (grid0.coords t) = 1#1 ∧ ¬ k0_cond4 (grid0.coords t) = 1#1 ∧ ¬ k0_cond5 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1 ∧ ¬ k0_cond5 (grid0.coords t) = 1#1)
    ∨ (¬ k0_cond1 (grid0.coords t) = 1#1 ∧ ¬ k0_cond2 (grid0.coords t) = 1#1 ∧ ¬ k0_cond3 (grid0.coords t) = 1#1 ∧ k0_cond4 (grid0.coords t) = 1#1 ∧ k0_cond5 (grid0.coords t) = 1#1) := by
  decide +kernel

set_option maxHeartbeats 16000000 in
/-- The body at any point runs to its end, its inputs as it found them, the result's block at some contents. -/
theorem run (c : Dev nD) (t : Fin grid0.N) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole)
    (x0 : Vec F S512x4096 .bf16) (x1 : Vec F S4096x1024 .bf16) (x2 : Vec F S512x1024 .f32) (x3 : Vec F S1x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ Y, owns (c : Thread nD τ) arg6 fullShare Y)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ (∃ Y, owns (c : Thread nD τ) arg6 fullShare Y)) -∗ K ⟨⟩))
      ⊢ wp frame (wpE (defs₀ (F := F)) Variants.none c none) E (cc0_out_proj (grid0.coords t) arg2 harg2 arg3 harg3 arg4 harg4 arg5 harg5 arg6 harg6) K := by
  simp only [cc0_out_proj_eq_skeleton]; unfold cc0_out_proj_skel
  simp only [owns]
  iintro ⟨⟨%f2, %hf2, H2⟩, ⟨%f3, %hf3, H3⟩, ⟨%f4, %hf4, H4⟩, ⟨%f5, %hf5, H5⟩, ⟨%Y, %f6, %hf6, H6⟩, Hk⟩
  rcases branches t with ⟨h1, h2, h3, h4, h5⟩ | ⟨h1, h2, h3, h4, h5⟩ | ⟨h1, h2, h3, h4, h5⟩ | ⟨h1, h2, h3, h4, h5⟩
  all_goals
    sl_exec (disch := first | sl_exact h1 | sl_exact h2 | sl_exact h3 | sl_exact h4 | sl_exact h5)
    sl_step
    iapply Hk
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    iexists _; iexists _; isplitr; swap; (· iexact H6); ipureintro; rfl

/-- The pipeline on core `c`: the arrays as the call finds them, each input's block left in place, the result's not said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨_ + 5, h⟩ => absurd h (Nat.not_lt.2 (Nat.le_add_left _ _))
  Φ _ := Pipeline.ΦA spec0 c
  q _ := fullShare
  owed _ := 0

/-- The window of which nothing is said: the result's. -/
def unsaid : Fin cfg0.W → Bool := fun w => w.val == 4

/-- The arrays are those the call finds. -/
theorem A_eq (c : Dev nD) (w : Fin cfg0.W) : (dats m 0 c).A w = V m c (Pipeline.arrRef spec0 w) := by
  dsimp only [dats]

/-- At every point each input's buffer holds its block. -/
theorem before_inputs (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ ∀ d, (dats m 0 c).before 3 t d = iblk m c 3 t :=
  ⟨before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t⟩

/-- What the body is called with, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d))
    ∗ (∃ d, owns (c : Thread nD τ) (st0_1 t) fullShare ((dats m 0 c).before 1 t d)) ∗ (∃ d, owns (c : Thread nD τ) (st0_2 t) fullShare ((dats m 0 c).before 2 t d))
    ∗ (∃ d, owns (c : Thread nD τ) (st0_3 t) fullShare ((dats m 0 c).before 3 t d))
    ∗ (∃ Y, owns (c : Thread nD τ) (st0_4 t) fullShare Y))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare (iblk m c 0 t)
    ∗ owns (c : Thread nD τ) (st0_1 t) fullShare (iblk m c 1 t) ∗ owns (c : Thread nD τ) (st0_2 t) fullShare (iblk m c 2 t)
    ∗ owns (c : Thread nD τ) (st0_3 t) fullShare (iblk m c 3 t)
    ∗ (∃ Y, owns (c : Thread nD τ) (st0_4 t) fullShare Y))

set_option maxHeartbeats 3200000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3⟩ := before_inputs m c t
  unfold bodyPre bodyPost bodyAt0
  simp only [b0, b1, b2, b3]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, H4⟩
  iapply (run c t _ _ _ _ _ _ _ _ _ _ (iblk m c 0 t) (iblk m c 1 t) (iblk m c 2 t) (iblk m c 3 t) _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body as spelt there. -/
theorem defs_row (t : Fin cfg0.N) : defs₀ (F := F) .tc cfg0.body (cfg0.bodyArgs t (cfg0.slots t)) = bodyAt0 t := by
  unfold defs₀; rw [Defs.onTc_tc]

set_option maxHeartbeats 3200000 in
/-- The pipeline's demand on the body, at every point. -/
theorem body_obligation (c : Dev nD) : BodyObligation (dats (F := F) m 0 c) (defs₀ (F := F)) Variants.none () Set.univ unsaid := fun t => by
  rw [bigSep_W0, bigSep_W0, defs_row]
  exact triple_restated (sound_body m c t) rfl .rfl fun _ => .rfl

set_option backward.isDefEq.respectTransparency.types false in
set_option maxHeartbeats 3200000 in
/-- Every execution ends, with the arrays as the pipeline leaves them and every semaphore at zero. -/
theorem run_main_quiescent : θ_run defs (onTc (τ := τ) (main (F := F))) (s₀ m ρ)
    (fun r => Pipeline.RDat.FramePost cfg0 (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (body_obligation m c).loose) (hshare := fun _ w => by show ite _ _ _ = _; split <;> rfl)
    (howed := fun _ _ => rfl) (V := V m) (hmain := hmain m Variants.none) (hA := A_eq m) (hΦ := fun _ _ => rfl)

/-- The frame: every execution ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(Pipeline.RDat.FramePost.arr_in h.1 c 0 rfl).trans ((A_eq m c 0).trans (V_main_arg0 m c)),
    (Pipeline.RDat.FramePost.arr_in h.1 c 1 rfl).trans ((A_eq m c 1).trans (V_main_arg1 m c)),
    (Pipeline.RDat.FramePost.arr_in h.1 c 2 rfl).trans ((A_eq m c 2).trans (V_main_arg2 m c)),
    ((h.1 c).2 main_arg3 (Pipeline.mem_restRefs_of main_arg3 (by decide) (by decide))).trans (V_main_arg3 m c)⟩, h.2⟩) (run_main_quiescent m ρ)

end Cert.OutPrompt.Hand

end
-- ==== Proof.OutSampleTile.lean ====
/- The sample's output projection: what the body writes into its block of rows. -/
module

public import proofs.«01_k».proof.Proof.Gen.OutSampleIdeal.Frame
public import proofs.«01_k».proof.Proof.Gen.OutSampleIdeal.Loops
public import Idealize.ShloMosaic.Lib.WritesUnit
public import Idealize.ShloMosaic.Lib.Pipeline.ValueKit
public import Idealize.ShloMosaic.Lib.WholeRead

@[expose] public section

set_option maxRecDepth 16384

noncomputable section

namespace Cert.OutSampleIdeal.Hand

open Cert.OutSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A tile of columns, and the rows normalised -/

/-- The block with the 256 columns of tile `j` replaced by `w`. -/
def putTile (j : ℕ) (w : Vec F S512x256 .f32) (Y : Vec F S512x4096 .f32) : Vec F S512x4096 .f32 := fun y =>
  if h : 256 * j ≤ (y 1).val ∧ (y 1).val < 256 * j + 256 then w (ix2 (y 0) ⟨(y 1).val - 256 * j, by omega⟩) else Y y

/-- The 64 rows of the block from row `64 k` on. -/
def rowsOf (k : ℕ) (hk : k < 8) (Y : Vec F S512x4096 .f32) : Vec F S64x4096 .f32 := fun x =>
  Y (ix2 ⟨64 * k + (x 0).val, by have := (x 0).isLt; change _ < 64 at this; change _ < 512; omega⟩ (x 1))

/-- The block with every row normalised, 64 rows at a time. -/
def normed (g : Vec F S1x4096 .f32) (Y : Vec F S512x4096 .f32) : Vec F S512x4096 .f32 := fun y =>
  k0_pay1 (rowsOf ((y 0).val / 64) (by have := (y 0).isLt; change _ < 512 at this; omega) Y) g
    (ix2 ⟨(y 0).val % 64, Nat.mod_lt _ (by omega)⟩ (y 1))

/-- Where the loop's trip reads and writes: rows `64 k`. -/
theorem off_eq (k : Fin k0_t1_loop.trips) : k0_off1 k = ![64 * k.val, 0] := by
  have h_c0 : Affine.IsInt 0#32 (0) := Affine.ofNat _ (by omega)
  have h_c1 : Affine.IsInt 1#32 (1) := Affine.ofNat _ (by omega)
  have r : k.val < 8 := Nat.lt_of_lt_of_le k.isLt k0_t1_abs.2.1
  have h7 : Affine.IsInt _ ((k.val : Int)) := Affine.iv h_c0 h_c1 k.val (by omega)
  have h64 : Affine.IsInt 64#32 (64) := Affine.ofNat _ (by omega)
  have h21 : Affine.IsInt _ (64 * (k.val : Int)) := Affine.muli h7 h64 (by omega)
  have h23 := Affine.indexCast h21
  unfold k0_off1
  rw [← Affine.nat_eq h23 (64 * k.val) (by push_cast; rfl)]

/-- The loop runs eight trips. -/
theorem trips_eq : k0_t1_loop.trips = 8 := by decide

/-! ## Reads and stores of whole buffers, and of one tile -/

/-- A load of all of a buffer reads it. -/
theorem readAt_all {s : Shape} {e : EltTy} (M : Memref sig .tc .vmem s e) (f : M.view.ty.Contents (Elt F)) (off : Fin s.rank → ℕ)
    (h0 : ∀ a, off a = 0) (inb : ∀ a, off a + s.size a ≤ s.size a) :
    M.view.readAt (Elt F) (Rect.unit (s := s) off s.size inb).toLoadRect f = M.view.read (Elt F) f :=
  funext fun x => congrArg (M.view.read (Elt F) f) (funext fun a => Fin.ext (by
    show off a + 1 * (x a).val = (x a).val
    rw [h0 a, Nat.zero_add, Nat.one_mul]))

/-- A store of all of a rounded block of the matrix leaves it. -/
theorem read_stored (M : Memref sig .tc .vmem S4096x256 .bf16) (f : M.view.ty.Contents (Elt F)) (off : Fin 2 → ℕ)
    (inb : ∀ a, off a + S4096x256.size a ≤ S4096x256.size a) (hoff : off = ![0, 0]) (w : Vec F S4096x256 .bf16) :
    M.view.read (Elt F) (M.view.writes (Elt F) f [⟨Rect.unit (s := S4096x256) off S4096x256.size inb, w⟩]) = w :=
  funext fun y => View.read_writes_cons_unit_of_mem M.view f inb w [] y y hoff
    (Fin.forall_fin_two.mpr ⟨(Nat.zero_add _).symm, (Nat.zero_add _).symm⟩)

/-- A store of one tile replaces its columns. -/
theorem read_put (M : Memref sig .tc .vmem S512x4096 .f32) (f : M.view.ty.Contents (Elt F)) (j : ℕ) (off : Fin 2 → ℕ)
    (inb : ∀ a, off a + S512x256.size a ≤ S512x4096.size a) (hoff : off = ![0, 256 * j]) (w : Vec F S512x256 .f32) :
    M.view.read (Elt F) (M.view.writes (Elt F) f [⟨Rect.unit (s := S512x4096) off S512x256.size inb, w⟩])
      = putTile j w (M.view.read (Elt F) f) := by
  funext y
  unfold putTile
  by_cases h : 256 * j ≤ (y 1).val ∧ (y 1).val < 256 * j + 256
  · rw [dif_pos h]
    exact View.read_writes_cons_unit_of_mem M.view f inb w [] y _ hoff (Fin.forall_fin_two.mpr
      ⟨(Nat.zero_add _).symm, by show (y 1).val = 256 * j + ((y 1).val - 256 * j); omega⟩)
  · rw [dif_neg h]
    exact View.read_writes_cons_unit_of_not_mem M.view f inb w [] y hoff (1 : Fin 2)
      (by show (y 1).val < 256 * j ∨ 256 * j + 256 ≤ (y 1).val; omega)

/-! ## The row loop -/

section Loop

variable (c : Dev nD) (i : grid0.Coords) (arg2 : Memref sig .tc .vmem S512x4096 .bf16) (harg2 : arg2.IsWhole) (arg3 : Memref sig .tc .vmem S4096x256 .f32) (harg3 : arg3.IsWhole) (arg4 : Memref sig .tc .vmem S512x256 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S4096x256 .bf16) (harg7 : arg7.IsWhole) (h17 : k0_cond17 i = 1#1)
variable (g : Vec F S1x4096 .f32) (f5 : BufTy.Contents (Elt F) arg5.view.ty)

/-- What one trip writes: its 64 rows, normalised. -/
theorem tripL_eq (k : Fin k0_t1_loop.trips) (f : BufTy.Contents (Elt F) arg6.view.ty) :
    tripL_k0_t1 (F := F) Variants.none c none i arg2 harg2 arg3 harg3 arg4 harg4 arg5 harg5 arg6 harg6 arg7 harg7 h17 f5 k f
      = [⟨Rect.unit (s := S512x4096) (k0_off1 k) S64x4096.size (k0_off1_inb i k h17),
          k0_pay1 (arg6.view.readAt (Elt F) (Rect.unit (s := S512x4096) (k0_off1 k) S64x4096.size (k0_off1_inb i k h17)).toLoadRect f)
            (arg5.view.read (Elt F) f5)⟩] := by
  rw [← readAt_all arg5 f5 ![0, 0] (by decide) inb_S1x4096_S1x4096_0_0]
  unfold tripL_k0_t1 trip_k0_t1
  rfl

/-- The rows a trip reads are those of the block, when the earlier trips left them alone. -/
theorem readAt_rows (k : Fin k0_t1_loop.trips) (hk : k.val < 8) (Y : Vec F S512x4096 .f32) (f : BufTy.Contents (Elt F) arg6.view.ty)
    (hf : ∀ y : S512x4096.Idx, 64 * k.val ≤ (y 0).val → arg6.view.read (Elt F) f y = Y y) :
    arg6.view.readAt (Elt F) (Rect.unit (s := S512x4096) (k0_off1 k) S64x4096.size (k0_off1_inb i k h17)).toLoadRect f = rowsOf k.val hk Y := by
  have o0 : k0_off1 k (0 : Fin 2) = 64 * k.val := by rw [off_eq]; rfl
  have o1 : k0_off1 k (1 : Fin 2) = 0 := by rw [off_eq]; rfl
  have e : ∀ x : S64x4096.Idx, (Rect.unit (s := S512x4096) (k0_off1 k) S64x4096.size (k0_off1_inb i k h17)).toLoadRect.idx x
      = ix2 (⟨64 * k.val + (x 0).val, by have := (x 0).isLt; change _ < 64 at this; change _ < 512; omega⟩ : Fin 512) (x 1) := fun x => by
    funext a; apply Fin.ext
    match a with
    | ⟨0, _⟩ => show k0_off1 k (0 : Fin 2) + 1 * (x 0).val = 64 * k.val + (x 0).val; rw [o0]; omega
    | ⟨1, _⟩ => show k0_off1 k (1 : Fin 2) + 1 * (x 1).val = (x 1).val; rw [o1]; omega
  funext x
  exact (congrArg (arg6.view.read (Elt F) f) (e x)).trans (hf _ (Nat.le_add_right _ _))

/-- After `n` trips the first `64 n` rows are normalised and the others are as the loop found them. -/
theorem read_trips (Y : Vec F S512x4096 .f32) (G : BufTy.Contents (Elt F) arg6.view.ty) (hG : arg6.view.read (Elt F) G = Y) (hg : arg5.view.read (Elt F) f5 = g) (n : ℕ) (hn : n ≤ 8)
    (y : S512x4096.Idx) :
    arg6.view.read (Elt F) (arg6.view.writes (Elt F) G
        (pb_k0_t1 (F := F) Variants.none c none i arg2 harg2 arg3 harg3 arg4 harg4 arg5 harg5 arg6 harg6 arg7 harg7 h17 f5 G n)) y
      = if (y 0).val < 64 * n then normed g Y y else Y y := by
  induction n generalizing y with
  | zero => rw [if_neg (by omega), pb_k0_t1.eq_1, ← hG]; rfl
  | succ n ih =>
    have hk : n < k0_t1_loop.trips := by rw [trips_eq]; omega
    have s := pb_k0_t1_succ (F := F) Variants.none c none i arg2 harg2 arg3 harg3 arg4 harg4 arg5 harg5 arg6 harg6 arg7 harg7 h17 f5 G ⟨n, hk⟩
    simp only at s
    rw [s, tripL_eq, List.singleton_append]
    rw [View.read_writes_cons_rows (d := S512x4096.size) arg6.view G (o := 64 * n) (W := 64) (k0_off1_inb i ⟨n, hk⟩ h17) _ _ y (off_eq ⟨n, hk⟩) rfl rfl]
    by_cases h : 64 * n ≤ (y 0).val ∧ (y 0).val < 64 * n + 64
    · rw [dif_pos h, if_pos (by omega)]
      rw [hg, readAt_rows i arg6 h17 ⟨n, hk⟩ (show n < 8 by omega) Y _ fun y' hy' => by rw [ih (by omega) y', if_neg (by change 64 * n ≤ _ at hy'; omega)]]
      have e : n = (y 0).val / 64 := by omega
      unfold normed
      subst e
      congr 1
      funext a; apply Fin.ext
      match a with
      | ⟨0, _⟩ => show (y 0).val - 64 * ((y 0).val / 64) = (y 0).val % 64; omega
      | ⟨1, _⟩ => show (y 1).val - 0 = (y 1).val; omega
    · rw [dif_neg h, ih (by omega) y]
      by_cases h' : (y 0).val < 64 * n
      · rw [if_pos h', if_pos (by omega)]
      · rw [if_neg h', if_neg (by omega)]

/-- After the whole loop every row is normalised. -/
theorem read_loop (Y : Vec F S512x4096 .f32) (G : BufTy.Contents (Elt F) arg6.view.ty) (hG : arg6.view.read (Elt F) G = Y) (hg : arg5.view.read (Elt F) f5 = g) :
    arg6.view.read (Elt F) (arg6.view.writes (Elt F) G
        (pb_k0_t1 (F := F) Variants.none c none i arg2 harg2 arg3 harg3 arg4 harg4 arg5 harg5 arg6 harg6 arg7 harg7 h17 f5 G k0_t1_loop.trips)) = normed g Y := by
  funext y
  rw [trips_eq, read_trips c i arg2 harg2 arg3 harg3 arg4 harg4 arg5 harg5 arg6 harg6 arg7 harg7 h17 g f5 Y G hG hg 8 (le_refl 8) y, if_pos (by have := (y 0).isLt; change _ < 512 at this; omega)]

end Loop

end Cert.OutSampleIdeal.Hand

end
-- ==== Proof.OutSampleBody.lean ====
/- The sample's output projection: the body at one point. -/
module

public import proofs.«01_k».proof.Proof.OutSampleTile

@[expose] public section

set_option maxRecDepth 16384

noncomputable section

namespace Cert.OutSampleIdeal.Hand

open Cert.OutSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Which of the body's branches a point takes: the tile's own, and at the last point the row loop. -/
theorem conds : ∀ t : Fin grid0.N,
    (k0_cond1 (grid0.coords t) = 1#1 ↔ t.val = 0)
    ∧ (k0_cond2 (grid0.coords t) = 1#1 ↔ t.val = 1)
    ∧ (k0_cond3 (grid0.coords t) = 1#1 ↔ t.val = 2)
    ∧ (k0_cond4 (grid0.coords t) = 1#1 ↔ t.val = 3)
    ∧ (k0_cond5 (grid0.coords t) = 1#1 ↔ t.val = 4)
    ∧ (k0_cond6 (grid0.coords t) = 1#1 ↔ t.val = 5)
    ∧ (k0_cond7 (grid0.coords t) = 1#1 ↔ t.val = 6)
    ∧ (k0_cond8 (grid0.coords t) = 1#1 ↔ t.val = 7)
    ∧ (k0_cond9 (grid0.coords t) = 1#1 ↔ t.val = 8)
    ∧ (k0_cond10 (grid0.coords t) = 1#1 ↔ t.val = 9)
    ∧ (k0_cond11 (grid0.coords t) = 1#1 ↔ t.val = 10)
    ∧ (k0_cond12 (grid0.coords t) = 1#1 ↔ t.val = 11)
    ∧ (k0_cond13 (grid0.coords t) = 1#1 ↔ t.val = 12)
    ∧ (k0_cond14 (grid0.coords t) = 1#1 ↔ t.val = 13)
    ∧ (k0_cond15 (grid0.coords t) = 1#1 ↔ t.val = 14)
    ∧ (k0_cond16 (grid0.coords t) = 1#1 ↔ t.val = 15)
    ∧ (k0_cond17 (grid0.coords t) = 1#1 ↔ t.val = 15) := by
  decide +kernel

/-- The block of rows after a point: the point's tile stored, and at the last point every row normalised. -/
def stepped (t : ℕ) (x0 : Vec F S512x4096 .bf16) (x1 : Vec F S4096x256 .f32) (x2 : Vec F S512x256 .f32) (g : Vec F S1x4096 .f32)
    (Y : Vec F S512x4096 .f32) : Vec F S512x4096 .f32 :=
  if t = 15 then normed g (putTile 15 (k0_pay3 x2 x0 (k0_pay2 x1)) Y) else putTile t (k0_pay3 x2 x0 (k0_pay2 x1)) Y

set_option maxHeartbeats 64000000 in
/-- The body at any point runs to its end: the inputs stay, the block of rows takes its step, the rounded matrix is at some contents. -/
theorem run (c : Dev nD) (t : Fin grid0.N) (arg2 : Memref sig .tc .vmem S512x4096 .bf16) (harg2 : arg2.IsWhole) (arg3 : Memref sig .tc .vmem S4096x256 .f32) (harg3 : arg3.IsWhole) (arg4 : Memref sig .tc .vmem S512x256 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S4096x256 .bf16) (harg7 : arg7.IsWhole)
    (x0 : Vec F S512x4096 .bf16) (x1 : Vec F S4096x256 .f32) (x2 : Vec F S512x256 .f32) (x3 : Vec F S1x4096 .f32) (Y : Vec F S512x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare Y ∗ (∃ Z, owns (c : Thread nD τ) arg7 fullShare Z)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (stepped t.val x0 x1 x2 x3 Y) ∗ (∃ Z, owns (c : Thread nD τ) arg7 fullShare Z)) -∗ K ⟨⟩))
      ⊢ wp frame (wpE (defs₀ (F := F)) Variants.none c none) E (cc0_out_proj (grid0.coords t) arg2 harg2 arg3 harg3 arg4 harg4 arg5 harg5 arg6 harg6 arg7 harg7) K := by
  obtain ⟨e1, e2, e3, e4, e5, e6, e7, e8, e9, e10, e11, e12, e13, e14, e15, e16, e17⟩ := conds t
  have ht : t.val < 16 := t.isLt
  have hjs : t.val = 0 ∨ t.val = 1 ∨ t.val = 2 ∨ t.val = 3 ∨ t.val = 4 ∨ t.val = 5 ∨ t.val = 6 ∨ t.val = 7 ∨ t.val = 8 ∨ t.val = 9 ∨ t.val = 10 ∨ t.val = 11 ∨ t.val = 12 ∨ t.val = 13 ∨ t.val = 14 ∨ t.val = 15 := by omega
  simp only [cc0_out_proj_eq_skeleton]; unfold cc0_out_proj_skel
  simp only [k0_part1_eq_skeleton, k0_part2_eq_skeleton]
  unfold k0_part1_skel k0_part2_skel
  simp only [owns]
  iintro ⟨⟨%f2, %hf2, H2⟩, ⟨%f3, %hf3, H3⟩, ⟨%f4, %hf4, H4⟩, ⟨%f5, %hf5, H5⟩, ⟨%f6, %hf6, H6⟩, ⟨%Z, %f7, %hf7, H7⟩, Hk⟩
  subst hf2 hf3 hf4 hf5 hf6
  have z2 : ∀ a : Fin 2, (![0, 0] : Fin 2 → ℕ) a = 0 := by decide
  rcases hjs with hj | hj | hj | hj | hj | hj | hj | hj | hj | hj | hj | hj | hj | hj | hj | hj
  all_goals
    simp only [hj, Nat.reduceEqDiff, eq_self, iff_true, iff_false] at e1 e2 e3 e4 e5 e6 e7 e8 e9 e10 e11 e12 e13 e14 e15 e16 e17
    sl_exec (disch := first | sl_exact e1 | sl_exact e2 | sl_exact e3 | sl_exact e4 | sl_exact e5 | sl_exact e6 | sl_exact e7 | sl_exact e8 | sl_exact e9 | sl_exact e10 | sl_exact e11 | sl_exact e12 | sl_exact e13 | sl_exact e14 | sl_exact e15 | sl_exact e16 | sl_exact e17)
    sl_step
    iapply Hk
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; swap; · iexists _; iexists _; isplitr; swap; (· iexact H7); ipureintro; rfl
    iexists _; isplitr; swap; (· iexact H6); ipureintro
    unfold stepped
    sl_unfold_run_names
    try dsimp only
  rotate_left 15
  · rw [if_pos hj, View.writes_append]
    refine read_loop c _ arg2 harg2 arg3 harg3 arg4 harg4 arg5 harg5 arg6 harg6 arg7 harg7 e17 _ f5 _ _ ?_ rfl
    rw [read_put arg6 _ 15 _ _ rfl, View.readCov_cons_toLoadRect, readAt_all _ _ _ z2, readAt_all _ _ _ z2, readAt_all _ _ _ z2]
  all_goals
    rw [if_neg (by omega), read_put arg6 _ t.val _ _ (by rw [hj]), View.readCov_cons_toLoadRect, readAt_all _ _ _ z2, readAt_all _ _ _ z2, readAt_all _ _ _ z2]

end Cert.OutSampleIdeal.Hand

end
-- ==== Proof.OutSampleFrame.lean ====
/- The sample's output projection: what the pipeline leaves, point by point, and the frame. -/
module

public import proofs.«01_k».proof.Proof.OutSampleBody
public import Idealize.ShloMosaic.Lib.Pipeline.DatRel
public import Idealize.ShloMosaic.Lib.Pipeline.ArrRel
public import Idealize.ShloMosaic.Lib.Claim

@[expose] public section

set_option maxRecDepth 16384

noncomputable section

namespace Cert.OutSampleIdeal.Hand

open Cert.OutSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of the arguments, and the projected rows -/

/-- The block of the merged rows at a point. -/
abbrev mergedAt (c : Dev nD) (t : Fin cfg0.N) : Vec F S512x4096 .bf16 := iblk m c 0 t
/-- The block of the matrix at a point. -/
abbrev weightAt (c : Dev nD) (t : Fin cfg0.N) : Vec F S4096x256 .f32 := iblk m c 1 t
/-- The block of the layer's input at a point. -/
abbrev inputAt (c : Dev nD) (t : Fin cfg0.N) : Vec F S512x256 .f32 := iblk m c 2 t
/-- The gain at a point. -/
abbrev gainAt (c : Dev nD) (t : Fin cfg0.N) : Vec F S1x4096 .f32 := iblk m c 3 t

/-- The point of a number. -/
def ptOf (n : ℕ) : Fin cfg0.N := ⟨n % 16, Nat.mod_lt _ (by omega)⟩

/-- The rows before they are normalised: the columns of each tile as that tile's point projects them. -/
def zrow (c : Dev nD) : Vec F S512x4096 .f32 := fun y =>
  k0_pay3 (inputAt m c (ptOf ((y 1).val / 256))) (mergedAt m c (ptOf ((y 1).val / 256)))
    (k0_pay2 (weightAt m c (ptOf ((y 1).val / 256)))) (ix2 (y 0) ⟨(y 1).val % 256, Nat.mod_lt _ (by omega)⟩)

/-- What the result's block holds after point `t`: the tiles so far, and after the last point the rows normalised. -/
def Done (c : Dev nD) (t : Fin cfg0.N) (X : Vec F S512x4096 .f32) : Prop :=
  if t.val = 15 then X = normed (gainAt m c t) (zrow m c) else ∀ y, (y 1).val < 256 * (t.val + 1) → X y = zrow m c y

/-- One tile more. -/
theorem put_zrow (c : Dev nD) (t : Fin cfg0.N) (j : ℕ) (hj : t.val = j) (Y : Vec F S512x4096 .f32)
    (hY : ∀ y, (y 1).val < 256 * j → Y y = zrow m c y) (y : S512x4096.Idx) (hy : (y 1).val < 256 * (j + 1)) :
    putTile j (k0_pay3 (inputAt m c t) (mergedAt m c t) (k0_pay2 (weightAt m c t))) Y y = zrow m c y := by
  unfold putTile
  by_cases h : 256 * j ≤ (y 1).val ∧ (y 1).val < 256 * j + 256
  · rw [dif_pos h]
    unfold zrow
    have ht : t.val < 16 := t.isLt
    have e : ptOf ((y 1).val / 256) = t := Fin.ext (by show (y 1).val / 256 % 16 = t.val; omega)
    rw [e]
    congr 1
    have e2 : (y 1).val - 256 * j = (y 1).val % 256 := by omega
    simp only [e2]
  · rw [dif_neg h]
    exact hY y (by omega)

/-! ## The proof data -/

/-- The pipeline on core `c`: the arrays as the call finds them, each input's block left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨_ + 6, h⟩ => absurd h (Nat.not_lt.2 (Nat.le_add_left _ _))
  Φ _ := Pipeline.ΦA spec0 c
  q _ := fullShare
  owed _ := 0

/-- The windows whose contents are known by a predicate: the results'. -/
def byPred : Fin cfg0.W → Bool := fun w => decide (4 ≤ w.val)

/-- That predicate: of the rounded matrix nothing is said. -/
def Rl (c : Dev nD) (w : Fin cfg0.W) (t : Fin cfg0.N) : ((cfg0.win w).block.Idx → Elt F (cfg0.win w).elt) → Prop :=
  match w with
  | ⟨4, _⟩ => fun X => Done m c t X
  | _ => fun _ => True

/-- The proof data, the results' windows known by the predicate. -/
abbrev rdat (c : Dev nD) := (dats m 0 c).toRRel byPred (Rl m c)

/-- The arrays are those the call finds. -/
theorem A_eq (c : Dev nD) (w : Fin cfg0.W) : (dats m 0 c).A w = V m c (Pipeline.arrRef spec0 w) := by
  dsimp only [dats]

/-- Input 0's buffer holds its block at every point. -/
theorem before0 (c : Dev nD) (t : Fin cfg0.N) (d) : (dats m 0 c).before 0 t d = iblk m c 0 t :=
  before0_0_of m (dats m 0 c) (A_eq m c 0) (fun _ => rfl) t d
/-- Input 1's buffer holds its block at every point. -/
theorem before1 (c : Dev nD) (t : Fin cfg0.N) (d) : (dats m 0 c).before 1 t d = iblk m c 1 t :=
  before0_1_of m (dats m 0 c) (A_eq m c 1) (fun _ => rfl) t d
/-- Input 2's buffer holds its block at every point. -/
theorem before2 (c : Dev nD) (t : Fin cfg0.N) (d) : (dats m 0 c).before 2 t d = iblk m c 2 t :=
  before0_2_of m (dats m 0 c) (A_eq m c 2) (fun _ => rfl) t d
/-- Input 3's buffer holds its block at every point. -/
theorem before3 (c : Dev nD) (t : Fin cfg0.N) (d) : (dats m 0 c).before 3 t d = iblk m c 3 t :=
  before0_3_of m (dats m 0 c) (A_eq m c 3) (fun _ => rfl) t d

/-- What a point after the first finds in the result's buffer: what the point before left there. -/
theorem found (c : Dev nD) (t : Fin cfg0.N) (Y : Vec F S512x4096 .f32) (hF : (rdat m c).Finds 4 t Y) (y : S512x4096.Idx)
    (hy : (y 1).val < 256 * t.val) : Y y = zrow m c y := by
  have ht : t.val ≠ 0 := by omega
  have h16 : t.val < 16 := t.isLt
  rcases ((rdat m c).finds_of_pos (w := 4) (t := t) rfl ht Y).mp hF with hf | hl
  · have := (flush0_4 _).mp hf
    simp only at this
    omega
  · have hD : Done m c ⟨t.val - 1, Nat.lt_of_le_of_lt (Nat.sub_le _ _) t.isLt⟩ Y :=
      (dats m 0 c).toRRel_leaves (fgt := byPred) (Rl := Rl m c) (w := 4) rfl hl
    unfold Done at hD
    rw [if_neg (by show ¬ t.val - 1 = 15; omega)] at hD
    exact hD y (by show (y 1).val < 256 * (t.val - 1 + 1); omega)

/-- At every point the body takes the block it finds to one that meets the predicate. -/
theorem point_done (c : Dev nD) (t : Fin cfg0.N) (Y : Vec F S512x4096 .f32) (hF : (rdat m c).Finds 4 t Y) :
    Done m c t (stepped t.val (mergedAt m c t) (weightAt m c t) (inputAt m c t) (gainAt m c t) Y) := by
  unfold Done stepped
  by_cases h : t.val = 15
  · rw [if_pos h, if_pos h]
    refine congrArg (normed (gainAt m c t)) (funext fun y => ?_)
    exact put_zrow m c t 15 h Y (fun y hy => found m c t Y hF y (by rw [h]; exact hy)) y
      (by have := (y 1).isLt; change _ < 4096 at this; omega)
  · rw [if_neg h, if_neg h]
    exact put_zrow m c t t.val rfl Y fun y hy => found m c t Y hF y hy

/-! ## The body at every point -/

/-- What the body is called with, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d))
    ∗ (∃ d, owns (c : Thread nD τ) (st0_1 t) fullShare ((dats m 0 c).before 1 t d)) ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y)
    ∗ (∃ Y, ⌜(rdat m c).Finds 5 t Y⌝ ∗ owns (c : Thread nD τ) (st0_5 t) fullShare Y))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare (iblk m c 0 t)
    ∗ owns (c : Thread nD τ) (st0_1 t) fullShare (iblk m c 1 t) ∗ owns (c : Thread nD τ) (st0_2 t) fullShare (iblk m c 2 t)
    ∗ owns (c : Thread nD τ) (st0_3 t) fullShare (iblk m c 3 t)
    ∗ (∃ X, ⌜Rl m c 4 t X⌝ ∗ owns (c : Thread nD τ) (st0_4 t) fullShare X)
    ∗ (∃ X, ⌜Rl m c 5 t X⌝ ∗ owns (c : Thread nD τ) (st0_5 t) fullShare X))

set_option maxHeartbeats 3200000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%Y, %hY, H4⟩, ⟨%Z, %hZ, H5⟩⟩
  iapply (run c t _ _ _ _ _ _ _ _ _ _ _ _ (iblk m c 0 t) (iblk m c 1 t) (iblk m c 2 t) (iblk m c 3 t) Y _ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%W, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists _; isplitr; swap; · iexact H4
    ipureintro; exact point_done m c t Y hY
  iexists _; isplitr; swap; · iexact H5
  ipureintro; exact trivial

/-- The body table's row at point `t` is the body as spelt there. -/
theorem defs_row (t : Fin cfg0.N) : defs₀ (F := F) .tc cfg0.body (cfg0.bodyArgs t (cfg0.slots t)) = bodyAt0 t := by
  unfold defs₀; rw [Defs.onTc_tc]

set_option maxHeartbeats 3200000 in
/-- The pipeline's demand on the body, at every point. -/
theorem body_obligation (c : Dev nD) : Pipeline.BodyObligationRel (dats (F := F) m 0 c) (defs₀ (F := F)) Variants.none () Set.univ byPred (Rl m c) := fun t => by
  rw [bigSep_W0, bigSep_W0, defs_row]
  exact triple_restated (sound_body m c t) rfl .rfl fun _ => .rfl

/-! ## The run of the whole call -/

set_option backward.isDefEq.respectTransparency.types false in
set_option maxHeartbeats 3200000 in
/-- Every execution ends, each array at contents the proof data allow, every semaphore at zero. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun _ w => by show ite _ _ _ = _; split <;> rfl)
    (howed := fun _ _ => rfl) (V := V m) (hmain := hmain m Variants.none) (hA := A_eq m) (hΦ := fun _ _ => rfl)

/-- The arguments end as they were. -/
theorem args_kept (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    ((h c).2 main_arg3 (Pipeline.mem_restRefs_of main_arg3 (by decide) (by decide))).trans (V_main_arg3 m c)⟩

/-- The frame: every execution ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m r h.1 c, h.2⟩) (run_main_quiescent m ρ)

end Cert.OutSampleIdeal.Hand

end
-- ==== Proof.OutSample.lean ====
/- The sample's output projection: the value. -/
module

public import Idealize.ShloMosaic.Lib.Pipeline.ValueKit
public import Idealize.ShloMosaic.Init
public import Idealize.ShloMosaic.Adequacy
public import proofs.«01_k».proof.Defs
public import proofs.«01_k».proof.Proof.OutSampleFrame
public import proofs.«01_k».proof.Proof.OutPrompt
public import proofs.«01_k».proof.Proof.Gen.OutSampleReferenceIdeal
public import proofs.«01_k».proof.Proof.Gen.OutSampleReferenceIdeal.Run

@[expose] public section

set_option maxRecDepth 16384

noncomputable section

namespace Cert.OutSampleReferenceIdeal.Value

open Cert.OutSampleReferenceIdeal Cert.OutSampleReferenceIdeal.Gen
open Cert.OutPromptReferenceIdeal.Value (nrm)
open Idealize.ShloMosaic Idealize.ShloMosaic.TcCoe Idealize.ShloMosaic.Tactic Idealize.SL.Sem

/-- The reference's result: the layer's input plus the projected rows, each row normalised and scaled by the gain. -/
abbrev REF (x0 : FVec Ideal S512x4096 .bf16) (x1 : FVec Ideal S4096x4096 .f32) (x2 : FVec Ideal S512x4096 .f32)
    (x3 : FVec Ideal S4096 .f32) : FVec Ideal S512x4096 .f32 :=
  mulf (mulf (addf x2 (Host.dotGeneral dot_S512x4096_S4096x4096_S512x4096_1_0_0_1_n_n none (extf .f32 x0 bitsLt_bf16_f32) x1)) (broadcastInDim S512x4096 ![0, 1] bcast_S512x1_S512x4096_0_1 (Host.rsqrt (addf (Host.divf (broadcastInDim S512x1 ![0] bcast_S512_S512x1_0 (Host.reduceAdd (mulf (addf x2 (Host.dotGeneral dot_S512x4096_S4096x4096_S512x4096_1_0_0_1_n_n none (extf .f32 x0 bitsLt_bf16_f32) x1)) (addf x2 (Host.dotGeneral dot_S512x4096_S4096x4096_S512x4096_1_0_0_1_n_n none (extf .f32 x0 bitsLt_bf16_f32) x1))) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x358637BD#32)))))) (broadcastInDim S512x4096 ![0, 1] bcast_S1x4096_S512x4096_0_1 (broadcastInDim S1x4096 ![1] bcast_S4096_S1x4096_1 x3))

/-- A row before it is normalised, at one element. -/
def zref (x0 : FVec Ideal S512x4096 .bf16) (x1 : FVec Ideal S4096x4096 .f32) (x2 : FVec Ideal S512x4096 .f32) (j : S512x4096.Idx) : EReal :=
  x2 j + ∑ k : Fin 4096, x0 (ix2 (j 0) k) * x1 (ix2 k (j 1))

/-- The reference's result at one element. -/
theorem ref_apply (x0 : FVec Ideal S512x4096 .bf16) (x1 : FVec Ideal S4096x4096 .f32) (x2 : FVec Ideal S512x4096 .f32)
    (x3 : FVec Ideal S4096 .f32) (j : S512x4096.Idx) :
    REF x0 x1 x2 x3 j = nrm (fun k => zref x0 x1 x2 (ix2 (j 0) k)) (zref x0 x1 x2 j) (x3 (ix1 (j 1))) := by
  unfold nrm zref
  pointwise [REF]
  first | done | rfl

end Cert.OutSampleReferenceIdeal.Value

namespace Cert.OutSampleIdeal.Hand

open Cert.OutSampleIdeal Cert.OutSampleIdeal.Gen
open Cert.OutSampleReferenceIdeal.Value (REF zref ref_apply)
open Cert.OutPromptReferenceIdeal.Value (nrm)
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- One trip's rows at one element. -/
theorem pay1_apply (R : Vec Ideal S64x4096 .f32) (g : Vec Ideal S1x4096 .f32) (x : S64x4096.Idx) :
    k0_pay1 R g x = nrm (fun k => R (ix2 (x 0) k)) (R x) (g (ix2 0 (x 1))) := by
  unfold nrm
  pointwise [k0_pay1]
  first | done | rfl

/-- One tile at one element. -/
theorem pay3_apply (X : Vec Ideal S512x256 .f32) (M : Vec Ideal S512x4096 .bf16) (W : Vec Ideal S4096x256 .f32) (x : S512x256.Idx) :
    k0_pay3 X M (k0_pay2 W) x = X x + ∑ k : Fin 4096, M (ix2 (x 0) k) * W (ix2 k (x 1)) := by
  pointwise [k0_pay3, k0_pay2]

/-- A normalised block of rows at one element. -/
theorem normed_apply (g : Vec Ideal S1x4096 .f32) (Y : Vec Ideal S512x4096 .f32) (y : S512x4096.Idx) :
    normed g Y y = nrm (fun k => Y (ix2 (y 0) k)) (Y y) (g (ix2 0 (y 1))) := by
  refine (pay1_apply _ _ _).trans ?_
  have e : ∀ k : Fin 4096, rowsOf ((y 0).val / 64) (by have := (y 0).isLt; change _ < 512 at this; omega) Y (ix2 ⟨(y 0).val % 64, Nat.mod_lt _ (by omega)⟩ k) = Y (ix2 (y 0) k) := fun k => by
    unfold rowsOf
    refine congrArg Y (funext fun a => Fin.ext ?_)
    revert a; rw [Fin.forall_fin_two]; refine ⟨?_, rfl⟩
    show 64 * ((y 0).val / 64) + (y 0).val % 64 = (y 0).val
    omega
  have e1 := e (y 1)
  exact congrArg₂ (fun z a => nrm z a (g (ix2 0 (y 1)))) (funext e) (e1.trans (congrArg Y (eq_ix2 y).symm))

/-- Which block of each array a grid point names. -/
theorem idx : ∀ t : Fin cfg0.N, win0_0.index t = ![0, 0] ∧ win0_1.index t = ![0, t.val] ∧ win0_2.index t = ![0, t.val]
    ∧ win0_3.index t = ![0, 0] ∧ win0_4.index t = ![0, 0] :=
  (by decide +kernel : ∀ t : Fin grid0.N, _)

/-- The merged rows' block at one element. -/
theorem block0 (c : Dev nD) (t : Fin cfg0.N) (i : Fin 512) (k : Fin 4096) : iblk m c 0 t (ix2 i k) = V m c main_arg0 (ix2 i k) := by
  blk_point [iblk, idx t]

/-- The matrix's block at one element. -/
theorem block1 (c : Dev nD) (t : Fin cfg0.N) (k : Fin 4096) (q : Fin 256) (h : t.val * 256 + q.val < 4096) :
    iblk m c 1 t (ix2 k q) = V m c main_arg1 (ix2 k ⟨t.val * 256 + q.val, h⟩) := by
  blk_point [iblk, idx t]

/-- The layer's input's block at one element. -/
theorem block2 (c : Dev nD) (t : Fin cfg0.N) (x : S512x256.Idx) (h : t.val * 256 + (x 1).val < 4096) :
    iblk m c 2 t x = V m c main_arg2 (ix2 (x 0) ⟨t.val * 256 + (x 1).val, h⟩) := by
  blk_point [iblk, idx t]

/-- The gain's block at one element. -/
theorem block3 (c : Dev nD) (t : Fin cfg0.N) (q : Fin 4096) : iblk m c 3 t (ix2 0 q) = V m c main_v0 (ix2 0 q) := by
  blk_point [iblk, idx t]

/-- A point's tile at one element: the reference's row before it is normalised, at the tile's place. -/
theorem point (c : Dev nD) (t : Fin cfg0.N) (x : S512x256.Idx) (j : S512x4096.Idx) (h0 : (j 0).val = (x 0).val)
    (h1 : (j 1).val = t.val * 256 + (x 1).val) :
    k0_pay3 (inputAt m c t) (mergedAt m c t) (k0_pay2 (weightAt m c t)) x = zref (m ((c.tc : Thread nD τ).loc main_arg0)) (m ((c.tc : Thread nD τ).loc main_arg1))
      (m ((c.tc : Thread nD τ).loc main_arg2)) j := by
  have l1 : (j 1).val < 4096 := (j 1).isLt
  have e0 : j 0 = x 0 := Fin.ext h0
  have e1 : j 1 = (⟨t.val * 256 + (x 1).val, by omega⟩ : Fin 4096) := Fin.ext h1
  rw [pay3_apply]
  unfold zref
  refine congrArg₂ (· + ·) ?_ (Finset.sum_congr rfl fun k _ => congrArg₂ (· * ·) ?_ ?_)
  · refine (block2 m c t x (by omega)).trans ((congrFun (V_main_arg2 m c) _).trans (congrArg (m ((c.tc : Thread nD τ).loc main_arg2)) ?_))
    exact (congrArg₂ ix2 e0.symm e1.symm).trans (eq_ix2 j).symm
  · exact (block0 m c t (x 0) k).trans ((congrFun (V_main_arg0 m c) _).trans
      (congrArg (fun p => m ((c.tc : Thread nD τ).loc main_arg0) (ix2 p k)) e0.symm))
  · exact (block1 m c t k (x 1) (by change _ + (x 1).val < _; omega)).trans ((congrFun (V_main_arg1 m c) _).trans
      (congrArg (fun p => m ((c.tc : Thread nD τ).loc main_arg1) (ix2 k p)) e1.symm))

/-- The rows before they are normalised, at one element. -/
theorem zrow_apply (c : Dev nD) (y : S512x4096.Idx) :
    zrow m c y = zref (m ((c.tc : Thread nD τ).loc main_arg0)) (m ((c.tc : Thread nD τ).loc main_arg1)) (m ((c.tc : Thread nD τ).loc main_arg2)) y := by
  have h2 : (y 1).val < 4096 := (y 1).isLt
  have e : (ptOf ((y 1).val / 256)).val = (y 1).val / 256 := by
    show (y 1).val / 256 % 16 = _; omega
  refine point m c _ _ y rfl ?_
  rw [e]
  show (y 1).val = (y 1).val / 256 * 256 + (y 1).val % 256
  omega

/-- The gain as the host lays it out. -/
theorem gain_laid (c : Dev nD) : V m c main_v0 = shapeCast S1x4096 (m ((c.tc : Thread nD τ).loc main_arg3)) shapeCasts_S4096_S1x4096 := by
  unfold V
  simp only [hostOps0, List.flatten_cons, List.flatten_nil, List.append_nil]
  after_results
  first | done | rfl

/-- A vector laid out as one row, at one element. -/
theorem laid_apply (g : FVec Ideal S4096 .f32) (q : Fin 4096) : shapeCast S1x4096 g shapeCasts_S4096_S1x4096 (ix2 0 q) = g (ix1 q) := by
  pointwise

/-- The gain at one element. -/
theorem gain_apply (c : Dev nD) (t : Fin cfg0.N) (q : Fin 4096) : gainAt m c t (ix2 0 q) = m ((c.tc : Thread nD τ).loc main_arg3) (ix1 q) := by
  exact (block3 m c t q).trans ((congrFun (gain_laid m c) _).trans (laid_apply _ q))

/-- The normalised rows are the reference's. -/
theorem rows_eq (c : Dev nD) (t : Fin cfg0.N) (y j : S512x4096.Idx) (h0 : (j 0).val = (y 0).val) (h1 : (j 1).val = (y 1).val) :
    normed (gainAt m c t) (zrow m c) y = REF (m ((c.tc : Thread nD τ).loc main_arg0)) (m ((c.tc : Thread nD τ).loc main_arg1))
      (m ((c.tc : Thread nD τ).loc main_arg2)) (m ((c.tc : Thread nD τ).loc main_arg3)) j := by
  obtain rfl : j = y := funext (Fin.forall_fin_two.mpr ⟨Fin.ext h0, Fin.ext h1⟩)
  refine (normed_apply _ _ _).trans ?_
  rw [ref_apply, show zrow m c = _ from funext (zrow_apply m c)]
  exact congrArg (nrm _ _) (gain_apply m c t _)

/-- The first result's array at the end is the reference's result. -/
theorem final (c : Dev nD) (r : PUnit × MemSt nD τ sig (Elt Ideal)) (h : Pipeline.RDat.FramePost cfg0 (rdat m) (V m) r) :
    r.2.mem ((c.tc : Thread nD τ).loc main_v1_0) = REF (m ((c.tc : Thread nD τ).loc main_arg0)) (m ((c.tc : Thread nD τ).loc main_arg1))
      (m ((c.tc : Thread nD τ).loc main_arg2)) (m ((c.tc : Thread nD τ).loc main_arg3)) := by
  obtain ⟨after, hL, hA⟩ := Pipeline.RDat.FramePost.exists_exact h c
  refine (hA 4).trans ?_
  refine ((rdat m c).withAfter after).arrAt_eq_of_covers 4 _ (by decide +kernel) fun t hf y => ?_
  have h16 : t.val < 16 := t.isLt
  have h3 : t.val = 15 := by have := (flush0_4 t).mp hf; omega
  have hD : Done m c t (after 4 t) := (dats m 0 c).toRRel_leaves (fgt := byPred) (Rl := Rl m c) (w := 4) rfl (hL 4 t hf)
  unfold Done at hD
  rw [if_pos h3] at hD
  refine (congrFun hD y).trans (rows_eq m c t y _ ?_ ?_) <;> blk_simp [idx t]

/-- Every execution ends with the reference's result, the arguments as they were. -/
theorem run_results : θ_run defs (onTc (τ := τ) (main (F := Ideal))) ⟨m, fun _ => 0, ρ⟩ (fun r => ∀ c : Dev nD,
      r.2.mem ((c.tc : Thread nD τ).loc main_v1_0) = REF (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨final m c r h.1, args_kept m r h.1 c⟩) (run_main_quiescent m ρ)

end Cert.OutSampleIdeal.Hand

namespace Cert.OutSampleClaims

open Idealize.ShloMosaic Idealize.SL.Sem

/-- The sample's output projection: the reference runs to its end, its arguments unchanged; it declares no semaphore. -/
theorem reference_frame : Cert.quiescent_OutSampleReferenceIdeal := fun m g _ =>
  (θ_run Cert.OutSampleReferenceIdeal.defs _ _).mono (fun r h => ⟨fun c => (h c).2, sem_eq_zero_of_no_sems (by decide) r.2⟩)
    (Cert.OutSampleReferenceIdeal.Value.run (F := Ideal) m g)

/-- The sample's output projection: the result and the reference's are the same array over the extended reals. -/
theorem equal : Cert.algebraic_OutSampleIdeal_OutSampleReferenceIdeal := fun m g m' g' _ hargs =>
  ⟨fun c => Cert.OutSampleReferenceIdeal.Value.REF (m ((c.tc : Thread Cert.OutSampleIdeal.nD Cert.OutSampleIdeal.τ).loc Cert.OutSampleIdeal.main_arg0)) (m ((c.tc : Thread Cert.OutSampleIdeal.nD Cert.OutSampleIdeal.τ).loc Cert.OutSampleIdeal.main_arg1)) (m ((c.tc : Thread Cert.OutSampleIdeal.nD Cert.OutSampleIdeal.τ).loc Cert.OutSampleIdeal.main_arg2)) (m ((c.tc : Thread Cert.OutSampleIdeal.nD Cert.OutSampleIdeal.τ).loc Cert.OutSampleIdeal.main_arg3)),
    Cert.OutSampleIdeal.Hand.run_results m g,
    (θ_run Cert.OutSampleReferenceIdeal.defs _ _).mono
      (fun _ h c => ⟨(h c).1.trans (by rw [(hargs c).1, (hargs c).2.1, (hargs c).2.2.1, (hargs c).2.2.2]), (h c).2⟩)
      (Cert.OutSampleReferenceIdeal.Value.run (F := Ideal) m' g')⟩

end Cert.OutSampleClaims

end
-- ==== Proof.OutSampleFloat.lean ====
/- The sample's output projection: the frame over every float semantics. -/
module

public import proofs.«01_k».proof.Proof.Gen.OutSample.Frame
public import proofs.«01_k».proof.Proof.Gen.OutSample.Loops
public import Idealize.ShloMosaic.Lib.Claim

@[expose] public section

set_option maxRecDepth 16384

noncomputable section

namespace Cert.OutSample.Hand

open Cert.OutSample.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Which of the body's branches a point takes: the tile's own, and at the last point the row loop. -/
theorem conds : ∀ t : Fin grid0.N,
    (k0_cond1 (grid0.coords t) = 1#1 ↔ t.val = 0)
    ∧ (k0_cond2 (grid0.coords t) = 1#1 ↔ t.val = 1)
    ∧ (k0_cond3 (grid0.coords t) = 1#1 ↔ t.val = 2)
    ∧ (k0_cond4 (grid0.coords t) = 1#1 ↔ t.val = 3)
    ∧ (k0_cond5 (grid0.coords t) = 1#1 ↔ t.val = 4)
    ∧ (k0_cond6 (grid0.coords t) = 1#1 ↔ t.val = 5)
    ∧ (k0_cond7 (grid0.coords t) = 1#1 ↔ t.val = 6)
    ∧ (k0_cond8 (grid0.coords t) = 1#1 ↔ t.val = 7)
    ∧ (k0_cond9 (grid0.coords t) = 1#1 ↔ t.val = 8)
    ∧ (k0_cond10 (grid0.coords t) = 1#1 ↔ t.val = 9)
    ∧ (k0_cond11 (grid0.coords t) = 1#1 ↔ t.val = 10)
    ∧ (k0_cond12 (grid0.coords t) = 1#1 ↔ t.val = 11)
    ∧ (k0_cond13 (grid0.coords t) = 1#1 ↔ t.val = 12)
    ∧ (k0_cond14 (grid0.coords t) = 1#1 ↔ t.val = 13)
    ∧ (k0_cond15 (grid0.coords t) = 1#1 ↔ t.val = 14)
    ∧ (k0_cond16 (grid0.coords t) = 1#1 ↔ t.val = 15)
    ∧ (k0_cond17 (grid0.coords t) = 1#1 ↔ t.val = 15) := by
  decide +kernel

set_option maxHeartbeats 64000000 in
/-- The body at any point runs to its end, its inputs as it found them, the results' blocks at some contents. -/
theorem run (c : Dev nD) (t : Fin grid0.N) (arg2 : Memref sig .tc .vmem S512x4096 .bf16) (harg2 : arg2.IsWhole) (arg3 : Memref sig .tc .vmem S4096x256 .f32) (harg3 : arg3.IsWhole) (arg4 : Memref sig .tc .vmem S512x256 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S4096x256 .bf16) (harg7 : arg7.IsWhole)
    (x0 : Vec F S512x4096 .bf16) (x1 : Vec F S4096x256 .f32) (x2 : Vec F S512x256 .f32) (x3 : Vec F S1x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ Y, owns (c : Thread nD τ) arg6 fullShare Y) ∗ (∃ Y, owns (c : Thread nD τ) arg7 fullShare Y)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ (∃ Y, owns (c : Thread nD τ) arg6 fullShare Y) ∗ (∃ Y, owns (c : Thread nD τ) arg7 fullShare Y)) -∗ K ⟨⟩))
      ⊢ wp frame (wpE (defs₀ (F := F)) Variants.none c none) E (cc0_out_proj (grid0.coords t) arg2 harg2 arg3 harg3 arg4 harg4 arg5 harg5 arg6 harg6 arg7 harg7) K := by
  obtain ⟨e1, e2, e3, e4, e5, e6, e7, e8, e9, e10, e11, e12, e13, e14, e15, e16, e17⟩ := conds t
  have ht : t.val < 16 := t.isLt
  have hjs : t.val = 0 ∨ t.val = 1 ∨ t.val = 2 ∨ t.val = 3 ∨ t.val = 4 ∨ t.val = 5 ∨ t.val = 6 ∨ t.val = 7 ∨ t.val = 8 ∨ t.val = 9 ∨ t.val = 10 ∨ t.val = 11 ∨ t.val = 12 ∨ t.val = 13 ∨ t.val = 14 ∨ t.val = 15 := by omega
  simp only [cc0_out_proj_eq_skeleton]; unfold cc0_out_proj_skel
  simp only [k0_part1_eq_skeleton, k0_part2_eq_skeleton]
  unfold k0_part1_skel k0_part2_skel
  simp only [owns]
  iintro ⟨⟨%f2, %hf2, H2⟩, ⟨%f3, %hf3, H3⟩, ⟨%f4, %hf4, H4⟩, ⟨%f5, %hf5, H5⟩, ⟨%Y, %f6, %hf6, H6⟩, ⟨%Z, %f7, %hf7, H7⟩, Hk⟩
  rcases hjs with hj | hj | hj | hj | hj | hj | hj | hj | hj | hj | hj | hj | hj | hj | hj | hj
  all_goals
    simp only [hj, Nat.reduceEqDiff, eq_self, iff_true, iff_false] at e1 e2 e3 e4 e5 e6 e7 e8 e9 e10 e11 e12 e13 e14 e15 e16 e17
    sl_exec (disch := first | sl_exact e1 | sl_exact e2 | sl_exact e3 | sl_exact e4 | sl_exact e5 | sl_exact e6 | sl_exact e7 | sl_exact e8 | sl_exact e9 | sl_exact e10 | sl_exact e11 | sl_exact e12 | sl_exact e13 | sl_exact e14 | sl_exact e15 | sl_exact e16 | sl_exact e17)
    sl_step
    iapply Hk
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; iexists _; isplitr; swap; (· iexact H6); ipureintro; rfl
    iexists _; iexists _; isplitr; swap; (· iexact H7); ipureintro; rfl

/-- The pipeline on core `c`: the arrays as the call finds them, each input's block left in place, the results' not said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨_ + 6, h⟩ => absurd h (Nat.not_lt.2 (Nat.le_add_left _ _))
  Φ _ := Pipeline.ΦA spec0 c
  q _ := fullShare
  owed _ := 0

/-- The windows of which nothing is said: the results'. -/
def unsaid : Fin cfg0.W → Bool := fun w => decide (4 ≤ w.val)

/-- The arrays are those the call finds. -/
theorem A_eq (c : Dev nD) (w : Fin cfg0.W) : (dats m 0 c).A w = V m c (Pipeline.arrRef spec0 w) := by
  dsimp only [dats]

/-- At every point each input's buffer holds its block. -/
theorem before_inputs (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ ∀ d, (dats m 0 c).before 3 t d = iblk m c 3 t :=
  ⟨before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t⟩

/-- What the body is called with, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d))
    ∗ (∃ d, owns (c : Thread nD τ) (st0_1 t) fullShare ((dats m 0 c).before 1 t d)) ∗ (∃ d, owns (c : Thread nD τ) (st0_2 t) fullShare ((dats m 0 c).before 2 t d))
    ∗ (∃ d, owns (c : Thread nD τ) (st0_3 t) fullShare ((dats m 0 c).before 3 t d))
    ∗ (∃ Y, owns (c : Thread nD τ) (st0_4 t) fullShare Y) ∗ (∃ Y, owns (c : Thread nD τ) (st0_5 t) fullShare Y))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare (iblk m c 0 t)
    ∗ owns (c : Thread nD τ) (st0_1 t) fullShare (iblk m c 1 t) ∗ owns (c : Thread nD τ) (st0_2 t) fullShare (iblk m c 2 t)
    ∗ owns (c : Thread nD τ) (st0_3 t) fullShare (iblk m c 3 t)
    ∗ (∃ Y, owns (c : Thread nD τ) (st0_4 t) fullShare Y) ∗ (∃ Y, owns (c : Thread nD τ) (st0_5 t) fullShare Y))

set_option maxHeartbeats 3200000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3⟩ := before_inputs m c t
  unfold bodyPre bodyPost bodyAt0
  simp only [b0, b1, b2, b3]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, H4, H5⟩
  iapply (run c t _ _ _ _ _ _ _ _ _ _ _ _ (iblk m c 0 t) (iblk m c 1 t) (iblk m c 2 t) (iblk m c 3 t) _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body as spelt there. -/
theorem defs_row (t : Fin cfg0.N) : defs₀ (F := F) .tc cfg0.body (cfg0.bodyArgs t (cfg0.slots t)) = bodyAt0 t := by
  unfold defs₀; rw [Defs.onTc_tc]

set_option maxHeartbeats 3200000 in
/-- The pipeline's demand on the body, at every point. -/
theorem body_obligation (c : Dev nD) : BodyObligation (dats (F := F) m 0 c) (defs₀ (F := F)) Variants.none () Set.univ unsaid := fun t => by
  rw [bigSep_W0, bigSep_W0, defs_row]
  exact triple_restated (sound_body m c t) rfl .rfl fun _ => .rfl

set_option backward.isDefEq.respectTransparency.types false in
set_option maxHeartbeats 3200000 in
/-- Every execution ends, with the arrays as the pipeline leaves them and every semaphore at zero. -/
theorem run_main_quiescent : θ_run defs (onTc (τ := τ) (main (F := F))) (s₀ m ρ)
    (fun r => Pipeline.RDat.FramePost cfg0 (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (body_obligation m c).loose) (hshare := fun _ w => by show ite _ _ _ = _; split <;> rfl)
    (howed := fun _ _ => rfl) (V := V m) (hmain := hmain m Variants.none) (hA := A_eq m) (hΦ := fun _ _ => rfl)

/-- The frame: every execution ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(Pipeline.RDat.FramePost.arr_in h.1 c 0 rfl).trans ((A_eq m c 0).trans (V_main_arg0 m c)),
    (Pipeline.RDat.FramePost.arr_in h.1 c 1 rfl).trans ((A_eq m c 1).trans (V_main_arg1 m c)),
    (Pipeline.RDat.FramePost.arr_in h.1 c 2 rfl).trans ((A_eq m c 2).trans (V_main_arg2 m c)),
    ((h.1 c).2 main_arg3 (Pipeline.mem_restRefs_of main_arg3 (by decide) (by decide))).trans (V_main_arg3 m c)⟩, h.2⟩) (run_main_quiescent m ρ)

end Cert.OutSample.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_pages_in_pool
public import proofs.«01_k».proof.Proof.Frame
public import proofs.«01_k».proof.Proof.IFrame
public import proofs.«01_k».proof.Proof.PageBound
public import proofs.«01_k».proof.Proof.IPageBound
public import proofs.«01_k».proof.Proof.IRestArray
public import proofs.«01_k».proof.Proof.ProjPrompt
public import proofs.«01_k».proof.Proof.KeysSample
public import proofs.«01_k».proof.Proof.ValuesSample
public import proofs.«01_k».proof.Proof.MergePrompt
public import proofs.«01_k».proof.Proof.ConvPrompt
public import proofs.«01_k».proof.Proof.ConvSample
public import proofs.«01_k».proof.Proof.Gen.OutPrompt
public import proofs.«01_k».proof.Proof.Gen.OutPrompt.Frame
public import proofs.«01_k».proof.Proof.Gen.OutPromptIdeal
public import proofs.«01_k».proof.Proof.Gen.OutPromptIdeal.Frame
public import proofs.«01_k».proof.Proof.Gen.OutPromptReferenceIdeal
public import proofs.«01_k».proof.Proof.Gen.OutPromptReferenceIdeal.Run
public import proofs.«01_k».proof.Proof.Gen.OutPrompt.Skeleton
public import proofs.«01_k».proof.Proof.Gen.OutPrompt.Loops
public import proofs.«01_k».proof.Proof.Gen.OutPromptIdeal.Skeleton
public import proofs.«01_k».proof.Proof.Gen.OutPromptIdeal.Loops
public import proofs.«01_k».proof.Proof.Gen.OutSample
public import proofs.«01_k».proof.Proof.Gen.OutSample.Frame
public import proofs.«01_k».proof.Proof.Gen.OutSample.Skeleton
public import proofs.«01_k».proof.Proof.Gen.OutSample.Loops
public import proofs.«01_k».proof.Proof.Gen.OutSampleIdeal
public import proofs.«01_k».proof.Proof.Gen.OutSampleIdeal.Frame
public import proofs.«01_k».proof.Proof.Gen.OutSampleIdeal.Skeleton
public import proofs.«01_k».proof.Proof.Gen.OutSampleIdeal.Loops
public import proofs.«01_k».proof.Proof.Gen.OutSampleReferenceIdeal
public import proofs.«01_k».proof.Proof.Gen.OutSampleReferenceIdeal.Run
public import proofs.«01_k».proof.Proof.OutPrompt
public import proofs.«01_k».proof.Proof.OutPromptFloat
public import proofs.«01_k».proof.Proof.OutSample
public import proofs.«01_k».proof.Proof.OutSampleFloat
public import Idealize.ShloMosaic.Adequacy
public import Idealize.ShloMosaic.Init

@[expose] public section

noncomputable section

namespace Cert.Proof

open Idealize.ShloMosaic Idealize.SL.Sem Cert.Kernel

/-- The reference runs to its end, its arguments unchanged; it declares no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The call's result and the reference's are the same product over the extended reals. -/
theorem rest_equal : Cert.algebraic_KernelIdeal_ReferenceIdeal := fun m g m' g' hpre hargs =>
  ⟨fun c => Cert.KernelIdeal.Hand.REF (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h => h.1) (Cert.KernelIdeal.Hand.run_other m g (Cert.KernelIdeal.Hand.ok_of_pre m hpre)),
    (θ_run Cert.ReferenceIdeal.defs _ _).mono
      (fun _ h c => ⟨(h c).1.trans (congrArg₂ Cert.KernelIdeal.Hand.REF (hargs c).2.1 (hargs c).2.2.1), (h c).2⟩)
      (Cert.ReferenceIdeal.Value.run (F := Ideal) m' g')⟩

/-- All claims of the certificate, call by call. -/
theorem claim : Cert.Claim := ⟨
  Cert.Kernel.Gen.facts, Cert.KernelIdeal.Gen.facts, Cert.ReferenceIdeal.Gen.facts, Cert.ProjPrompt.Gen.facts,
  Cert.ProjPromptIdeal.Gen.facts, Cert.ProjPromptReferenceIdeal.Gen.facts, Cert.KeysSample.Gen.facts,
  Cert.KeysSampleIdeal.Gen.facts, Cert.KeysSampleReferenceIdeal.Gen.facts, Cert.ValuesSample.Gen.facts,
  Cert.ValuesSampleIdeal.Gen.facts, Cert.ValuesSampleReferenceIdeal.Gen.facts, Cert.MergePrompt.Gen.facts,
  Cert.MergePromptIdeal.Gen.facts, Cert.MergePromptReferenceIdeal.Gen.facts, Cert.ConvPrompt.Gen.facts,
  Cert.ConvPromptIdeal.Gen.facts, Cert.ConvPromptReferenceIdeal.Gen.facts, Cert.ConvSample.Gen.facts,
  Cert.ConvSampleIdeal.Gen.facts, Cert.ConvSampleReferenceIdeal.Gen.facts, Cert.OutPrompt.Gen.facts,
  Cert.OutPromptIdeal.Gen.facts, Cert.OutPromptReferenceIdeal.Gen.facts, Cert.OutSample.Gen.facts,
  Cert.OutSampleIdeal.Gen.facts, Cert.OutSampleReferenceIdeal.Gen.facts, Cert.Pre_pages_in_pool.Gen.facts,
  fun m g hpre => Cert.Kernel.Hand.frame m g (Cert.Kernel.Hand.ok_of_pre m hpre),
  fun m g hpre => Cert.KernelIdeal.Hand.frame m g (Cert.KernelIdeal.Hand.ok_of_pre m hpre), reference_frame,
  fun m g _ => reference_frame m g trivial, fun m g _ => Cert.ProjPrompt.Gen.frame m g,
  fun m g _ => Cert.ProjPromptIdeal.Gen.frame m g, Cert.ProjPromptClaims.reference_frame,
  fun m g _ => Cert.KeysSample.Gen.frame m g, fun m g _ => Cert.KeysSampleIdeal.Gen.frame m g,
  Cert.KeysSampleClaims.reference_frame, fun m g _ => Cert.ValuesSample.Gen.frame m g,
  fun m g _ => Cert.ValuesSampleIdeal.Gen.frame m g, Cert.ValuesSampleClaims.reference_frame,
  fun m g _ => Cert.MergePrompt.Gen.frame m g, fun m g _ => Cert.MergePromptIdeal.Gen.frame m g,
  Cert.MergePromptClaims.reference_frame, fun m g _ => Cert.ConvPrompt.Gen.frame m g,
  fun m g _ => Cert.ConvPromptIdeal.Gen.frame m g, Cert.ConvPromptClaims.reference_frame,
  fun m g _ => Cert.ConvSample.Gen.frame m g, fun m g _ => Cert.ConvSampleIdeal.Gen.frame m g,
  Cert.ConvSampleClaims.reference_frame, fun m g _ => Cert.OutPrompt.Hand.frame m g,
  fun m g _ => Cert.OutPromptIdeal.Hand.frame m g, Cert.OutPromptClaims.reference_frame,
  fun m g _ => Cert.OutSample.Hand.frame m g, fun m g _ => Cert.OutSampleIdeal.Hand.frame m g,
  Cert.OutSampleClaims.reference_frame, trivial, rest_equal, trivial, Cert.ProjPromptClaims.equal, trivial,
  Cert.KeysSampleClaims.equal, trivial, Cert.ValuesSampleClaims.equal, trivial, Cert.MergePromptClaims.equal, trivial,
  Cert.ConvPromptClaims.equal, trivial, Cert.ConvSampleClaims.equal, trivial, Cert.OutPromptClaims.equal, trivial,
  Cert.OutSampleClaims.equal⟩

end Cert.Proof

end
